-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S64x4096x66 : Shape := ⟨3, ![64, 4096, 66]⟩
abbrev S64x4096 : Shape := ⟨2, ![64, 4096]⟩
abbrev S64 : Shape := ⟨1, ![64]⟩
abbrev S5x66 : Shape := ⟨2, ![5, 66]⟩
abbrev S_ : Shape := ⟨0, ![]⟩

class Facts : Prop where
  bcast_S_S64x4096x66 : S_.BroadcastsInDim S64x4096x66 (![] : Fin 0 → Fin S64x4096x66.rank)
  bcast_S_S64x4096 : S_.BroadcastsInDim S64x4096 (![] : Fin 0 → Fin S64x4096.rank)
  bcast_S_S64 : S_.BroadcastsInDim S64 (![] : Fin 0 → Fin S64.rank)

variable [Facts]

def fn {F : FTy → Type} [FloatOps F] (main_arg0 : FVec F S64x4096x66 .f32) (main_arg1 : IVec S64x4096 32) (main_arg2 : IVec S64x4096 32) (main_arg3 : IVec S64 32) (main_arg4 : IVec S64x4096 1) (main_arg5 : FVec F S5x66 .f32) (main_arg6 : FVec F S5x66 .f32) : IVec S64x4096x66 1 × IVec S64x4096 1 × IVec S64 1 :=
  let main_v0 : FVec F S64x4096x66 .f32 := Host.absf main_arg0
  let main_cst : FVec F S_ .f32 := constant S_ .f32 0x7F800000#32
  let main_v1 : FVec F S64x4096x66 .f32 := broadcastInDim S64x4096x66 ![] bcast_S_S64x4096x66 main_cst
  let main_v2 : IVec S64x4096x66 1 := cmpf .olt main_v0 main_v1
  let main_c : IVec S_ 32 := constantI S_ 32 0#32
  let main_v3 : IVec S64x4096 32 := broadcastInDim S64x4096 ![] bcast_S_S64x4096 main_c
  let main_v4 : IVec S64x4096 1 := cmpi .sge main_arg1 main_v3
  let main_c_0 : IVec S_ 32 := constantI S_ 32 66#32
  let main_v5 : IVec S64x4096 32 := broadcastInDim S64x4096 ![] bcast_S_S64x4096 main_c_0
  let main_v6 : IVec S64x4096 1 := cmpi .slt main_arg1 main_v5
  let main_v7 : IVec S64x4096 1 := andi main_v4 main_v6
  let main_c_1 : IVec S_ 32 := constantI S_ 32 0#32
  let main_v8 : IVec S64 32 := broadcastInDim S64 ![] bcast_S_S64 main_c_1
  let main_v9 : IVec S64 1 := cmpi .sge main_arg3 main_v8
  let main_c_2 : IVec S_ 32 := constantI S_ 32 5#32
  let main_v10 : IVec S64 32 := broadcastInDim S64 ![] bcast_S_S64 main_c_2
  let main_v11 : IVec S64 1 := cmpi .slt main_arg3 main_v10
  let main_v12 : IVec S64 1 := andi main_v9 main_v11
  (main_v2, main_v7, main_v12)
-- ==== Kernel.lean ====
abbrev S64x4096x66 : Shape := ⟨3, ![64, 4096, 66]⟩
abbrev S64x4096 : Shape := ⟨2, ![64, 4096]⟩
abbrev S64 : Shape := ⟨1, ![64]⟩
abbrev S5x66 : Shape := ⟨2, ![5, 66]⟩
abbrev S66x66 : Shape := ⟨2, ![66, 66]⟩
abbrev S1x66 : Shape := ⟨2, ![1, 66]⟩
abbrev S64x1 : Shape := ⟨2, ![64, 1]⟩
abbrev S1x5 : Shape := ⟨2, ![1, 5]⟩
abbrev S64x5 : Shape := ⟨2, ![64, 5]⟩
abbrev S64x1x4096 : Shape := ⟨3, ![64, 1, 4096]⟩
abbrev S1x1 : Shape := ⟨2, ![1, 1]⟩
abbrev S1x512x66 : Shape := ⟨3, ![1, 512, 66]⟩
abbrev S1x1x512 : Shape := ⟨3, ![1, 1, 512]⟩
abbrev S64x66 : Shape := ⟨2, ![64, 66]⟩
abbrev S2 : Shape := ⟨1, ![2]⟩
abbrev S1 : Shape := ⟨1, ![1]⟩
abbrev S512x66 : Shape := ⟨2, ![512, 66]⟩
abbrev S512 : Shape := ⟨1, ![512]⟩
abbrev S512x1 : Shape := ⟨2, ![512, 1]⟩
abbrev S1x512 : Shape := ⟨2, ![1, 512]⟩
abbrev S66 : Shape := ⟨1, ![66]⟩
abbrev S1x64 : Shape := ⟨2, ![1, 64]⟩

abbrev nBuf : Space → Nat
  | .hbm => 20
  | .vmem => 15
  | .smem => 1
  | _ => 0

abbrev bufTy : (tb : Table) → Fin (tcTables nBuf tb) → BufTy
  | .hbm, ⟨0, _⟩ => ⟨S64x4096x66, .f32⟩
  | .hbm, ⟨1, _⟩ => ⟨S64x4096, .i32⟩
  | .hbm, ⟨2, _⟩ => ⟨S64x4096, .i32⟩
  | .hbm, ⟨3, _⟩ => ⟨S64, .i32⟩
  | .hbm, ⟨4, _⟩ => ⟨S64x4096, .i1⟩
  | .hbm, ⟨5, _⟩ => ⟨S5x66, .f32⟩
  | .hbm, ⟨6, _⟩ => ⟨S5x66, .f32⟩
  | .hbm, ⟨7, _⟩ => ⟨S66x66, .f32⟩
  | .hbm, ⟨8, _⟩ => ⟨S1x66, .f32⟩
  | .hbm, ⟨9, _⟩ => ⟨S1x66, .f32⟩
  | .hbm, ⟨10, _⟩ => ⟨S64x1, .i32⟩
  | .hbm, ⟨11, _⟩ => ⟨S1x5, .i32⟩
  | .hbm, ⟨12, _⟩ => ⟨S64x5, .i32⟩
  | .hbm, ⟨13, _⟩ => ⟨S64x5, .i32⟩
  | .hbm, ⟨14, _⟩ => ⟨S64x5, .i1⟩
  | .hbm, ⟨15, _⟩ => ⟨S64x5, .f32⟩
  | .hbm, ⟨16, _⟩ => ⟨S64x1x4096, .i32⟩
  | .hbm, ⟨17, _⟩ => ⟨S64x4096, .f32⟩
  | .hbm, ⟨18, _⟩ => ⟨S64x1x4096, .f32⟩
  | .hbm, ⟨19, _⟩ => ⟨S1x1, .f32⟩
  | .local _ .vmem, ⟨0, _⟩ => ⟨S64x5, .f32⟩
  | .local _ .vmem, ⟨1, _⟩ => ⟨S5x66, .f32⟩
  | .local _ .vmem, ⟨2, _⟩ => ⟨S5x66, .f32⟩
  | .local _ .vmem, ⟨3, _⟩ => ⟨S66x66, .f32⟩
  | .local _ .vmem, ⟨4, _⟩ => ⟨S1x66, .f32⟩
  | .local _ .vmem, ⟨5, _⟩ => ⟨S1x66, .f32⟩
  | .local _ .vmem, ⟨6, _⟩ => ⟨S1x512x66, .f32⟩
  | .local _ .vmem, ⟨7, _⟩ => ⟨S1x512x66, .f32⟩
  | .local _ .vmem, ⟨8, _⟩ => ⟨S1x1x512, .i32⟩
  | .local _ .vmem, ⟨9, _⟩ => ⟨S1x1x512, .i32⟩
  | .local _ .vmem, ⟨10, _⟩ => ⟨S1x1x512, .f32⟩
  | .local _ .vmem, ⟨11, _⟩ => ⟨S1x1x512, .f32⟩
  | .local _ .vmem, ⟨12, _⟩ => ⟨S1x1, .f32⟩
  | .local _ .vmem, ⟨13, _⟩ => ⟨S64x66, .f32⟩
  | .local _ .vmem, ⟨14, _⟩ => ⟨S64x66, .f32⟩
  | .local _ .smem, ⟨0, _⟩ => ⟨S2, .f32⟩
  | _, _ => ⟨S64x4096x66, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨2, ![64, 8], ![false, false]⟩

def k0_off1 (i : grid0.Coords) : Fin 2 → Nat :=
  let arg0 : BitVec 32 := BitVec.ofNat 32 (i 0).val
  let v65 : Index := Scalar.indexCast arg0
  let c0_20 : Index := 0#32
  ![v65.toNat, 0]
def k0_cond2 (i : grid0.Coords) : BitVec 1 :=
  let arg0 : BitVec 32 := BitVec.ofNat 32 (i 0).val
  let c63_i32 : BitVec 32 := 63#32
  let v83 : BitVec 1 := Scalar.cmpi .eq arg0 c63_i32
  let arg1 : BitVec 32 := BitVec.ofNat 32 (i 1).val
  let c7_i32 : BitVec 32 := 7#32
  let v84 : BitVec 1 := Scalar.cmpi .eq arg1 c7_i32
  let v85 : BitVec 1 := Scalar.andi v83 v84
  let v86 : BitVec 32 := Scalar.extui v85
  let c0_i32_26 : BitVec 32 := 0#32
  let v87 : BitVec 1 := Scalar.cmpi .ne v86 c0_i32_26
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S5x66 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5x66 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S66x66 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x66 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x66 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x66 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S64x4096x66 : Shape := ⟨3, ![64, 4096, 66]⟩
abbrev S64x4096 : Shape := ⟨2, ![64, 4096]⟩
abbrev S64 : Shape := ⟨1, ![64]⟩
abbrev S5x66 : Shape := ⟨2, ![5, 66]⟩
abbrev S66 : Shape := ⟨1, ![66]⟩
abbrev S_ : Shape := ⟨0, ![]⟩
abbrev S64x4096x1 : Shape := ⟨3, ![64, 4096, 1]⟩
abbrev S64x4096x1x1 : Shape := ⟨4, ![64, 4096, 1, 1]⟩
abbrev S1 : Shape := ⟨1, ![1]⟩
abbrev S1x1x1x1 : Shape := ⟨4, ![1, 1, 1, 1]⟩
abbrev S64x1 : Shape := ⟨2, ![64, 1]⟩
abbrev S64x4096x2 : Shape := ⟨3, ![64, 4096, 2]⟩
abbrev S1x1x1 : Shape := ⟨3, ![1, 1, 1]⟩
abbrev S64x66 : Shape := ⟨2, ![64, 66]⟩
abbrev S64x22 : Shape := ⟨2, ![64, 22]⟩
abbrev S66x1 : Shape := ⟨2, ![66, 1]⟩
abbrev S1x1 : Shape := ⟨2, ![1, 1]⟩
abbrev S1x66 : Shape := ⟨2, ![1, 66]⟩

abbrev nBuf : Space → Nat
  | .hbm => 417
  | .vmem => 0
  | .smem => 0
  | _ => 0

abbrev hbmTy0_0 (i : Nat) : BufTy := match i % 128 with
  | 0 => ⟨S64x4096x66, .f32⟩
  | 1 => ⟨S64x4096, .i32⟩
  | 2 => ⟨S64x4096, .i32⟩
  | 3 => ⟨S64, .i32⟩
  | 4 => ⟨S64x4096, .i1⟩
  | 5 => ⟨S5x66, .f32⟩
  | 6 => ⟨S5x66, .f32⟩
  | 7 => ⟨S66, .i32⟩
  | 8 => ⟨S66, .f32⟩
  | 9 => ⟨S64x4096x66, .i32⟩
  | 10 => ⟨S_, .f32⟩
  | 11 => ⟨S_, .i32⟩
  | 12 => ⟨S64x4096, .f32⟩
  | 13 => ⟨S64x4096, .i32⟩
  | 14 => ⟨S_, .f32⟩
  | 15 => ⟨S64x4096, .f32⟩
  | 16 => ⟨S_, .f32⟩
  | 17 => ⟨S64x4096, .f32⟩
  | 18 => ⟨S64x4096, .f32⟩
  | 19 => ⟨S64x4096x1, .f32⟩
  | 20 => ⟨S64x4096x66, .f32⟩
  | 21 => ⟨S64x4096x66, .f32⟩
  | 22 => ⟨S64x4096x66, .f32⟩
  | 23 => ⟨S_, .f32⟩
  | 24 => ⟨S64x4096, .f32⟩
  | 25 => ⟨S64x4096x1, .f32⟩
  | 26 => ⟨S64x4096x1, .f32⟩
  | 27 => ⟨S64x4096x66, .f32⟩
  | 28 => ⟨S64x4096x66, .f32⟩
  | 29 => ⟨S64x4096x1, .i32⟩
  | 30 => ⟨S_, .i32⟩
  | 31 => ⟨S64x4096x1, .i32⟩
  | 32 => ⟨S64x4096x1, .i1⟩
  | 33 => ⟨S_, .i32⟩
  | 34 => ⟨S64x4096x1, .i32⟩
  | 35 => ⟨S64x4096x1, .i32⟩
  | 36 => ⟨S64x4096x1, .i32⟩
  | 37 => ⟨S64x4096x1x1, .i32⟩
  | 38 => ⟨S1, .i32⟩
  | 39 => ⟨S_, .i32⟩
  | 40 => ⟨S64x4096x1x1, .i32⟩
  | 41 => ⟨S64x4096x1x1, .i1⟩
  | 42 => ⟨S1x1x1x1, .i32⟩
  | 43 => ⟨S64x4096x1x1, .i32⟩
  | 44 => ⟨S64x4096x1x1, .i1⟩
  | 45 => ⟨S64x4096x1x1, .i1⟩
  | 46 => ⟨S_, .i1⟩
  | 47 => ⟨S64x4096x1, .i1⟩
  | 48 => ⟨S64x4096x1, .f32⟩
  | 49 => ⟨S_, .f32⟩
  | 50 => ⟨S64x4096x1, .f32⟩
  | 51 => ⟨S64x4096x1, .f32⟩
  | 52 => ⟨S64x4096, .f32⟩
  | 53 => ⟨S64x4096, .f32⟩
  | 54 => ⟨S_, .i32⟩
  | 55 => ⟨S64x4096, .i32⟩
  | 56 => ⟨S64x4096, .i1⟩
  | 57 => ⟨S64x4096, .f32⟩
  | 58 => ⟨S64x4096, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S64x1, .i32⟩
  | 68 => ⟨S_, .i32⟩
  | 69 => ⟨S64x1, .i32⟩
  | 70 => ⟨S64x1, .i1⟩
  | 71 => ⟨S_, .i32⟩
  | 72 => ⟨S64x1, .i32⟩
  | 73 => ⟨S64x1, .i32⟩
  | 74 => ⟨S64x1, .i32⟩
  | 75 => ⟨S_, .i32⟩
  | 76 => ⟨S64x4096, .i32⟩
  | 77 => ⟨S64x4096, .i1⟩
  | 78 => ⟨S_, .i32⟩
  | 79 => ⟨S64x4096, .i32⟩
  | 80 => ⟨S64x4096, .i32⟩
  | 81 => ⟨S64x4096, .i32⟩
  | 82 => ⟨S64x4096, .i32⟩
  | 83 => ⟨S64x4096x1, .i32⟩
  | 84 => ⟨S64x4096x1, .i32⟩
  | 85 => ⟨S64x4096x2, .i32⟩
  | 86 => ⟨S64x4096, .f32⟩
  | 87 => ⟨S_, .f32⟩
  | 88 => ⟨S_, .f32⟩
  | 89 => ⟨S64x4096, .f32⟩
  | 90 => ⟨S64x4096, .f32⟩
  | 91 => ⟨S64x4096, .f32⟩
  | 92 => ⟨S64x4096, .f32⟩
  | 93 => ⟨S64x4096, .f32⟩
  | 94 => ⟨S_, .f32⟩
  | 95 => ⟨S64, .f32⟩
  | 96 => ⟨S_, .f32⟩
  | 97 => ⟨S64, .f32⟩
  | 98 => ⟨S_, .f32⟩
  | 99 => ⟨S_, .f32⟩
  | 100 => ⟨S64, .f32⟩
  | 101 => ⟨S64, .f32⟩
  | 102 => ⟨S64, .f32⟩
  | 103 => ⟨S64, .f32⟩
  | 104 => ⟨S64x1, .i32⟩
  | 105 => ⟨S_, .i32⟩
  | 106 => ⟨S64x1, .i32⟩
  | 107 => ⟨S64x1, .i1⟩
  | 108 => ⟨S_, .i32⟩
  | 109 => ⟨S64x1, .i32⟩
  | 110 => ⟨S64x1, .i32⟩
  | 111 => ⟨S64x1, .i32⟩
  | 112 => ⟨S_, .i32⟩
  | 113 => ⟨S64x4096, .i32⟩
  | 114 => ⟨S64x4096, .i1⟩
  | 115 => ⟨S_, .i32⟩
  | 116 => ⟨S64x4096, .i32⟩
  | 117 => ⟨S64x4096, .i32⟩
  | 118 => ⟨S64x4096, .i32⟩
  | 119 => ⟨S64x4096, .i32⟩
  | 120 => ⟨S64x4096x1, .i32⟩
  | 121 => ⟨S64x4096x1, .i32⟩
  | 122 => ⟨S64x4096x2, .i32⟩
  | 123 => ⟨S64x4096, .f32⟩
  | 124 => ⟨S_, .f32⟩
  | 125 => ⟨S_, .f32⟩
  | 126 => ⟨S64x4096, .f32⟩
  | 127 => ⟨S64x4096, .f32⟩
  | _ => ⟨S64x4096x66, .f32⟩

abbrev hbmTy0_1 (i : Nat) : BufTy := match i % 128 with
  | 0 => ⟨S64x4096, .f32⟩
  | 1 => ⟨S64x4096, .f32⟩
  | 2 => ⟨S64x4096, .f32⟩
  | 3 => ⟨S_, .f32⟩
  | 4 => ⟨S64, .f32⟩
  | 5 => ⟨S_, .f32⟩
  | 6 => ⟨S64, .f32⟩
  | 7 => ⟨S_, .f32⟩
  | 8 => ⟨S_, .f32⟩
  | 9 => ⟨S64, .f32⟩
  | 10 => ⟨S64, .f32⟩
  | 11 => ⟨S64, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S_, .f32⟩
  | 19 => ⟨S_, .f32⟩
  | 20 => ⟨S_, .f32⟩
  | 21 => ⟨S_, .i32⟩
  | 22 => ⟨S64x4096, .i32⟩
  | 23 => ⟨S64x4096, .i1⟩
  | 24 => ⟨S_, .i32⟩
  | 25 => ⟨S64x4096, .i32⟩
  | 26 => ⟨S64x4096, .i32⟩
  | 27 => ⟨S64x4096, .i32⟩
  | 28 => ⟨S64x4096x1, .i32⟩
  | 29 => ⟨S1, .i32⟩
  | 30 => ⟨S_, .i32⟩
  | 31 => ⟨S64x4096x1, .i32⟩
  | 32 => ⟨S64x4096x1, .i1⟩
  | 33 => ⟨S1x1x1, .i32⟩
  | 34 => ⟨S64x4096x1, .i32⟩
  | 35 => ⟨S64x4096x1, .i1⟩
  | 36 => ⟨S64x4096x1, .i1⟩
  | 37 => ⟨S_, .i1⟩
  | 38 => ⟨S64x4096, .i1⟩
  | 39 => ⟨S64x4096, .i32⟩
  | 40 => ⟨S_, .i32⟩
  | 41 => ⟨S64x4096, .i32⟩
  | 42 => ⟨S64x4096, .i32⟩
  | 43 => ⟨S_, .i32⟩
  | 44 => ⟨S64x4096, .i32⟩
  | 45 => ⟨S64x4096, .i1⟩
  | 46 => ⟨S64x4096, .i1⟩
  | 47 => ⟨S_, .i32⟩
  | 48 => ⟨S64x4096, .i32⟩
  | 49 => ⟨S64x4096, .i1⟩
  | 50 => ⟨S64x4096, .i1⟩
  | 51 => ⟨S64x4096, .f32⟩
  | 52 => ⟨S_, .f32⟩
  | 53 => ⟨S64x66, .f32⟩
  | 54 => ⟨S64, .i32⟩
  | 55 => ⟨S64x1, .i32⟩
  | 56 => ⟨S_, .i32⟩
  | 57 => ⟨S64x1, .i32⟩
  | 58 => ⟨S64x1, .i1⟩
  | 59 => ⟨S_, .i32⟩
  | 60 => ⟨S64x1, .i32⟩
  | 61 => ⟨S64x1, .i32⟩
  | 62 => ⟨S64x1, .i32⟩
  | 63 => ⟨S_, .i32⟩
  | 64 => ⟨S64x4096, .i32⟩
  | 65 => ⟨S64x4096, .i1⟩
  | 66 => ⟨S_, .i32⟩
  | 67 => ⟨S64x4096, .i32⟩
  | 68 => ⟨S64x4096, .i32⟩
  | 69 => ⟨S64x4096, .i32⟩
  | 70 => ⟨S64x4096, .i32⟩
  | 71 => ⟨S64x4096x1, .i32⟩
  | 72 => ⟨S64x4096x1, .i32⟩
  | 73 => ⟨S64x4096x2, .i32⟩
  | 74 => ⟨S64x66, .f32⟩
  | 75 => ⟨S_, .f32⟩
  | 76 => ⟨S64x22, .f32⟩
  | 77 => ⟨S_, .i32⟩
  | 78 => ⟨S66, .i32⟩
  | 79 => ⟨S66, .i1⟩
  | 80 => ⟨S_, .i32⟩
  | 81 => ⟨S66, .i32⟩
  | 82 => ⟨S66, .i32⟩
  | 83 => ⟨S66, .i32⟩
  | 84 => ⟨S66x1, .i32⟩
  | 85 => ⟨S64x22, .f32⟩
  | 86 => ⟨S_, .i32⟩
  | 87 => ⟨S66, .i32⟩
  | 88 => ⟨S66, .i1⟩
  | 89 => ⟨S_, .i32⟩
  | 90 => ⟨S66, .i32⟩
  | 91 => ⟨S66, .i32⟩
  | 92 => ⟨S66, .i32⟩
  | 93 => ⟨S66x1, .i32⟩
  | 94 => ⟨S1, .i32⟩
  | 95 => ⟨S_, .i32⟩
  | 96 => ⟨S66x1, .i32⟩
  | 97 => ⟨S66x1, .i1⟩
  | 98 => ⟨S1x1, .i32⟩
  | 99 => ⟨S66x1, .i32⟩
  | 100 => ⟨S66x1, .i1⟩
  | 101 => ⟨S66x1, .i1⟩
  | 102 => ⟨S_, .i1⟩
  | 103 => ⟨S66, .i1⟩
  | 104 => ⟨S64x66, .f32⟩
  | 105 => ⟨S64x66, .i1⟩
  | 106 => ⟨S_, .f32⟩
  | 107 => ⟨S64x66, .f32⟩
  | 108 => ⟨S64x66, .f32⟩
  | 109 => ⟨S_, .f32⟩
  | 110 => ⟨S64x66, .f32⟩
  | 111 => ⟨S64x66, .i1⟩
  | 112 => ⟨S1x66, .f32⟩
  | 113 => ⟨S64x66, .f32⟩
  | 114 => ⟨S64x66, .f32⟩
  | 115 => ⟨S_, .f32⟩
  | 116 => ⟨S64x66, .f32⟩
  | 117 => ⟨S64x66, .f32⟩
  | 118 => ⟨S64x66, .f32⟩
  | 119 => ⟨S_, .f32⟩
  | 120 => ⟨S_, .f32⟩
  | 121 => ⟨S64x66, .f32⟩
  | 122 => ⟨S64x66, .f32⟩
  | 123 => ⟨S_, .i32⟩
  | 124 => ⟨S64x4096, .i32⟩
  | 125 => ⟨S64x4096, .i1⟩
  | 126 => ⟨S_, .i32⟩
  | 127 => ⟨S64x4096, .i32⟩
  | _ => ⟨S64x4096x66, .f32⟩

abbrev hbmTy0_2 (i : Nat) : BufTy := match i % 128 with
  | 0 => ⟨S64x4096, .i32⟩
  | 1 => ⟨S64x4096, .i32⟩
  | 2 => ⟨S64x4096x1, .i32⟩
  | 3 => ⟨S1, .i32⟩
  | 4 => ⟨S_, .i32⟩
  | 5 => ⟨S64x4096x1, .i32⟩
  | 6 => ⟨S64x4096x1, .i1⟩
  | 7 => ⟨S1x1x1, .i32⟩
  | 8 => ⟨S64x4096x1, .i32⟩
  | 9 => ⟨S64x4096x1, .i1⟩
  | 10 => ⟨S64x4096x1, .i1⟩
  | 11 => ⟨S_, .i1⟩
  | 12 => ⟨S64x4096, .i1⟩
  | 13 => ⟨S64x4096, .i32⟩
  | 14 => ⟨S_, .i32⟩
  | 15 => ⟨S64x4096, .i32⟩
  | 16 => ⟨S64x4096, .i32⟩
  | 17 => ⟨S_, .i32⟩
  | 18 => ⟨S64x4096, .i32⟩
  | 19 => ⟨S64x4096, .i1⟩
  | 20 => ⟨S64x4096, .i1⟩
  | 21 => ⟨S_, .i32⟩
  | 22 => ⟨S64x4096, .i32⟩
  | 23 => ⟨S64x4096, .i1⟩
  | 24 => ⟨S64x4096, .i1⟩
  | 25 => ⟨S64x4096, .f32⟩
  | 26 => ⟨S_, .f32⟩
  | 27 => ⟨S64x66, .f32⟩
  | 28 => ⟨S64, .i32⟩
  | 29 => ⟨S64x1, .i32⟩
  | 30 => ⟨S_, .i32⟩
  | 31 => ⟨S64x1, .i32⟩
  | 32 => ⟨S64x1, .i1⟩
  | 33 => ⟨S_, .i32⟩
  | 34 => ⟨S64x1, .i32⟩
  | 35 => ⟨S64x1, .i32⟩
  | 36 => ⟨S64x1, .i32⟩
  | 37 => ⟨S_, .i32⟩
  | 38 => ⟨S64x4096, .i32⟩
  | 39 => ⟨S64x4096, .i1⟩
  | 40 => ⟨S_, .i32⟩
  | 41 => ⟨S64x4096, .i32⟩
  | 42 => ⟨S64x4096, .i32⟩
  | 43 => ⟨S64x4096, .i32⟩
  | 44 => ⟨S64x4096, .i32⟩
  | 45 => ⟨S64x4096x1, .i32⟩
  | 46 => ⟨S64x4096x1, .i32⟩
  | 47 => ⟨S64x4096x2, .i32⟩
  | 48 => ⟨S64x66, .f32⟩
  | 49 => ⟨S_, .f32⟩
  | 50 => ⟨S64x22, .f32⟩
  | 51 => ⟨S_, .i32⟩
  | 52 => ⟨S66, .i32⟩
  | 53 => ⟨S66, .i1⟩
  | 54 => ⟨S_, .i32⟩
  | 55 => ⟨S66, .i32⟩
  | 56 => ⟨S66, .i32⟩
  | 57 => ⟨S66, .i32⟩
  | 58 => ⟨S66x1, .i32⟩
  | 59 => ⟨S64x22, .f32⟩
  | 60 => ⟨S_, .i32⟩
  | 61 => ⟨S66, .i32⟩
  | 62 => ⟨S66, .i1⟩
  | 63 => ⟨S_, .i32⟩
  | 64 => ⟨S66, .i32⟩
  | 65 => ⟨S66, .i32⟩
  | 66 => ⟨S66, .i32⟩
  | 67 => ⟨S66x1, .i32⟩
  | 68 => ⟨S1, .i32⟩
  | 69 => ⟨S_, .i32⟩
  | 70 => ⟨S66x1, .i32⟩
  | 71 => ⟨S66x1, .i1⟩
  | 72 => ⟨S1x1, .i32⟩
  | 73 => ⟨S66x1, .i32⟩
  | 74 => ⟨S66x1, .i1⟩
  | 75 => ⟨S66x1, .i1⟩
  | 76 => ⟨S_, .i1⟩
  | 77 => ⟨S66, .i1⟩
  | 78 => ⟨S64x66, .f32⟩
  | 79 => ⟨S64x66, .i1⟩
  | 80 => ⟨S_, .f32⟩
  | 81 => ⟨S64x66, .f32⟩
  | 82 => ⟨S64x66, .f32⟩
  | 83 => ⟨S_, .f32⟩
  | 84 => ⟨S64x66, .f32⟩
  | 85 => ⟨S64x66, .i1⟩
  | 86 => ⟨S1x66, .f32⟩
  | 87 => ⟨S64x66, .f32⟩
  | 88 => ⟨S64x66, .f32⟩
  | 89 => ⟨S_, .f32⟩
  | 90 => ⟨S64x66, .f32⟩
  | 91 => ⟨S64x66, .f32⟩
  | 92 => ⟨S64x66, .f32⟩
  | 93 => ⟨S_, .f32⟩
  | 94 => ⟨S_, .f32⟩
  | 95 => ⟨S64x66, .f32⟩
  | 96 => ⟨S64x66, .f32⟩
  | 97 => ⟨S_, .i32⟩
  | 98 => ⟨S64, .i32⟩
  | 99 => ⟨S64, .i1⟩
  | 100 => ⟨S_, .i32⟩
  | 101 => ⟨S64, .i32⟩
  | 102 => ⟨S64, .i32⟩
  | 103 => ⟨S64, .i32⟩
  | 104 => ⟨S64x1, .i32⟩
  | 105 => ⟨S1, .i32⟩
  | 106 => ⟨S_, .i32⟩
  | 107 => ⟨S64x1, .i32⟩
  | 108 => ⟨S64x1, .i1⟩
  | 109 => ⟨S1x1, .i32⟩
  | 110 => ⟨S64x1, .i32⟩
  | 111 => ⟨S64x1, .i1⟩
  | 112 => ⟨S64x1, .i1⟩
  | 113 => ⟨S_, .i1⟩
  | 114 => ⟨S64, .i1⟩
  | 115 => ⟨S64x66, .f32⟩
  | 116 => ⟨S64x66, .i1⟩
  | 117 => ⟨S_, .f32⟩
  | 118 => ⟨S64x66, .f32⟩
  | 119 => ⟨S64x66, .f32⟩
  | 120 => ⟨S_, .f32⟩
  | 121 => ⟨S64x66, .f32⟩
  | 122 => ⟨S64x66, .f32⟩
  | 123 => ⟨S_, .f32⟩
  | 124 => ⟨S64x66, .f32⟩
  | 125 => ⟨S64x66, .f32⟩
  | 126 => ⟨S64x66, .f32⟩
  | 127 => ⟨S_, .f32⟩
  | _ => ⟨S64x4096x66, .f32⟩

abbrev hbmTy0_3 (i : Nat) : BufTy := match i % 128 with
  | 0 => ⟨S64x66, .f32⟩
  | 1 => ⟨S64x66, .f32⟩
  | 2 => ⟨S_, .f32⟩
  | 3 => ⟨S64x66, .f32⟩
  | 4 => ⟨S64x66, .f32⟩
  | 5 => ⟨S_, .f32⟩
  | 6 => ⟨S64, .f32⟩
  | 7 => ⟨S64x1, .f32⟩
  | 8 => ⟨S64x66, .f32⟩
  | 9 => ⟨S64x66, .f32⟩
  | 10 => ⟨S_, .f32⟩
  | 11 => ⟨S64, .f32⟩
  | 12 => ⟨S64x1, .f32⟩
  | 13 => ⟨S64x66, .f32⟩
  | 14 => ⟨S64x66, .f32⟩
  | 15 => ⟨S64x66, .f32⟩
  | 16 => ⟨S64x66, .f32⟩
  | 17 => ⟨S64x66, .f32⟩
  | 18 => ⟨S_, .f32⟩
  | 19 => ⟨S64, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1x1, .f32⟩
  | _ => ⟨S64x4096x66, .f32⟩

abbrev hbmTy (i : Nat) : BufTy := match i / 128 with
  | 0 => hbmTy0_0 i
  | 1 => hbmTy0_1 i
  | 2 => hbmTy0_2 i
  | 3 => hbmTy0_3 i
  | _ => ⟨S64x4096x66, .f32⟩

abbrev bufTy : (tb : Table) → Fin (tcTables nBuf tb) → BufTy
  | .hbm, ⟨i, _⟩ => hbmTy i
  | _, _ => ⟨S64x4096x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v0 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v1 : Ref sig .tc := ⟨.hbm, 28, rfl⟩
abbrev main_v2 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_c_0 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst_1 : Ref sig .tc := ⟨.hbm, 59, rfl⟩
abbrev main_v10 : Ref sig .tc := ⟨.hbm, 60, rfl⟩
abbrev main_cst_2 : Ref sig .tc := ⟨.hbm, 61, rfl⟩
abbrev main_v11 : Ref sig .tc := ⟨.hbm, 62, rfl⟩
abbrev main_cst_3 : Ref sig .tc := ⟨.hbm, 63, rfl⟩
abbrev main_call3_v0 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_c_4 : Ref sig .tc := ⟨.hbm, 68, rfl⟩
abbrev main_v15 : Ref sig .tc := ⟨.hbm, 69, rfl⟩
abbrev main_v16 : Ref sig .tc := ⟨.hbm, 70, rfl⟩
abbrev main_c_5 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_c_6 : Ref sig .tc := ⟨.hbm, 75, rfl⟩
abbrev main_v20 : Ref sig .tc := ⟨.hbm, 76, rfl⟩
abbrev main_v21 : Ref sig .tc := ⟨.hbm, 77, rfl⟩
abbrev main_c_7 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_cst_8 : Ref sig .tc := ⟨.hbm, 87, rfl⟩
abbrev main_call4_v0 : Ref sig .tc := ⟨.hbm, 88, rfl⟩
abbrev main_call4_v1 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_cst_9 : Ref sig .tc := ⟨.hbm, 94, rfl⟩
abbrev main_v34 : Ref sig .tc := ⟨.hbm, 95, rfl⟩
abbrev main_cst_10 : Ref sig .tc := ⟨.hbm, 96, rfl⟩
abbrev main_v35 : Ref sig .tc := ⟨.hbm, 97, rfl⟩
abbrev main_cst_11 : Ref sig .tc := ⟨.hbm, 98, rfl⟩
abbrev main_call5_v0 : Ref sig .tc := ⟨.hbm, 99, rfl⟩
abbrev main_call5_v1 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_c_12 : Ref sig .tc := ⟨.hbm, 105, rfl⟩
abbrev main_v40 : Ref sig .tc := ⟨.hbm, 106, rfl⟩
abbrev main_v41 : Ref sig .tc := ⟨.hbm, 107, rfl⟩
abbrev main_c_13 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_c_14 : Ref sig .tc := ⟨.hbm, 112, rfl⟩
abbrev main_v45 : Ref sig .tc := ⟨.hbm, 113, rfl⟩
abbrev main_v46 : Ref sig .tc := ⟨.hbm, 114, rfl⟩
abbrev main_c_15 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_16 : Ref sig .tc := ⟨.hbm, 124, rfl⟩
abbrev main_call6_v0 : Ref sig .tc := ⟨.hbm, 125, rfl⟩
abbrev main_call6_v1 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_17 : Ref sig .tc := ⟨.hbm, 131, rfl⟩
abbrev main_v59 : Ref sig .tc := ⟨.hbm, 132, rfl⟩
abbrev main_cst_18 : Ref sig .tc := ⟨.hbm, 133, rfl⟩
abbrev main_v60 : Ref sig .tc := ⟨.hbm, 134, rfl⟩
abbrev main_cst_19 : Ref sig .tc := ⟨.hbm, 135, rfl⟩
abbrev main_call7_v0 : Ref sig .tc := ⟨.hbm, 136, rfl⟩
abbrev main_call7_v1 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_call8_cst : Ref sig .tc := ⟨.hbm, 142, rfl⟩
abbrev main_call8_v0 : Ref sig .tc := ⟨.hbm, 143, rfl⟩
abbrev main_v65 : Ref sig .tc := ⟨.hbm, 144, rfl⟩
abbrev main_cst_20 : Ref sig .tc := ⟨.hbm, 145, rfl⟩
abbrev main_v66 : Ref sig .tc := ⟨.hbm, 146, rfl⟩
abbrev main_cst_21 : Ref sig .tc := ⟨.hbm, 147, rfl⟩
abbrev main_v67 : Ref sig .tc := ⟨.hbm, 148, rfl⟩
abbrev main_call9_c : Ref sig .tc := ⟨.hbm, 149, rfl⟩
abbrev main_call9_v0 : Ref sig .tc := ⟨.hbm, 150, rfl⟩
abbrev main_call9_v1 : Ref sig .tc := ⟨.hbm, 151, rfl⟩
abbrev main_call9_c_0 : Ref sig .tc := ⟨.hbm, 152, rfl⟩
abbrev main_call9_v2 : Ref sig .tc := ⟨.hbm, 153, rfl⟩
abbrev main_call9_v3 : Ref sig .tc := ⟨.hbm, 154, rfl⟩
abbrev main_call9_v4 : Ref sig .tc := ⟨.hbm, 155, rfl⟩
abbrev main_call9_v5 : Ref sig .tc := ⟨.hbm, 156, rfl⟩
abbrev main_call9_c_1 : Ref sig .tc := ⟨.hbm, 157, rfl⟩
abbrev main_call9_c_2 : Ref sig .tc := ⟨.hbm, 158, rfl⟩
abbrev main_call9_v6 : Ref sig .tc := ⟨.hbm, 159, rfl⟩
abbrev main_call9_v7 : Ref sig .tc := ⟨.hbm, 160, rfl⟩
abbrev main_call9_v8 : Ref sig .tc := ⟨.hbm, 161, rfl⟩
abbrev main_call9_v9 : Ref sig .tc := ⟨.hbm, 162, rfl⟩
abbrev main_call9_v10 : Ref sig .tc := ⟨.hbm, 163, rfl⟩
abbrev main_call9_v11 : Ref sig .tc := ⟨.hbm, 164, rfl⟩
abbrev main_call9_c_3 : Ref sig .tc := ⟨.hbm, 165, rfl⟩
abbrev main_call9_v12 : Ref sig .tc := ⟨.hbm, 166, rfl⟩
abbrev main_call9_v13 : Ref sig .tc := ⟨.hbm, 167, rfl⟩
abbrev main_call9_c_4 : Ref sig .tc := ⟨.hbm, 168, rfl⟩
abbrev main_call9_v14 : Ref sig .tc := ⟨.hbm, 169, rfl⟩
abbrev main_v68 : Ref sig .tc := ⟨.hbm, 170, rfl⟩
abbrev main_c_22 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_c_23 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_cst_24 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_c_25 : Ref sig .tc := ⟨.hbm, 184, rfl⟩
abbrev main_v79 : Ref sig .tc := ⟨.hbm, 185, rfl⟩
abbrev main_v80 : Ref sig .tc := ⟨.hbm, 186, rfl⟩
abbrev main_c_26 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_c_27 : Ref sig .tc := ⟨.hbm, 191, rfl⟩
abbrev main_v84 : Ref sig .tc := ⟨.hbm, 192, rfl⟩
abbrev main_v85 : Ref sig .tc := ⟨.hbm, 193, rfl⟩
abbrev main_c_28 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_cst_29 : Ref sig .tc := ⟨.hbm, 203, rfl⟩
abbrev main_v94 : Ref sig .tc := ⟨.hbm, 204, rfl⟩
abbrev main_c_30 : Ref sig .tc := ⟨.hbm, 205, rfl⟩
abbrev main_v95 : Ref sig .tc := ⟨.hbm, 206, rfl⟩
abbrev main_v96 : Ref sig .tc := ⟨.hbm, 207, rfl⟩
abbrev main_c_31 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_call10_c : Ref sig .tc := ⟨.hbm, 214, rfl⟩
abbrev main_call10_v0 : Ref sig .tc := ⟨.hbm, 215, rfl⟩
abbrev main_call10_v1 : Ref sig .tc := ⟨.hbm, 216, rfl⟩
abbrev main_call10_c_0 : Ref sig .tc := ⟨.hbm, 217, rfl⟩
abbrev main_call10_v2 : Ref sig .tc := ⟨.hbm, 218, rfl⟩
abbrev main_call10_v3 : Ref sig .tc := ⟨.hbm, 219, rfl⟩
abbrev main_call10_v4 : Ref sig .tc := ⟨.hbm, 220, rfl⟩
abbrev main_call10_v5 : Ref sig .tc := ⟨.hbm, 221, rfl⟩
abbrev main_call10_c_1 : Ref sig .tc := ⟨.hbm, 222, rfl⟩
abbrev main_call10_c_2 : Ref sig .tc := ⟨.hbm, 223, rfl⟩
abbrev main_call10_v6 : Ref sig .tc := ⟨.hbm, 224, rfl⟩
abbrev main_call10_v7 : Ref sig .tc := ⟨.hbm, 225, rfl⟩
abbrev main_call10_v8 : Ref sig .tc := ⟨.hbm, 226, rfl⟩
abbrev main_call10_v9 : Ref sig .tc := ⟨.hbm, 227, rfl⟩
abbrev main_call10_v10 : Ref sig .tc := ⟨.hbm, 228, rfl⟩
abbrev main_call10_v11 : Ref sig .tc := ⟨.hbm, 229, rfl⟩
abbrev main_call10_c_3 : Ref sig .tc := ⟨.hbm, 230, rfl⟩
abbrev main_call10_v12 : Ref sig .tc := ⟨.hbm, 231, rfl⟩
abbrev main_call10_v13 : Ref sig .tc := ⟨.hbm, 232, rfl⟩
abbrev main_call10_v14 : Ref sig .tc := ⟨.hbm, 233, rfl⟩
abbrev main_call10_cst : Ref sig .tc := ⟨.hbm, 234, rfl⟩
abbrev main_call10_v15 : Ref sig .tc := ⟨.hbm, 235, rfl⟩
abbrev main_v102 : Ref sig .tc := ⟨.hbm, 236, rfl⟩
abbrev main_cst_32 : Ref sig .tc := ⟨.hbm, 237, rfl⟩
abbrev main_v103 : Ref sig .tc := ⟨.hbm, 238, rfl⟩
abbrev main_v104 : Ref sig .tc := ⟨.hbm, 239, rfl⟩
abbrev main_v105 : Ref sig .tc := ⟨.hbm, 240, rfl⟩
abbrev main_v106 : Ref sig .tc := ⟨.hbm, 241, rfl⟩
abbrev main_v107 : Ref sig .tc := ⟨.hbm, 242, rfl⟩
abbrev main_cst_33 : Ref sig .tc := ⟨.hbm, 243, rfl⟩
abbrev main_v108 : Ref sig .tc := ⟨.hbm, 244, rfl⟩
abbrev main_v109 : Ref sig .tc := ⟨.hbm, 245, rfl⟩
abbrev main_v110 : Ref sig .tc := ⟨.hbm, 246, rfl⟩
abbrev main_cst_34 : Ref sig .tc := ⟨.hbm, 247, rfl⟩
abbrev main_call11_v0 : Ref sig .tc := ⟨.hbm, 248, rfl⟩
abbrev main_call11_v1 : Ref sig .tc := ⟨.hbm, 249, rfl⟩
abbrev main_v111 : Ref sig .tc := ⟨.hbm, 250, rfl⟩
abbrev main_call12_c : Ref sig .tc := ⟨.hbm, 251, rfl⟩
abbrev main_call12_v0 : Ref sig .tc := ⟨.hbm, 252, rfl⟩
abbrev main_call12_v1 : Ref sig .tc := ⟨.hbm, 253, rfl⟩
abbrev main_call12_c_0 : Ref sig .tc := ⟨.hbm, 254, rfl⟩
abbrev main_call12_v2 : Ref sig .tc := ⟨.hbm, 255, rfl⟩
abbrev main_call12_v3 : Ref sig .tc := ⟨.hbm, 256, rfl⟩
abbrev main_call12_v4 : Ref sig .tc := ⟨.hbm, 257, rfl⟩
abbrev main_call12_v5 : Ref sig .tc := ⟨.hbm, 258, rfl⟩
abbrev main_call12_c_1 : Ref sig .tc := ⟨.hbm, 259, rfl⟩
abbrev main_call12_c_2 : Ref sig .tc := ⟨.hbm, 260, rfl⟩
abbrev main_call12_v6 : Ref sig .tc := ⟨.hbm, 261, rfl⟩
abbrev main_call12_v7 : Ref sig .tc := ⟨.hbm, 262, rfl⟩
abbrev main_call12_v8 : Ref sig .tc := ⟨.hbm, 263, rfl⟩
abbrev main_call12_v9 : Ref sig .tc := ⟨.hbm, 264, rfl⟩
abbrev main_call12_v10 : Ref sig .tc := ⟨.hbm, 265, rfl⟩
abbrev main_call12_v11 : Ref sig .tc := ⟨.hbm, 266, rfl⟩
abbrev main_call12_c_3 : Ref sig .tc := ⟨.hbm, 267, rfl⟩
abbrev main_call12_v12 : Ref sig .tc := ⟨.hbm, 268, rfl⟩
abbrev main_call12_v13 : Ref sig .tc := ⟨.hbm, 269, rfl⟩
abbrev main_call12_c_4 : Ref sig .tc := ⟨.hbm, 270, rfl⟩
abbrev main_call12_v14 : Ref sig .tc := ⟨.hbm, 271, rfl⟩
abbrev main_v112 : Ref sig .tc := ⟨.hbm, 272, rfl⟩
abbrev main_c_35 : Ref sig .tc := ⟨.hbm, 273, rfl⟩
abbrev main_v113 : Ref sig .tc := ⟨.hbm, 274, rfl⟩
abbrev main_v114 : Ref sig .tc := ⟨.hbm, 275, rfl⟩
abbrev main_v115 : Ref sig .tc := ⟨.hbm, 276, rfl⟩
abbrev main_c_36 : Ref sig .tc := ⟨.hbm, 277, rfl⟩
abbrev main_v116 : Ref sig .tc := ⟨.hbm, 278, rfl⟩
abbrev main_v117 : Ref sig .tc := ⟨.hbm, 279, rfl⟩
abbrev main_v118 : Ref sig .tc := ⟨.hbm, 280, rfl⟩
abbrev main_v119 : Ref sig .tc := ⟨.hbm, 281, rfl⟩
abbrev main_cst_37 : Ref sig .tc := ⟨.hbm, 282, rfl⟩
abbrev main_v120 : Ref sig .tc := ⟨.hbm, 283, rfl⟩
abbrev main_v121 : Ref sig .tc := ⟨.hbm, 284, rfl⟩
abbrev main_v122 : Ref sig .tc := ⟨.hbm, 285, rfl⟩
abbrev main_c_38 : Ref sig .tc := ⟨.hbm, 286, rfl⟩
abbrev main_v123 : Ref sig .tc := ⟨.hbm, 287, rfl⟩
abbrev main_v124 : Ref sig .tc := ⟨.hbm, 288, rfl⟩
abbrev main_c_39 : Ref sig .tc := ⟨.hbm, 289, rfl⟩
abbrev main_v125 : Ref sig .tc := ⟨.hbm, 290, rfl⟩
abbrev main_v126 : Ref sig .tc := ⟨.hbm, 291, rfl⟩
abbrev main_v127 : Ref sig .tc := ⟨.hbm, 292, rfl⟩
abbrev main_c_40 : Ref sig .tc := ⟨.hbm, 293, rfl⟩
abbrev main_v128 : Ref sig .tc := ⟨.hbm, 294, rfl⟩
abbrev main_v129 : Ref sig .tc := ⟨.hbm, 295, rfl⟩
abbrev main_c_41 : Ref sig .tc := ⟨.hbm, 296, rfl⟩
abbrev main_v130 : Ref sig .tc := ⟨.hbm, 297, rfl⟩
abbrev main_v131 : Ref sig .tc := ⟨.hbm, 298, rfl⟩
abbrev main_v132 : Ref sig .tc := ⟨.hbm, 299, rfl⟩
abbrev main_v133 : Ref sig .tc := ⟨.hbm, 300, rfl⟩
abbrev main_v134 : Ref sig .tc := ⟨.hbm, 301, rfl⟩
abbrev main_v135 : Ref sig .tc := ⟨.hbm, 302, rfl⟩
abbrev main_v136 : Ref sig .tc := ⟨.hbm, 303, rfl⟩
abbrev main_v137 : Ref sig .tc := ⟨.hbm, 304, rfl⟩
abbrev main_cst_42 : Ref sig .tc := ⟨.hbm, 305, rfl⟩
abbrev main_v138 : Ref sig .tc := ⟨.hbm, 306, rfl⟩
abbrev main_c_43 : Ref sig .tc := ⟨.hbm, 307, rfl⟩
abbrev main_v139 : Ref sig .tc := ⟨.hbm, 308, rfl⟩
abbrev main_v140 : Ref sig .tc := ⟨.hbm, 309, rfl⟩
abbrev main_c_44 : Ref sig .tc := ⟨.hbm, 310, rfl⟩
abbrev main_v141 : Ref sig .tc := ⟨.hbm, 311, rfl⟩
abbrev main_v142 : Ref sig .tc := ⟨.hbm, 312, rfl⟩
abbrev main_v143 : Ref sig .tc := ⟨.hbm, 313, rfl⟩
abbrev main_v144 : Ref sig .tc := ⟨.hbm, 314, rfl⟩
abbrev main_v145 : Ref sig .tc := ⟨.hbm, 315, rfl⟩
abbrev main_call13_c : Ref sig .tc := ⟨.hbm, 316, rfl⟩
abbrev main_call13_v0 : Ref sig .tc := ⟨.hbm, 317, rfl⟩
abbrev main_call13_v1 : Ref sig .tc := ⟨.hbm, 318, rfl⟩
abbrev main_call13_c_0 : Ref sig .tc := ⟨.hbm, 319, rfl⟩
abbrev main_call13_v2 : Ref sig .tc := ⟨.hbm, 320, rfl⟩
abbrev main_call13_v3 : Ref sig .tc := ⟨.hbm, 321, rfl⟩
abbrev main_call13_v4 : Ref sig .tc := ⟨.hbm, 322, rfl⟩
abbrev main_call13_v5 : Ref sig .tc := ⟨.hbm, 323, rfl⟩
abbrev main_call13_c_1 : Ref sig .tc := ⟨.hbm, 324, rfl⟩
abbrev main_call13_c_2 : Ref sig .tc := ⟨.hbm, 325, rfl⟩
abbrev main_call13_v6 : Ref sig .tc := ⟨.hbm, 326, rfl⟩
abbrev main_call13_v7 : Ref sig .tc := ⟨.hbm, 327, rfl⟩
abbrev main_call13_v8 : Ref sig .tc := ⟨.hbm, 328, rfl⟩
abbrev main_call13_v9 : Ref sig .tc := ⟨.hbm, 329, rfl⟩
abbrev main_call13_v10 : Ref sig .tc := ⟨.hbm, 330, rfl⟩
abbrev main_call13_v11 : Ref sig .tc := ⟨.hbm, 331, rfl⟩
abbrev main_call13_c_3 : Ref sig .tc := ⟨.hbm, 332, rfl⟩
abbrev main_call13_v12 : Ref sig .tc := ⟨.hbm, 333, rfl⟩
abbrev main_call13_v13 : Ref sig .tc := ⟨.hbm, 334, rfl⟩
abbrev main_call13_v14 : Ref sig .tc := ⟨.hbm, 335, rfl⟩
abbrev main_call13_cst : Ref sig .tc := ⟨.hbm, 336, rfl⟩
abbrev main_call13_v15 : Ref sig .tc := ⟨.hbm, 337, rfl⟩
abbrev main_v146 : Ref sig .tc := ⟨.hbm, 338, rfl⟩
abbrev main_cst_45 : Ref sig .tc := ⟨.hbm, 339, rfl⟩
abbrev main_v147 : Ref sig .tc := ⟨.hbm, 340, rfl⟩
abbrev main_v148 : Ref sig .tc := ⟨.hbm, 341, rfl⟩
abbrev main_v149 : Ref sig .tc := ⟨.hbm, 342, rfl⟩
abbrev main_v150 : Ref sig .tc := ⟨.hbm, 343, rfl⟩
abbrev main_v151 : Ref sig .tc := ⟨.hbm, 344, rfl⟩
abbrev main_cst_46 : Ref sig .tc := ⟨.hbm, 345, rfl⟩
abbrev main_v152 : Ref sig .tc := ⟨.hbm, 346, rfl⟩
abbrev main_v153 : Ref sig .tc := ⟨.hbm, 347, rfl⟩
abbrev main_v154 : Ref sig .tc := ⟨.hbm, 348, rfl⟩
abbrev main_cst_47 : Ref sig .tc := ⟨.hbm, 349, rfl⟩
abbrev main_call14_v0 : Ref sig .tc := ⟨.hbm, 350, rfl⟩
abbrev main_call14_v1 : Ref sig .tc := ⟨.hbm, 351, rfl⟩
abbrev main_v155 : Ref sig .tc := ⟨.hbm, 352, rfl⟩
abbrev main_call15_c : Ref sig .tc := ⟨.hbm, 353, rfl⟩
abbrev main_call15_v0 : Ref sig .tc := ⟨.hbm, 354, rfl⟩
abbrev main_call15_v1 : Ref sig .tc := ⟨.hbm, 355, rfl⟩
abbrev main_call15_c_0 : Ref sig .tc := ⟨.hbm, 356, rfl⟩
abbrev main_call15_v2 : Ref sig .tc := ⟨.hbm, 357, rfl⟩
abbrev main_call15_v3 : Ref sig .tc := ⟨.hbm, 358, rfl⟩
abbrev main_call15_v4 : Ref sig .tc := ⟨.hbm, 359, rfl⟩
abbrev main_call15_v5 : Ref sig .tc := ⟨.hbm, 360, rfl⟩
abbrev main_call15_c_1 : Ref sig .tc := ⟨.hbm, 361, rfl⟩
abbrev main_call15_c_2 : Ref sig .tc := ⟨.hbm, 362, rfl⟩
abbrev main_call15_v6 : Ref sig .tc := ⟨.hbm, 363, rfl⟩
abbrev main_call15_v7 : Ref sig .tc := ⟨.hbm, 364, rfl⟩
abbrev main_call15_v8 : Ref sig .tc := ⟨.hbm, 365, rfl⟩
abbrev main_call15_v9 : Ref sig .tc := ⟨.hbm, 366, rfl⟩
abbrev main_call15_v10 : Ref sig .tc := ⟨.hbm, 367, rfl⟩
abbrev main_call15_v11 : Ref sig .tc := ⟨.hbm, 368, rfl⟩
abbrev main_call15_c_3 : Ref sig .tc := ⟨.hbm, 369, rfl⟩
abbrev main_call15_v12 : Ref sig .tc := ⟨.hbm, 370, rfl⟩
abbrev main_call15_v13 : Ref sig .tc := ⟨.hbm, 371, rfl⟩
abbrev main_call15_v14 : Ref sig .tc := ⟨.hbm, 372, rfl⟩
abbrev main_call15_cst : Ref sig .tc := ⟨.hbm, 373, rfl⟩
abbrev main_call15_v15 : Ref sig .tc := ⟨.hbm, 374, rfl⟩
abbrev main_v156 : Ref sig .tc := ⟨.hbm, 375, rfl⟩
abbrev main_cst_48 : Ref sig .tc := ⟨.hbm, 376, rfl⟩
abbrev main_v157 : Ref sig .tc := ⟨.hbm, 377, rfl⟩
abbrev main_v158 : Ref sig .tc := ⟨.hbm, 378, rfl⟩
abbrev main_cst_49 : Ref sig .tc := ⟨.hbm, 379, rfl⟩
abbrev main_v159 : Ref sig .tc := ⟨.hbm, 380, rfl⟩
abbrev main_v160 : Ref sig .tc := ⟨.hbm, 381, rfl⟩
abbrev main_v161 : Ref sig .tc := ⟨.hbm, 382, rfl⟩
abbrev main_cst_50 : Ref sig .tc := ⟨.hbm, 383, rfl⟩
abbrev main_v162 : Ref sig .tc := ⟨.hbm, 384, rfl⟩
abbrev main_v163 : Ref sig .tc := ⟨.hbm, 385, rfl⟩
abbrev main_cst_51 : Ref sig .tc := ⟨.hbm, 386, rfl⟩
abbrev main_v164 : Ref sig .tc := ⟨.hbm, 387, rfl⟩
abbrev main_v165 : Ref sig .tc := ⟨.hbm, 388, rfl⟩
abbrev main_cst_52 : Ref sig .tc := ⟨.hbm, 389, rfl⟩
abbrev main_v166 : Ref sig .tc := ⟨.hbm, 390, rfl⟩
abbrev main_v167 : Ref sig .tc := ⟨.hbm, 391, rfl⟩
abbrev main_v168 : Ref sig .tc := ⟨.hbm, 392, rfl⟩
abbrev main_v169 : Ref sig .tc := ⟨.hbm, 393, rfl⟩
abbrev main_cst_53 : Ref sig .tc := ⟨.hbm, 394, rfl⟩
abbrev main_v170 : Ref sig .tc := ⟨.hbm, 395, rfl⟩
abbrev main_v171 : Ref sig .tc := ⟨.hbm, 396, rfl⟩
abbrev main_v172 : Ref sig .tc := ⟨.hbm, 397, rfl⟩
abbrev main_v173 : Ref sig .tc := ⟨.hbm, 398, rfl⟩
abbrev main_v174 : Ref sig .tc := ⟨.hbm, 399, rfl⟩
abbrev main_v175 : Ref sig .tc := ⟨.hbm, 400, rfl⟩
abbrev main_v176 : Ref sig .tc := ⟨.hbm, 401, rfl⟩
abbrev main_cst_54 : Ref sig .tc := ⟨.hbm, 402, rfl⟩
abbrev main_v177 : Ref sig .tc := ⟨.hbm, 403, rfl⟩
abbrev main_cst_55 : Ref sig .tc := ⟨.hbm, 404, rfl⟩
abbrev main_v178 : Ref sig .tc := ⟨.hbm, 405, rfl⟩
abbrev main_cst_56 : Ref sig .tc := ⟨.hbm, 406, rfl⟩
abbrev main_v179 : Ref sig .tc := ⟨.hbm, 407, rfl⟩
abbrev main_cst_57 : Ref sig .tc := ⟨.hbm, 408, rfl⟩
abbrev main_v180 : Ref sig .tc := ⟨.hbm, 409, rfl⟩
abbrev main_cst_58 : Ref sig .tc := ⟨.hbm, 410, rfl⟩
abbrev main_v181 : Ref sig .tc := ⟨.hbm, 411, rfl⟩
abbrev main_v182 : Ref sig .tc := ⟨.hbm, 412, rfl⟩
abbrev main_cst_59 : Ref sig .tc := ⟨.hbm, 413, rfl⟩
abbrev main_v183 : Ref sig .tc := ⟨.hbm, 414, rfl⟩
abbrev main_v184 : Ref sig .tc := ⟨.hbm, 415, rfl⟩
abbrev main_v185 : Ref sig .tc := ⟨.hbm, 416, rfl⟩

abbrev nD : Nat := 1
abbrev τ : Topo := Topo.v7x

variable {F : FTy → Type} [FloatOps F]
-- ==== Proof.RefStages.lean ====
module

public import proofs.«01_k».proof.Proof.Gen.ReferenceIdeal
public import Idealize.ShloMosaic.Lib.StableHlo.Run
public import Idealize.ShloMosaic.Lib.Pipeline.Frame

/-! The reference as a chain of functions of its argument arrays, one per stage of the loss, with the
operations of the program in their order. -/

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The synonymous group of each codon, as the program's table lists them. -/
def grpTab : IVec S66 32 := fun i => lit0 (S66.rowMajor i)

/-- The number of synonymous codons of each codon's group, as the program's table lists them. -/
def nsynTab : FVec F S66 .f32 := fun i => FloatOps.ofBits .f32 (lit1 (S66.rowMajor i))

/-- Two columns of index words side by side. -/
def pairUp : IVec S64x4096x1 32 → IVec S64x4096x1 32 → IVec S64x4096x2 32 :=
  fun a b => concatenate S64x4096x2 2 [⟨S64x4096x1, a⟩, ⟨S64x4096x1, b⟩] concatenates_S64x4096x1_S64x4096x1_S64x4096x2_d2

/-- The predicted codon of every position: the first index of the largest logit. -/
def predIds (x : FVec F S64x4096x66 .f32) : IVec S64x4096 32 :=
  let k0_v0 : IVec S64x4096x66 32 := (iotaInDim S64x4096x66 32 2)
  fun j => (Host.argReduce reducer_argmax_f32_i32 x k0_v0 (constant S_ .f32 0xFF800000#32) (constantI S_ 32 0#32) reducesTo_S64x4096x66_S64x4096_d2 h_S_ j).2

/-- The log-softmax of the logits along the codon axis. -/
def logSoftmax (x : FVec F S64x4096x66 .f32) : FVec F S64x4096x66 .f32 :=
  let k1_v0 : FVec F S64x4096 .f32 := Host.reduce FloatOps.maximumf x (constant S_ .f32 0xFF800000#32) reducesTo_S64x4096x66_S64x4096_d2 h_S_
  let k1_v1 : FVec F S64x4096 .f32 := broadcastInDim S64x4096 ![] bcast_S_S64x4096 (constant S_ .f32 0xFF800000#32)
  let k1_v2 : FVec F S64x4096 .f32 := maximumf k1_v1 k1_v0
  let k1_v3 : FVec F S64x4096x1 .f32 := broadcastInDim S64x4096x1 ![0, 1] bcast_S64x4096_S64x4096x1_0_1 k1_v2
  let k1_v4 : FVec F S64x4096x66 .f32 := broadcastInDim S64x4096x66 ![0, 1, 2] bcast_S64x4096x1_S64x4096x66_0_1_2 k1_v3
  let k1_v5 : FVec F S64x4096x66 .f32 := subf x k1_v4
  let k1_v6 : FVec F S64x4096x66 .f32 := Host.exp k1_v5
  let k1_v7 : FVec F S64x4096 .f32 := Host.reduceAdd k1_v6 (constant S_ .f32 0x00000000#32) reducesTo_S64x4096x66_S64x4096_d2 h_S_
  let k1_v8 : FVec F S64x4096x1 .f32 := broadcastInDim S64x4096x1 ![0, 1] bcast_S64x4096_S64x4096x1_0_1 k1_v7
  let k1_v9 : FVec F S64x4096x1 .f32 := Host.log k1_v8
  let k1_v10 : FVec F S64x4096x66 .f32 := broadcastInDim S64x4096x66 ![0, 1, 2] bcast_S64x4096x1_S64x4096x66_0_1_2 k1_v9
  subf k1_v5 k1_v10

/-- The log-probability of the target codon of every position. -/
def takeTarget (ls : FVec F S64x4096x66 .f32) (tgt : IVec S64x4096 32) : FVec F S64x4096x1 .f32 :=
  let v2 : IVec S64x4096x1 32 := broadcastInDim S64x4096x1 ![0, 1] bcast_S64x4096_S64x4096x1_0_1 tgt
  let k2_v0 : IVec S64x4096x1 32 := broadcastInDim S64x4096x1 ![] bcast_S_S64x4096x1 (constantI S_ 32 0#32)
  let k2_v1 : IVec S64x4096x1 1 := cmpi .slt v2 k2_v0
  let k2_v2 : IVec S64x4096x1 32 := broadcastInDim S64x4096x1 ![] bcast_S_S64x4096x1 (constantI S_ 32 66#32)
  let k2_v3 : IVec S64x4096x1 32 := addi v2 k2_v2
  let k2_v4 : IVec S64x4096x1 32 := select k2_v1 k2_v3 v2
  let k2_v5 : IVec S64x4096x1x1 32 := shapeCast S64x4096x1x1 k2_v4 shapeCasts_S64x4096x1_S64x4096x1x1
  let k2_v6 : IVec S64x4096x1x1 32 := broadcastInDim S64x4096x1x1 ![] bcast_S_S64x4096x1x1 (constantI S_ 32 0#32)
  let k2_v7 : IVec S64x4096x1x1 1 := cmpi .sge k2_v5 k2_v6
  let k2_v8 : IVec S1x1x1x1 32 := broadcastInDim S1x1x1x1 ![3] bcast_S1_S1x1x1x1_3 (constantI S1 32 65#32)
  let k2_v9 : IVec S64x4096x1x1 32 := broadcastInDim S64x4096x1x1 ![0, 1, 2, 3] bcast_S1x1x1x1_S64x4096x1x1_0_1_2_3 k2_v8
  let k2_v10 : IVec S64x4096x1x1 1 := cmpi .sle k2_v5 k2_v9
  let k2_v11 : IVec S64x4096x1x1 1 := andi k2_v7 k2_v10
  let k2_v12 : IVec S64x4096x1 1 := Host.reduce IntOp.andi k2_v11 (constantI S_ 1 1#1) reducesTo_S64x4096x1x1_S64x4096x1_d3 h_S_
  let k2_v13 : FVec F S64x4096x1 .f32 := Host.gather gather_S64x4096x66_S64x4096x1x1_S64x4096x1_n_2_01_01_2_3_111 ls k2_v5
  let k2_v14 : FVec F S64x4096x1 .f32 := broadcastInDim S64x4096x1 ![] bcast_S_S64x4096x1 (constant S_ .f32 0x7FC00000#32)
  select k2_v12 k2_v13 k2_v14

/-- The cross-entropy averaged over the positions whose target is not codon 0. -/
def ceOf (lp : FVec F S64x4096x1 .f32) (tgt : IVec S64x4096 32) : FVec F S_ .f32 :=
  let v4 : FVec F S64x4096 .f32 := shapeCast S64x4096 lp shapeCasts_S64x4096x1_S64x4096
  let v5 : FVec F S64x4096 .f32 := Host.negf v4
  let v6 : IVec S64x4096 32 := broadcastInDim S64x4096 ![] bcast_S_S64x4096 (constantI S_ 32 0#32)
  let v7 : IVec S64x4096 1 := cmpi .ne tgt v6
  let v8 : FVec F S64x4096 .f32 := uitofp .f32 v7
  let v9 : FVec F S64x4096 .f32 := mulf v5 v8
  let v10 : FVec F S_ .f32 := Host.reduceAdd v9 (constant S_ .f32 0x00000000#32) reducesTo_S64x4096_S_d0_1 h_S_
  let v11 : FVec F S_ .f32 := Host.reduceAdd v8 (constant S_ .f32 0x00000000#32) reducesTo_S64x4096_S_d0_1 h_S_
  let v12 : FVec F S_ .f32 := maximumf (constant S_ .f32 0x3F800000#32) v11
  Host.divf v10 v12

/-- The codon adaptation index of every sequence. -/
def caiOf (wm : FVec F S5x66 .f32) (sp : IVec S64 32) (ids : IVec S64x4096 32) (mask : IVec S64x4096 1) : FVec F S64 .f32 :=
  let v14 : IVec S64x1 32 := broadcastInDim S64x1 ![0] bcast_S64_S64x1_0 sp
  let v15 : IVec S64x1 32 := broadcastInDim S64x1 ![] bcast_S_S64x1 (constantI S_ 32 0#32)
  let v16 : IVec S64x1 1 := cmpi .slt v14 v15
  let v17 : IVec S64x1 32 := broadcastInDim S64x1 ![] bcast_S_S64x1 (constantI S_ 32 5#32)
  let v18 : IVec S64x1 32 := addi v14 v17
  let v19 : IVec S64x1 32 := select v16 v18 v14
  let v20 : IVec S64x4096 32 := broadcastInDim S64x4096 ![] bcast_S_S64x4096 (constantI S_ 32 0#32)
  let v21 : IVec S64x4096 1 := cmpi .slt ids v20
  let v22 : IVec S64x4096 32 := broadcastInDim S64x4096 ![] bcast_S_S64x4096 (constantI S_ 32 66#32)
  let v23 : IVec S64x4096 32 := addi ids v22
  let v24 : IVec S64x4096 32 := select v21 v23 ids
  let v25 : IVec S64x4096 32 := broadcastInDim S64x4096 ![0, 1] bcast_S64x1_S64x4096_0_1 v19
  let v26 : IVec S64x4096x1 32 := broadcastInDim S64x4096x1 ![0, 1] bcast_S64x4096_S64x4096x1_0_1 v25
  let v27 : IVec S64x4096x1 32 := broadcastInDim S64x4096x1 ![0, 1] bcast_S64x4096_S64x4096x1_0_1 v24
  let v28 : IVec S64x4096x2 32 := pairUp v26 v27
  let v29 : FVec F S64x4096 .f32 := Host.gather gather_S5x66_S64x4096x2_S64x4096_n_01_n_n_01_2_11 wm v28
  let k4_v1 : FVec F S64x4096 .f32 := broadcastInDim S64x4096 ![] bcast_S_S64x4096 (constant S_ .f32 0x322BCC77#32)
  let v30 : FVec F S64x4096 .f32 := maximumf k4_v1 v29
  let v31 : FVec F S64x4096 .f32 := Host.log v30
  let v32 : FVec F S64x4096 .f32 := uitofp .f32 mask
  let v33 : FVec F S64x4096 .f32 := mulf v31 v32
  let v34 : FVec F S64 .f32 := Host.reduceAdd v33 (constant S_ .f32 0x00000000#32) reducesTo_S64x4096_S64_d1 h_S_
  let v35 : FVec F S64 .f32 := Host.reduceAdd v32 (constant S_ .f32 0x00000000#32) reducesTo_S64x4096_S64_d1 h_S_
  let k5_v1 : FVec F S64 .f32 := broadcastInDim S64 ![] bcast_S_S64 (constant S_ .f32 0x3F800000#32)
  let v36 : FVec F S64 .f32 := maximumf k5_v1 v35
  let v37 : FVec F S64 .f32 := Host.divf v34 v36
  Host.exp v37

/-- The mean over sequences of how far the target's index lies above the prediction's. -/
def hingeOf (cp : FVec F S64 .f32) (ct : FVec F S64 .f32) : FVec F S_ .f32 :=
  let v64 : FVec F S64 .f32 := subf ct cp
  let k8_v0 : FVec F S64 .f32 := broadcastInDim S64 ![] bcast_S_S64 (constant S_ .f32 0x00000000#32)
  let v65 : FVec F S64 .f32 := maximumf v64 k8_v0
  let v66 : FVec F S_ .f32 := Host.reduceAdd v65 (constant S_ .f32 0x00000000#32) reducesTo_S64_S_d0 h_S_
  Host.divf v66 (constant S_ .f32 0x42800000#32)

/-- The synonymous group of every position's codon. -/
def groupOf (grp : IVec S66 32) (ids : IVec S64x4096 32) : IVec S64x4096 32 :=
  let k9_v0 : IVec S64x4096 32 := broadcastInDim S64x4096 ![] bcast_S_S64x4096 (constantI S_ 32 0#32)
  let k9_v1 : IVec S64x4096 1 := cmpi .slt ids k9_v0
  let k9_v2 : IVec S64x4096 32 := broadcastInDim S64x4096 ![] bcast_S_S64x4096 (constantI S_ 32 66#32)
  let k9_v3 : IVec S64x4096 32 := addi ids k9_v2
  let k9_v4 : IVec S64x4096 32 := select k9_v1 k9_v3 ids
  let k9_v5 : IVec S64x4096x1 32 := broadcastInDim S64x4096x1 ![0, 1] bcast_S64x4096_S64x4096x1_0_1 k9_v4
  let k9_v6 : IVec S64x4096x1 32 := broadcastInDim S64x4096x1 ![] bcast_S_S64x4096x1 (constantI S_ 32 0#32)
  let k9_v7 : IVec S64x4096x1 1 := cmpi .sge k9_v5 k9_v6
  let k9_v8 : IVec S1x1x1 32 := broadcastInDim S1x1x1 ![2] bcast_S1_S1x1x1_2 (constantI S1 32 65#32)
  let k9_v9 : IVec S64x4096x1 32 := broadcastInDim S64x4096x1 ![0, 1, 2] bcast_S1x1x1_S64x4096x1_0_1_2 k9_v8
  let k9_v10 : IVec S64x4096x1 1 := cmpi .sle k9_v5 k9_v9
  let k9_v11 : IVec S64x4096x1 1 := andi k9_v7 k9_v10
  let k9_v12 : IVec S64x4096 1 := Host.reduce IntOp.andi k9_v11 (constantI S_ 1 1#1) reducesTo_S64x4096x1_S64x4096_d2 h_S_
  let k9_v13 : IVec S64x4096 32 := Host.gather gather_S66_S64x4096x1_S64x4096_n_0_n_n_0_2_1 grp k9_v5
  let k9_v14 : IVec S64x4096 32 := broadcastInDim S64x4096 ![] bcast_S_S64x4096 (constantI S_ 32 2147483648#32)
  select k9_v12 k9_v13 k9_v14

/-- The codon counts of every sequence: positions that are masked in, whose codon is not 0 and whose group is a real one. -/
def countsOf (g : IVec S64x4096 32) (ids : IVec S64x4096 32) (mask : IVec S64x4096 1) : FVec F S64x66 .f32 :=
  let v69 : IVec S64x4096 32 := broadcastInDim S64x4096 ![] bcast_S_S64x4096 (constantI S_ 32 0#32)
  let v70 : IVec S64x4096 1 := cmpi .sgt ids v69
  let v71 : IVec S64x4096 1 := andi mask v70
  let v72 : IVec S64x4096 32 := broadcastInDim S64x4096 ![] bcast_S_S64x4096 (constantI S_ 32 21#32)
  let v73 : IVec S64x4096 1 := cmpi .slt g v72
  let v74 : IVec S64x4096 1 := andi v71 v73
  let v75 : FVec F S64x4096 .f32 := uitofp .f32 v74
  let v76 : FVec F S64x66 .f32 := broadcastInDim S64x66 ![] bcast_S_S64x66 (constant S_ .f32 0x00000000#32)
  let v77 : IVec S64 32 := (iotaInDim S64 32 0)
  let v78 : IVec S64x1 32 := broadcastInDim S64x1 ![0] bcast_S64_S64x1_0 v77
  let v79 : IVec S64x1 32 := broadcastInDim S64x1 ![] bcast_S_S64x1 (constantI S_ 32 0#32)
  let v80 : IVec S64x1 1 := cmpi .slt v78 v79
  let v81 : IVec S64x1 32 := broadcastInDim S64x1 ![] bcast_S_S64x1 (constantI S_ 32 64#32)
  let v82 : IVec S64x1 32 := addi v78 v81
  let v83 : IVec S64x1 32 := select v80 v82 v78
  let v84 : IVec S64x4096 32 := broadcastInDim S64x4096 ![] bcast_S_S64x4096 (constantI S_ 32 0#32)
  let v85 : IVec S64x4096 1 := cmpi .slt ids v84
  let v86 : IVec S64x4096 32 := broadcastInDim S64x4096 ![] bcast_S_S64x4096 (constantI S_ 32 66#32)
  let v87 : IVec S64x4096 32 := addi ids v86
  let v88 : IVec S64x4096 32 := select v85 v87 ids
  let v89 : IVec S64x4096 32 := broadcastInDim S64x4096 ![0, 1] bcast_S64x1_S64x4096_0_1 v83
  let v90 : IVec S64x4096x1 32 := broadcastInDim S64x4096x1 ![0, 1] bcast_S64x4096_S64x4096x1_0_1 v89
  let v91 : IVec S64x4096x1 32 := broadcastInDim S64x4096x1 ![0, 1] bcast_S64x4096_S64x4096x1_0_1 v88
  let v92 : IVec S64x4096x2 32 := pairUp v90 v91
  Host.scatterAdd scatter_S64x66_S64x4096x2_S64x4096_n_01_01_2 v76 v92 v75

/-- Per sequence, the counts summed over each synonymous group. -/
def totalsOf (grp : IVec S66 32) (cnt : FVec F S64x66 .f32) : FVec F S64x22 .f32 :=
  let v94 : FVec F S64x22 .f32 := broadcastInDim S64x22 ![] bcast_S_S64x22 (constant S_ .f32 0x00000000#32)
  let v95 : IVec S66 32 := broadcastInDim S66 ![] bcast_S_S66 (constantI S_ 32 0#32)
  let v96 : IVec S66 1 := cmpi .slt grp v95
  let v97 : IVec S66 32 := broadcastInDim S66 ![] bcast_S_S66 (constantI S_ 32 22#32)
  let v98 : IVec S66 32 := addi grp v97
  let v99 : IVec S66 32 := select v96 v98 grp
  let v100 : IVec S66x1 32 := broadcastInDim S66x1 ![0] bcast_S66_S66x1_0 v99
  Host.scatterAdd scatter_S64x22_S66x1_S64x66_0_1_1_1 v94 v100 cnt

/-- Per sequence and codon, the total of the codon's own group. -/
def backOf (grp : IVec S66 32) (tot : FVec F S64x22 .f32) : FVec F S64x66 .f32 :=
  let k10_v0 : IVec S66 32 := broadcastInDim S66 ![] bcast_S_S66 (constantI S_ 32 0#32)
  let k10_v1 : IVec S66 1 := cmpi .slt grp k10_v0
  let k10_v2 : IVec S66 32 := broadcastInDim S66 ![] bcast_S_S66 (constantI S_ 32 22#32)
  let k10_v3 : IVec S66 32 := addi grp k10_v2
  let k10_v4 : IVec S66 32 := select k10_v1 k10_v3 grp
  let k10_v5 : IVec S66x1 32 := broadcastInDim S66x1 ![0] bcast_S66_S66x1_0 k10_v4
  let k10_v6 : IVec S66x1 32 := broadcastInDim S66x1 ![] bcast_S_S66x1 (constantI S_ 32 0#32)
  let k10_v7 : IVec S66x1 1 := cmpi .sge k10_v5 k10_v6
  let k10_v8 : IVec S1x1 32 := broadcastInDim S1x1 ![1] bcast_S1_S1x1_1 (constantI S1 32 21#32)
  let k10_v9 : IVec S66x1 32 := broadcastInDim S66x1 ![0, 1] bcast_S1x1_S66x1_0_1 k10_v8
  let k10_v10 : IVec S66x1 1 := cmpi .sle k10_v5 k10_v9
  let k10_v11 : IVec S66x1 1 := andi k10_v7 k10_v10
  let k10_v12 : IVec S66 1 := Host.reduce IntOp.andi k10_v11 (constantI S_ 1 1#1) reducesTo_S66x1_S66_d1 h_S_
  let k10_v13 : FVec F S64x66 .f32 := Host.gather gather_S64x22_S66x1_S64x66_0_1_n_n_1_1_641 tot k10_v5
  let k10_v14 : IVec S64x66 1 := broadcastInDim S64x66 ![1] bcast_S66_S64x66_1 k10_v12
  let k10_v15 : FVec F S64x66 .f32 := broadcastInDim S64x66 ![] bcast_S_S64x66 (constant S_ .f32 0x7FC00000#32)
  select k10_v14 k10_v13 k10_v15

/-- The relative synonymous codon usage from counts and totals. -/
def ratioOf (nsyn : FVec F S66 .f32) (cnt : FVec F S64x66 .f32) (back : FVec F S64x66 .f32) : FVec F S64x66 .f32 :=
  let v103 : FVec F S64x66 .f32 := broadcastInDim S64x66 ![] bcast_S_S64x66 (constant S_ .f32 0x00000000#32)
  let v104 : IVec S64x66 1 := cmpf .ogt back v103
  let v105 : FVec F S1x66 .f32 := broadcastInDim S1x66 ![1] bcast_S66_S1x66_1 nsyn
  let v106 : FVec F S64x66 .f32 := broadcastInDim S64x66 ![0, 1] bcast_S1x66_S64x66_0_1 v105
  let v107 : FVec F S64x66 .f32 := mulf cnt v106
  let v108 : FVec F S64x66 .f32 := broadcastInDim S64x66 ![] bcast_S_S64x66 (constant S_ .f32 0x322BCC77#32)
  let v109 : FVec F S64x66 .f32 := maximumf back v108
  let v110 : FVec F S64x66 .f32 := Host.divf v107 v109
  let k11_v1 : FVec F S64x66 .f32 := broadcastInDim S64x66 ![] bcast_S_S64x66 (constant S_ .f32 0x00000000#32)
  select v104 v110 k11_v1

/-- The row of the species' reference distribution for every sequence. -/
def speciesRow (rd : FVec F S5x66 .f32) (sp : IVec S64 32) : FVec F S64x66 .f32 :=
  let k15_v0 : IVec S64 32 := broadcastInDim S64 ![] bcast_S_S64 (constantI S_ 32 0#32)
  let k15_v1 : IVec S64 1 := cmpi .slt sp k15_v0
  let k15_v2 : IVec S64 32 := broadcastInDim S64 ![] bcast_S_S64 (constantI S_ 32 5#32)
  let k15_v3 : IVec S64 32 := addi sp k15_v2
  let k15_v4 : IVec S64 32 := select k15_v1 k15_v3 sp
  let k15_v5 : IVec S64x1 32 := broadcastInDim S64x1 ![0] bcast_S64_S64x1_0 k15_v4
  let k15_v6 : IVec S64x1 32 := broadcastInDim S64x1 ![] bcast_S_S64x1 (constantI S_ 32 0#32)
  let k15_v7 : IVec S64x1 1 := cmpi .sge k15_v5 k15_v6
  let k15_v8 : IVec S1x1 32 := broadcastInDim S1x1 ![1] bcast_S1_S1x1_1 (constantI S1 32 4#32)
  let k15_v9 : IVec S64x1 32 := broadcastInDim S64x1 ![0, 1] bcast_S1x1_S64x1_0_1 k15_v8
  let k15_v10 : IVec S64x1 1 := cmpi .sle k15_v5 k15_v9
  let k15_v11 : IVec S64x1 1 := andi k15_v7 k15_v10
  let k15_v12 : IVec S64 1 := Host.reduce IntOp.andi k15_v11 (constantI S_ 1 1#1) reducesTo_S64x1_S64_d1 h_S_
  let k15_v13 : FVec F S64x66 .f32 := Host.gather gather_S5x66_S64x1_S64x66_1_0_n_n_0_1_166 rd k15_v5
  let k15_v14 : IVec S64x66 1 := broadcastInDim S64x66 ![0] bcast_S64_S64x66_0 k15_v12
  let k15_v15 : FVec F S64x66 .f32 := broadcastInDim S64x66 ![] bcast_S_S64x66 (constant S_ .f32 0x7FC00000#32)
  select k15_v14 k15_v13 k15_v15

/-- The mean over sequences of the divergence between the usage distributions. -/
def klOf (pr : FVec F S64x66 .f32) (tr : FVec F S64x66 .f32) (row : FVec F S64x66 .f32) : FVec F S_ .f32 :=
  let v157 : FVec F S64x66 .f32 := broadcastInDim S64x66 ![] bcast_S_S64x66 (constant S_ .f32 0x3F333333#32)
  let v158 : FVec F S64x66 .f32 := mulf v157 tr
  let v159 : FVec F S64x66 .f32 := broadcastInDim S64x66 ![] bcast_S_S64x66 (constant S_ .f32 0x3E99999A#32)
  let v160 : FVec F S64x66 .f32 := mulf v159 row
  let v161 : FVec F S64x66 .f32 := addf v158 v160
  let v162 : FVec F S64x66 .f32 := broadcastInDim S64x66 ![] bcast_S_S64x66 (constant S_ .f32 0x322BCC77#32)
  let v163 : FVec F S64x66 .f32 := addf pr v162
  let v164 : FVec F S64x66 .f32 := broadcastInDim S64x66 ![] bcast_S_S64x66 (constant S_ .f32 0x322BCC77#32)
  let v165 : FVec F S64x66 .f32 := addf v161 v164
  let v166 : FVec F S64 .f32 := Host.reduceAdd v163 (constant S_ .f32 0x00000000#32) reducesTo_S64x66_S64_d1 h_S_
  let v167 : FVec F S64x1 .f32 := broadcastInDim S64x1 ![0] bcast_S64_S64x1_0 v166
  let v168 : FVec F S64x66 .f32 := broadcastInDim S64x66 ![0, 1] bcast_S64x1_S64x66_0_1 v167
  let v169 : FVec F S64x66 .f32 := Host.divf v163 v168
  let v170 : FVec F S64 .f32 := Host.reduceAdd v165 (constant S_ .f32 0x00000000#32) reducesTo_S64x66_S64_d1 h_S_
  let v171 : FVec F S64x1 .f32 := broadcastInDim S64x1 ![0] bcast_S64_S64x1_0 v170
  let v172 : FVec F S64x66 .f32 := broadcastInDim S64x66 ![0, 1] bcast_S64x1_S64x66_0_1 v171
  let v173 : FVec F S64x66 .f32 := Host.divf v165 v172
  let v174 : FVec F S64x66 .f32 := Host.divf v173 v169
  let v175 : FVec F S64x66 .f32 := Host.log v174
  let v176 : FVec F S64x66 .f32 := mulf v173 v175
  let v177 : FVec F S64 .f32 := Host.reduceAdd v176 (constant S_ .f32 0x00000000#32) reducesTo_S64x66_S64_d1 h_S_
  let v178 : FVec F S_ .f32 := Host.reduceAdd v177 (constant S_ .f32 0x00000000#32) reducesTo_S64_S_d0 h_S_
  Host.divf v178 (constant S_ .f32 0x42800000#32)

/-- The three terms, weighted and added, as a one by one array. -/
def totalOf (ce : FVec F S_ .f32) (cai : FVec F S_ .f32) (kl : FVec F S_ .f32) : FVec F S1x1 .f32 :=
  let v180 : FVec F S_ .f32 := mulf (constant S_ .f32 0x3F800000#32) ce
  let v181 : FVec F S_ .f32 := mulf (constant S_ .f32 0x3ECCCCCD#32) cai
  let v182 : FVec F S_ .f32 := addf v180 v181
  let v183 : FVec F S_ .f32 := mulf (constant S_ .f32 0x3E99999A#32) kl
  let v184 : FVec F S_ .f32 := addf v182 v183
  shapeCast S1x1 v184 shapeCasts_S_S1x1

/-- The codon usage of the sequences whose codons are `ids`, from the counts through the group totals. -/
def usageOf (mask : IVec S64x4096 1) (ids : IVec S64x4096 32) : FVec F S64x66 .f32 :=
  let cnt : FVec F S64x66 .f32 := countsOf (groupOf grpTab ids) ids mask
  ratioOf nsynTab cnt (backOf grpTab (totalsOf grpTab cnt))

/-- The whole reference as a function of its arguments. -/
def refOut (x : FVec F S64x4096x66 .f32) (tgt : IVec S64x4096 32) (sp : IVec S64 32) (mask : IVec S64x4096 1)
    (wm rd : FVec F S5x66 .f32) : FVec F S1x1 .f32 :=
  totalOf (ceOf (takeTarget (logSoftmax x) tgt) tgt)
    (hingeOf (caiOf wm sp (predIds x) mask) (caiOf wm sp tgt mask))
    (klOf (usageOf mask (predIds x)) (usageOf mask tgt) (speciesRow rd sp))

end Cert.RefRun

end
-- ==== Proof.RefOps.lean ====
module

public import proofs.«01_k».proof.Proof.Gen.ReferenceIdeal
public import Idealize.ShloMosaic.Lib.StableHlo.Run
public import Idealize.ShloMosaic.Lib.Pipeline.Frame
public import proofs.«01_k».proof.Proof.RefStages

/-! The reference program as a list of its host operations, cut into one list per stage; that every operation stays
within the device's buffers and writes what it is listed to write. -/

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the two tables of constants. -/
def segTables : List (HloOp τ sig (Elt F)) :=
  [ nullary main_c (fun i => lit0 (S66.rowMajor i)),
    nullary main_cst (fun i => FloatOps.ofBits .f32 (lit1 (S66.rowMajor i))) ]

/-- What those operations write, in order. -/
abbrev segTables_W : List (Ref sig .tc) := [main_c, main_cst]

/-- The operations of the predicted codon of every position: the first index of the largest logit. -/
def segArgmax : List (HloOp τ sig (Elt F)) :=
  [ TRef.nullary (TRef.of (T := ⟨S64x4096x66, .i32⟩) main_call0_v0) (iotaInDim S64x4096x66 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S64x4096x66, .f32⟩) main_arg0) (TRef.of (T := ⟨S64x4096x66, .i32⟩) main_call0_v0) (TRef.of (T := ⟨S_, .f32⟩) main_call0_cst) (TRef.of (T := ⟨S_, .i32⟩) main_call0_c) (TRef.of (T := ⟨S64x4096, .f32⟩) main_call0_v1_0) (fun x y u v j => (Host.argReduce reducer_argmax_f32_i32 x y u v reducesTo_S64x4096x66_S64x4096_d2 h_S_ j).1),
    TRef.quaternary (TRef.of (T := ⟨S64x4096x66, .f32⟩) main_arg0) (TRef.of (T := ⟨S64x4096x66, .i32⟩) main_call0_v0) (TRef.of (T := ⟨S_, .f32⟩) main_call0_cst) (TRef.of (T := ⟨S_, .i32⟩) main_call0_c) (TRef.of (T := ⟨S64x4096, .i32⟩) main_v0) (fun x y u v j => (Host.argReduce reducer_argmax_f32_i32 x y u v reducesTo_S64x4096x66_S64x4096_d2 h_S_ j).2) ]

/-- What those operations write, in order. -/
abbrev segArgmax_W : List (Ref sig .tc) := [main_call0_v0, main_call0_cst, main_call0_c, main_call0_v1_0, main_v0]

/-- The operations of the log-softmax of the logits along the codon axis. -/
def segLogSoftmax : List (HloOp τ sig (Elt F)) :=
  [ TRef.nullary (TRef.of (T := ⟨S_, .f32⟩) main_call1_cst) (constant S_ .f32 0xFF800000#32),
    TRef.binary (TRef.of (T := ⟨S64x4096x66, .f32⟩) main_arg0) (TRef.of (T := ⟨S_, .f32⟩) main_call1_cst) (TRef.of (T := ⟨S64x4096, .f32⟩) main_call1_v0) (fun x v => Host.reduce FloatOps.maximumf x v reducesTo_S64x4096x66_S64x4096_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S64x4096, .f32⟩) main_call1_v1) (broadcastInDim S64x4096 ![] bcast_S_S64x4096),
    TRef.binary (TRef.of (T := ⟨S64x4096, .f32⟩) main_call1_v1) (TRef.of (T := ⟨S64x4096, .f32⟩) main_call1_v0) (TRef.of (T := ⟨S64x4096, .f32⟩) main_call1_v2) maximumf,
    TRef.unary (TRef.of (T := ⟨S64x4096, .f32⟩) main_call1_v2) (TRef.of (T := ⟨S64x4096x1, .f32⟩) main_call1_v3) (broadcastInDim S64x4096x1 ![0, 1] bcast_S64x4096_S64x4096x1_0_1),
    TRef.unary (TRef.of (T := ⟨S64x4096x1, .f32⟩) main_call1_v3) (TRef.of (T := ⟨S64x4096x66, .f32⟩) main_call1_v4) (broadcastInDim S64x4096x66 ![0, 1, 2] bcast_S64x4096x1_S64x4096x66_0_1_2),
    TRef.binary (TRef.of (T := ⟨S64x4096x66, .f32⟩) main_arg0) (TRef.of (T := ⟨S64x4096x66, .f32⟩) main_call1_v4) (TRef.of (T := ⟨S64x4096x66, .f32⟩) main_call1_v5) subf,
    TRef.unary (TRef.of (T := ⟨S64x4096x66, .f32⟩) main_call1_v5) (TRef.of (T := ⟨S64x4096x66, .f32⟩) main_call1_v6) Host.exp,
    TRef.nullary (TRef.of (T := ⟨S_, .f32⟩) main_call1_cst_1) (constant S_ .f32 0x00000000#32),
    TRef.binary (TRef.of (T := ⟨S64x4096x66, .f32⟩) main_call1_v6) (TRef.of (T := ⟨S_, .f32⟩) main_call1_cst_1) (TRef.of (T := ⟨S64x4096, .f32⟩) main_call1_v7) (fun x v => Host.reduceAdd x v reducesTo_S64x4096x66_S64x4096_d2 h_S_),
    TRef.unary (TRef.of (T := ⟨S64x4096, .f32⟩) main_call1_v7) (TRef.of (T := ⟨S64x4096x1, .f32⟩) main_call1_v8) (broadcastInDim S64x4096x1 ![0, 1] bcast_S64x4096_S64x4096x1_0_1),
    TRef.unary (TRef.of (T := ⟨S64x4096x1, .f32⟩) main_call1_v8) (TRef.of (T := ⟨S64x4096x1, .f32⟩) main_call1_v9) Host.log,
    TRef.unary (TRef.of (T := ⟨S64x4096x1, .f32⟩) main_call1_v9) (TRef.of (T := ⟨S64x4096x66, .f32⟩) main_call1_v10) (broadcastInDim S64x4096x66 ![0, 1, 2] bcast_S64x4096x1_S64x4096x66_0_1_2),
    TRef.binary (TRef.of (T := ⟨S64x4096x66, .f32⟩) main_call1_v5) (TRef.of (T := ⟨S64x4096x66, .f32⟩) main_call1_v10) (TRef.of (T := ⟨S64x4096x66, .f32⟩) main_v1) subf ]

/-- What those operations write, in order. -/
abbrev segLogSoftmax_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v1]

/-- The operations of the log-probability of the target codon of every position. -/
def segTake : List (HloOp τ sig (Elt F)) :=
  [ unary main_arg1 main_v2 (broadcastInDim S64x4096x1 ![0, 1] bcast_S64x4096_S64x4096x1_0_1 : (⟨S64x4096, .i32⟩ : BufTy).Contents (Elt F) → (⟨S64x4096x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S64x4096x1, .i32⟩) main_call2_v0) (broadcastInDim S64x4096x1 ![] bcast_S_S64x4096x1),
    TRef.binary (TRef.of (T := ⟨S64x4096x1, .i32⟩) main_v2) (TRef.of (T := ⟨S64x4096x1, .i32⟩) main_call2_v0) (TRef.of (T := ⟨S64x4096x1, .i1⟩) main_call2_v1) (cmpi .slt),
    TRef.nullary (TRef.of (T := ⟨S_, .i32⟩) main_call2_c_0) (constantI S_ 32 66#32),
    TRef.unary (TRef.of (T := ⟨S_, .i32⟩) main_call2_c_0) (TRef.of (T := ⟨S64x4096x1, .i32⟩) main_call2_v2) (broadcastInDim S64x4096x1 ![] bcast_S_S64x4096x1),
    TRef.binary (TRef.of (T := ⟨S64x4096x1, .i32⟩) main_v2) (TRef.of (T := ⟨S64x4096x1, .i32⟩) main_call2_v2) (TRef.of (T := ⟨S64x4096x1, .i32⟩) main_call2_v3) addi,
    TRef.ternary (TRef.of (T := ⟨S64x4096x1, .i1⟩) main_call2_v1) (TRef.of (T := ⟨S64x4096x1, .i32⟩) main_call2_v3) (TRef.of (T := ⟨S64x4096x1, .i32⟩) main_v2) (TRef.of (T := ⟨S64x4096x1, .i32⟩) main_call2_v4) select,
    TRef.reshape (TRef.of (T := ⟨S64x4096x1, .i32⟩) main_call2_v4) (TRef.of (T := ⟨S64x4096x1x1, .i32⟩) main_call2_v5) (rfl : (.i32 : EltTy) = .i32) shapeCasts_S64x4096x1_S64x4096x1x1,
    TRef.nullary (TRef.of (T := ⟨S1, .i32⟩) main_call2_c_1) (constantI S1 32 65#32),
    TRef.nullary (TRef.of (T := ⟨S_, .i32⟩) main_call2_c_2) (constantI S_ 32 0#32),
    TRef.unary (TRef.of (T := ⟨S_, .i32⟩) main_call2_c_2) (TRef.of (T := ⟨S64x4096x1x1, .i32⟩) main_call2_v6) (broadcastInDim S64x4096x1x1 ![] bcast_S_S64x4096x1x1),
    TRef.binary (TRef.of (T := ⟨S64x4096x1x1, .i32⟩) main_call2_v5) (TRef.of (T := ⟨S64x4096x1x1, .i32⟩) main_call2_v6) (TRef.of (T := ⟨S64x4096x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S64x4096x1x1, .i32⟩) main_call2_v9) (broadcastInDim S64x4096x1x1 ![0, 1, 2, 3] bcast_S1x1x1x1_S64x4096x1x1_0_1_2_3),
    TRef.binary (TRef.of (T := ⟨S64x4096x1x1, .i32⟩) main_call2_v5) (TRef.of (T := ⟨S64x4096x1x1, .i32⟩) main_call2_v9) (TRef.of (T := ⟨S64x4096x1x1, .i1⟩) main_call2_v10) (cmpi .sle),
    TRef.binary (TRef.of (T := ⟨S64x4096x1x1, .i1⟩) main_call2_v7) (TRef.of (T := ⟨S64x4096x1x1, .i1⟩) main_call2_v10) (TRef.of (T := ⟨S64x4096x1x1, .i1⟩) main_call2_v11) andi,
    TRef.nullary (TRef.of (T := ⟨S_, .i1⟩) main_call2_c_3) (constantI S_ 1 1#1),
    TRef.binary (TRef.of (T := ⟨S64x4096x1x1, .i1⟩) main_call2_v11) (TRef.of (T := ⟨S_, .i1⟩) main_call2_c_3) (TRef.of (T := ⟨S64x4096x1, .i1⟩) main_call2_v12) (fun x v => Host.reduce IntOp.andi x v reducesTo_S64x4096x1x1_S64x4096x1_d3 h_S_),
    TRef.binary (TRef.of (T := ⟨S64x4096x66, .f32⟩) main_v1) (TRef.of (T := ⟨S64x4096x1x1, .i32⟩) main_call2_v5) (TRef.of (T := ⟨S64x4096x1, .f32⟩) main_call2_v13) (fun x i => Host.gather gather_S64x4096x66_S64x4096x1x1_S64x4096x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S64x4096x1, .f32⟩) main_call2_v14) (broadcastInDim S64x4096x1 ![] bcast_S_S64x4096x1),
    TRef.ternary (TRef.of (T := ⟨S64x4096x1, .i1⟩) main_call2_v12) (TRef.of (T := ⟨S64x4096x1, .f32⟩) main_call2_v13) (TRef.of (T := ⟨S64x4096x1, .f32⟩) main_call2_v14) (TRef.of (T := ⟨S64x4096x1, .f32⟩) main_v3) select ]

/-- What those operations write, in order. -/
abbrev segTake_W : List (Ref sig .tc) := [main_v2, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v3]

/-- The operations of the cross-entropy averaged over the positions whose target is not codon 0. -/
def segCe : List (HloOp τ sig (Elt F)) :=
  [ reshape main_v3 main_v4 (rfl : (.f32 : EltTy) = .f32) shapeCasts_S64x4096x1_S64x4096,
    unary main_v4 main_v5 (Host.negf : (⟨S64x4096, .f32⟩ : BufTy).Contents (Elt F) → (⟨S64x4096, .f32⟩ : BufTy).Contents (Elt F)),
    nullary main_c_0 (constantI S_ 32 0#32),
    unary main_c_0 main_v6 (broadcastInDim S64x4096 ![] bcast_S_S64x4096 : (⟨S_, .i32⟩ : BufTy).Contents (Elt F) → (⟨S64x4096, .i32⟩ : BufTy).Contents (Elt F)),
    binary main_arg1 main_v6 main_v7 (cmpi .ne : (⟨S64x4096, .i32⟩ : BufTy).Contents (Elt F) → (⟨S64x4096, .i32⟩ : BufTy).Contents (Elt F) → (⟨S64x4096, .i1⟩ : BufTy).Contents (Elt F)),
    unary main_v7 main_v8 (uitofp .f32 : (⟨S64x4096, .i1⟩ : BufTy).Contents (Elt F) → (⟨S64x4096, .f32⟩ : BufTy).Contents (Elt F)),
    binary main_v5 main_v8 main_v9 (mulf : (⟨S64x4096, .f32⟩ : BufTy).Contents (Elt F) → (⟨S64x4096, .f32⟩ : BufTy).Contents (Elt F) → (⟨S64x4096, .f32⟩ : BufTy).Contents (Elt F)),
    nullary main_cst_1 (constant S_ .f32 0x00000000#32),
    binary main_v9 main_cst_1 main_v10 ((fun x v => Host.reduceAdd x v reducesTo_S64x4096_S_d0_1 h_S_) : (⟨S64x4096, .f32⟩ : BufTy).Contents (Elt F) → (⟨S_, .f32⟩ : BufTy).Contents (Elt F) → (⟨S_, .f32⟩ : BufTy).Contents (Elt F)),
    nullary main_cst_2 (constant S_ .f32 0x00000000#32),
    binary main_v8 main_cst_2 main_v11 ((fun x v => Host.reduceAdd x v reducesTo_S64x4096_S_d0_1 h_S_) : (⟨S64x4096, .f32⟩ : BufTy).Contents (Elt F) → (⟨S_, .f32⟩ : BufTy).Contents (Elt F) → (⟨S_, .f32⟩ : BufTy).Contents (Elt F)),
    nullary main_cst_3 (constant S_ .f32 0x3F800000#32),
    TRef.unary (TRef.of (T := ⟨S_, .f32⟩) main_cst_3) (TRef.of (T := ⟨S_, .f32⟩) main_call3_v0) id,
    TRef.binary (TRef.of (T := ⟨S_, .f32⟩) main_call3_v0) (TRef.of (T := ⟨S_, .f32⟩) main_v11) (TRef.of (T := ⟨S_, .f32⟩) main_v12) maximumf,
    binary main_v10 main_v12 main_v13 (Host.divf : (⟨S_, .f32⟩ : BufTy).Contents (Elt F) → (⟨S_, .f32⟩ : BufTy).Contents (Elt F) → (⟨S_, .f32⟩ : BufTy).Contents (Elt F)) ]

/-- What those operations write, in order. -/
abbrev segCe_W : List (Ref sig .tc) := [main_v4, main_v5, main_c_0, main_v6, main_v7, main_v8, main_v9, main_cst_1, main_v10, main_cst_2, main_v11, main_cst_3, main_call3_v0, main_v12, main_v13]

/-- The operations of the codon adaptation index of every sequence. -/
def segCaiP : List (HloOp τ sig (Elt F)) :=
  [ unary main_arg3 main_v14 (broadcastInDim S64x1 ![0] bcast_S64_S64x1_0 : (⟨S64, .i32⟩ : BufTy).Contents (Elt F) → (⟨S64x1, .i32⟩ : BufTy).Contents (Elt F)),
    nullary main_c_4 (constantI S_ 32 0#32),
    unary main_c_4 main_v15 (broadcastInDim S64x1 ![] bcast_S_S64x1 : (⟨S_, .i32⟩ : BufTy).Contents (Elt F) → (⟨S64x1, .i32⟩ : BufTy).Contents (Elt F)),
    binary main_v14 main_v15 main_v16 (cmpi .slt : (⟨S64x1, .i32⟩ : BufTy).Contents (Elt F) → (⟨S64x1, .i32⟩ : BufTy).Contents (Elt F) → (⟨S64x1, .i1⟩ : BufTy).Contents (Elt F)),
    nullary main_c_5 (constantI S_ 32 5#32),
    unary main_c_5 main_v17 (broadcastInDim S64x1 ![] bcast_S_S64x1 : (⟨S_, .i32⟩ : BufTy).Contents (Elt F) → (⟨S64x1, .i32⟩ : BufTy).Contents (Elt F)),
    binary main_v14 main_v17 main_v18 (addi : (⟨S64x1, .i32⟩ : BufTy).Contents (Elt F) → (⟨S64x1, .i32⟩ : BufTy).Contents (Elt F) → (⟨S64x1, .i32⟩ : BufTy).Contents (Elt F)),
    ternary main_v16 main_v18 main_v14 main_v19 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_6 (constantI S_ 32 0#32),
    unary main_c_6 main_v20 (broadcastInDim S64x4096 ![] bcast_S_S64x4096 : (⟨S_, .i32⟩ : BufTy).Contents (Elt F) → (⟨S64x4096, .i32⟩ : BufTy).Contents (Elt F)),
    binary main_v0 main_v20 main_v21 (cmpi .slt : (⟨S64x4096, .i32⟩ : BufTy).Contents (Elt F) → (⟨S64x4096, .i32⟩ : BufTy).Contents (Elt F) → (⟨S64x4096, .i1⟩ : BufTy).Contents (Elt F)),
    nullary main_c_7 (constantI S_ 32 66#32),
    unary main_c_7 main_v22 (broadcastInDim S64x4096 ![] bcast_S_S64x4096 : (⟨S_, .i32⟩ : BufTy).Contents (Elt F) → (⟨S64x4096, .i32⟩ : BufTy).Contents (Elt F)),
    binary main_v0 main_v22 main_v23 (addi : (⟨S64x4096, .i32⟩ : BufTy).Contents (Elt F) → (⟨S64x4096, .i32⟩ : BufTy).Contents (Elt F) → (⟨S64x4096, .i32⟩ : BufTy).Contents (Elt F)),
    ternary main_v21 main_v23 main_v0 main_v24 (select : (⟨S64x4096, .i1⟩ : BufTy).Contents (Elt F) → (⟨S64x4096, .i32⟩ : BufTy).Contents (Elt F) → (⟨S64x4096, .i32⟩ : BufTy).Contents (Elt F) → (⟨S64x4096, .i32⟩ : BufTy).Contents (Elt F)),
    unary main_v19 main_v25 (broadcastInDim S64x4096 ![0, 1] bcast_S64x1_S64x4096_0_1 : (⟨S64x1, .i32⟩ : BufTy).Contents (Elt F) → (⟨S64x4096, .i32⟩ : BufTy).Contents (Elt F)),
    unary main_v25 main_v26 (broadcastInDim S64x4096x1 ![0, 1] bcast_S64x4096_S64x4096x1_0_1 : (⟨S64x4096, .i32⟩ : BufTy).Contents (Elt F) → (⟨S64x4096x1, .i32⟩ : BufTy).Contents (Elt F)),
    unary main_v24 main_v27 (broadcastInDim S64x4096x1 ![0, 1] bcast_S64x4096_S64x4096x1_0_1 : (⟨S64x4096, .i32⟩ : BufTy).Contents (Elt F) → (⟨S64x4096x1, .i32⟩ : BufTy).Contents (Elt F)),
    binary main_v26 main_v27 main_v28 pairUp,
    binary main_arg5 main_v28 main_v29 ((fun x i => Host.gather gather_S5x66_S64x4096x2_S64x4096_n_01_n_n_01_2_11 x i) : (⟨S5x66, .f32⟩ : BufTy).Contents (Elt F) → (⟨S64x4096x2, .i32⟩ : BufTy).Contents (Elt F) → (⟨S64x4096, .f32⟩ : BufTy).Contents (Elt F)),
    nullary main_cst_8 (constant S_ .f32 0x322BCC77#32),
    TRef.unary (TRef.of (T := ⟨S_, .f32⟩) main_cst_8) (TRef.of (T := ⟨S_, .f32⟩) main_call4_v0) id,
    TRef.unary (TRef.of (T := ⟨S_, .f32⟩) main_call4_v0) (TRef.of (T := ⟨S64x4096, .f32⟩) main_call4_v1) (broadcastInDim S64x4096 ![] bcast_S_S64x4096),
    TRef.binary (TRef.of (T := ⟨S64x4096, .f32⟩) main_call4_v1) (TRef.of (T := ⟨S64x4096, .f32⟩) main_v29) (TRef.of (T := ⟨S64x4096, .f32⟩) main_v30) maximumf,
    unary main_v30 main_v31 (Host.log : (⟨S64x4096, .f32⟩ : BufTy).Contents (Elt F) → (⟨S64x4096, .f32⟩ : BufTy).Contents (Elt F)),
    unary main_arg4 main_v32 (uitofp .f32 : (⟨S64x4096, .i1⟩ : BufTy).Contents (Elt F) → (⟨S64x4096, .f32⟩ : BufTy).Contents (Elt F)),
    binary main_v31 main_v32 main_v33 (mulf : (⟨S64x4096, .f32⟩ : BufTy).Contents (Elt F) → (⟨S64x4096, .f32⟩ : BufTy).Contents (Elt F) → (⟨S64x4096, .f32⟩ : BufTy).Contents (Elt F)),
    nullary main_cst_9 (constant S_ .f32 0x00000000#32),
    binary main_v33 main_cst_9 main_v34 ((fun x v => Host.reduceAdd x v reducesTo_S64x4096_S64_d1 h_S_) : (⟨S64x4096, .f32⟩ : BufTy).Contents (Elt F) → (⟨S_, .f32⟩ : BufTy).Contents (Elt F) → (⟨S64, .f32⟩ : BufTy).Contents (Elt F)),
    nullary main_cst_10 (constant S_ .f32 0x00000000#32),
    binary main_v32 main_cst_10 main_v35 ((fun x v => Host.reduceAdd x v reducesTo_S64x4096_S64_d1 h_S_) : (⟨S64x4096, .f32⟩ : BufTy).Contents (Elt F) → (⟨S_, .f32⟩ : BufTy).Contents (Elt F) → (⟨S64, .f32⟩ : BufTy).Contents (Elt F)),
    nullary main_cst_11 (constant S_ .f32 0x3F800000#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S64, .f32⟩) main_call5_v1) (broadcastInDim S64 ![] bcast_S_S64),
    TRef.binary (TRef.of (T := ⟨S64, .f32⟩) main_call5_v1) (TRef.of (T := ⟨S64, .f32⟩) main_v35) (TRef.of (T := ⟨S64, .f32⟩) main_v36) maximumf,
    binary main_v34 main_v36 main_v37 (Host.divf : (⟨S64, .f32⟩ : BufTy).Contents (Elt F) → (⟨S64, .f32⟩ : BufTy).Contents (Elt F) → (⟨S64, .f32⟩ : BufTy).Contents (Elt F)),
    unary main_v37 main_v38 (Host.exp : (⟨S64, .f32⟩ : BufTy).Contents (Elt F) → (⟨S64, .f32⟩ : BufTy).Contents (Elt F)) ]

/-- What those operations write, in order. -/
abbrev segCaiP_W : List (Ref sig .tc) := [main_v14, main_c_4, main_v15, main_v16, main_c_5, main_v17, main_v18, main_v19, main_c_6, main_v20, main_v21, main_c_7, main_v22, main_v23, main_v24, main_v25, main_v26, main_v27, main_v28, main_v29, main_cst_8, main_call4_v0, main_call4_v1, main_v30, main_v31, main_v32, main_v33, main_cst_9, main_v34, main_cst_10, main_v35, main_cst_11, main_call5_v0, main_call5_v1, main_v36, main_v37, main_v38]

/-- The operations of the first operations of the same index for the targets. -/
def segCaiT1 : List (HloOp τ sig (Elt F)) :=
  [ unary main_arg3 main_v39 (broadcastInDim S64x1 ![0] bcast_S64_S64x1_0 : (⟨S64, .i32⟩ : BufTy).Contents (Elt F) → (⟨S64x1, .i32⟩ : BufTy).Contents (Elt F)),
    nullary main_c_12 (constantI S_ 32 0#32),
    unary main_c_12 main_v40 (broadcastInDim S64x1 ![] bcast_S_S64x1 : (⟨S_, .i32⟩ : BufTy).Contents (Elt F) → (⟨S64x1, .i32⟩ : BufTy).Contents (Elt F)),
    binary main_v39 main_v40 main_v41 (cmpi .slt : (⟨S64x1, .i32⟩ : BufTy).Contents (Elt F) → (⟨S64x1, .i32⟩ : BufTy).Contents (Elt F) → (⟨S64x1, .i1⟩ : BufTy).Contents (Elt F)),
    nullary main_c_13 (constantI S_ 32 5#32),
    unary main_c_13 main_v42 (broadcastInDim S64x1 ![] bcast_S_S64x1 : (⟨S_, .i32⟩ : BufTy).Contents (Elt F) → (⟨S64x1, .i32⟩ : BufTy).Contents (Elt F)),
    binary main_v39 main_v42 main_v43 (addi : (⟨S64x1, .i32⟩ : BufTy).Contents (Elt F) → (⟨S64x1, .i32⟩ : BufTy).Contents (Elt F) → (⟨S64x1, .i32⟩ : BufTy).Contents (Elt F)) ]

/-- What those operations write, in order. -/
abbrev segCaiT1_W : List (Ref sig .tc) := [main_v39, main_c_12, main_v40, main_v41, main_c_13, main_v42, main_v43]

/-- The operations of the other operations of the same index for the targets. -/
def segCaiT2 : List (HloOp τ sig (Elt F)) :=
  [ ternary main_v41 main_v43 main_v39 main_v44 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_14 (constantI S_ 32 0#32),
    unary main_c_14 main_v45 (broadcastInDim S64x4096 ![] bcast_S_S64x4096 : (⟨S_, .i32⟩ : BufTy).Contents (Elt F) → (⟨S64x4096, .i32⟩ : BufTy).Contents (Elt F)),
    binary main_arg1 main_v45 main_v46 (cmpi .slt : (⟨S64x4096, .i32⟩ : BufTy).Contents (Elt F) → (⟨S64x4096, .i32⟩ : BufTy).Contents (Elt F) → (⟨S64x4096, .i1⟩ : BufTy).Contents (Elt F)),
    nullary main_c_15 (constantI S_ 32 66#32),
    unary main_c_15 main_v47 (broadcastInDim S64x4096 ![] bcast_S_S64x4096 : (⟨S_, .i32⟩ : BufTy).Contents (Elt F) → (⟨S64x4096, .i32⟩ : BufTy).Contents (Elt F)),
    binary main_arg1 main_v47 main_v48 (addi : (⟨S64x4096, .i32⟩ : BufTy).Contents (Elt F) → (⟨S64x4096, .i32⟩ : BufTy).Contents (Elt F) → (⟨S64x4096, .i32⟩ : BufTy).Contents (Elt F)),
    ternary main_v46 main_v48 main_arg1 main_v49 (select : (⟨S64x4096, .i1⟩ : BufTy).Contents (Elt F) → (⟨S64x4096, .i32⟩ : BufTy).Contents (Elt F) → (⟨S64x4096, .i32⟩ : BufTy).Contents (Elt F) → (⟨S64x4096, .i32⟩ : BufTy).Contents (Elt F)),
    unary main_v44 main_v50 (broadcastInDim S64x4096 ![0, 1] bcast_S64x1_S64x4096_0_1 : (⟨S64x1, .i32⟩ : BufTy).Contents (Elt F) → (⟨S64x4096, .i32⟩ : BufTy).Contents (Elt F)),
    unary main_v50 main_v51 (broadcastInDim S64x4096x1 ![0, 1] bcast_S64x4096_S64x4096x1_0_1 : (⟨S64x4096, .i32⟩ : BufTy).Contents (Elt F) → (⟨S64x4096x1, .i32⟩ : BufTy).Contents (Elt F)),
    unary main_v49 main_v52 (broadcastInDim S64x4096x1 ![0, 1] bcast_S64x4096_S64x4096x1_0_1 : (⟨S64x4096, .i32⟩ : BufTy).Contents (Elt F) → (⟨S64x4096x1, .i32⟩ : BufTy).Contents (Elt F)),
    binary main_v51 main_v52 main_v53 pairUp,
    binary main_arg5 main_v53 main_v54 ((fun x i => Host.gather gather_S5x66_S64x4096x2_S64x4096_n_01_n_n_01_2_11 x i) : (⟨S5x66, .f32⟩ : BufTy).Contents (Elt F) → (⟨S64x4096x2, .i32⟩ : BufTy).Contents (Elt F) → (⟨S64x4096, .f32⟩ : BufTy).Contents (Elt F)),
    nullary main_cst_16 (constant S_ .f32 0x322BCC77#32),
    TRef.unary (TRef.of (T := ⟨S_, .f32⟩) main_cst_16) (TRef.of (T := ⟨S_, .f32⟩) main_call6_v0) id,
    TRef.unary (TRef.of (T := ⟨S_, .f32⟩) main_call6_v0) (TRef.of (T := ⟨S64x4096, .f32⟩) main_call6_v1) (broadcastInDim S64x4096 ![] bcast_S_S64x4096),
    TRef.binary (TRef.of (T := ⟨S64x4096, .f32⟩) main_call6_v1) (TRef.of (T := ⟨S64x4096, .f32⟩) main_v54) (TRef.of (T := ⟨S64x4096, .f32⟩) main_v55) maximumf,
    unary main_v55 main_v56 (Host.log : (⟨S64x4096, .f32⟩ : BufTy).Contents (Elt F) → (⟨S64x4096, .f32⟩ : BufTy).Contents (Elt F)),
    unary main_arg4 main_v57 (uitofp .f32 : (⟨S64x4096, .i1⟩ : BufTy).Contents (Elt F) → (⟨S64x4096, .f32⟩ : BufTy).Contents (Elt F)),
    binary main_v56 main_v57 main_v58 (mulf : (⟨S64x4096, .f32⟩ : BufTy).Contents (Elt F) → (⟨S64x4096, .f32⟩ : BufTy).Contents (Elt F) → (⟨S64x4096, .f32⟩ : BufTy).Contents (Elt F)),
    nullary main_cst_17 (constant S_ .f32 0x00000000#32),
    binary main_v58 main_cst_17 main_v59 ((fun x v => Host.reduceAdd x v reducesTo_S64x4096_S64_d1 h_S_) : (⟨S64x4096, .f32⟩ : BufTy).Contents (Elt F) → (⟨S_, .f32⟩ : BufTy).Contents (Elt F) → (⟨S64, .f32⟩ : BufTy).Contents (Elt F)),
    nullary main_cst_18 (constant S_ .f32 0x00000000#32),
    binary main_v57 main_cst_18 main_v60 ((fun x v => Host.reduceAdd x v reducesTo_S64x4096_S64_d1 h_S_) : (⟨S64x4096, .f32⟩ : BufTy).Contents (Elt F) → (⟨S_, .f32⟩ : BufTy).Contents (Elt F) → (⟨S64, .f32⟩ : BufTy).Contents (Elt F)),
    nullary main_cst_19 (constant S_ .f32 0x3F800000#32),
    TRef.unary (TRef.of (T := ⟨S_, .f32⟩) main_cst_19) (TRef.of (T := ⟨S_, .f32⟩) main_call7_v0) id,
    TRef.unary (TRef.of (T := ⟨S_, .f32⟩) main_call7_v0) (TRef.of (T := ⟨S64, .f32⟩) main_call7_v1) (broadcastInDim S64 ![] bcast_S_S64),
    TRef.binary (TRef.of (T := ⟨S64, .f32⟩) main_call7_v1) (TRef.of (T := ⟨S64, .f32⟩) main_v60) (TRef.of (T := ⟨S64, .f32⟩) main_v61) maximumf,
    binary main_v59 main_v61 main_v62 (Host.divf : (⟨S64, .f32⟩ : BufTy).Contents (Elt F) → (⟨S64, .f32⟩ : BufTy).Contents (Elt F) → (⟨S64, .f32⟩ : BufTy).Contents (Elt F)),
    unary main_v62 main_v63 (Host.exp : (⟨S64, .f32⟩ : BufTy).Contents (Elt F) → (⟨S64, .f32⟩ : BufTy).Contents (Elt F)) ]

/-- What those operations write, in order. -/
abbrev segCaiT2_W : List (Ref sig .tc) := [main_v44, main_c_14, main_v45, main_v46, main_c_15, main_v47, main_v48, main_v49, main_v50, main_v51, main_v52, main_v53, main_v54, main_cst_16, main_call6_v0, main_call6_v1, main_v55, main_v56, main_v57, main_v58, main_cst_17, main_v59, main_cst_18, main_v60, main_cst_19, main_call7_v0, main_call7_v1, main_v61, main_v62, main_v63]

/-- The operations of the mean over sequences of how far the target's index lies above the prediction's. -/
def segHinge : List (HloOp τ sig (Elt F)) :=
  [ binary main_v63 main_v38 main_v64 (subf : (⟨S64, .f32⟩ : BufTy).Contents (Elt F) → (⟨S64, .f32⟩ : BufTy).Contents (Elt F) → (⟨S64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S64, .f32⟩) main_call8_v0) (broadcastInDim S64 ![] bcast_S_S64),
    TRef.binary (TRef.of (T := ⟨S64, .f32⟩) main_v64) (TRef.of (T := ⟨S64, .f32⟩) main_call8_v0) (TRef.of (T := ⟨S64, .f32⟩) main_v65) maximumf,
    nullary main_cst_20 (constant S_ .f32 0x00000000#32),
    binary main_v65 main_cst_20 main_v66 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_21 (constant S_ .f32 0x42800000#32),
    binary main_v66 main_cst_21 main_v67 (Host.divf : (⟨S_, .f32⟩ : BufTy).Contents (Elt F) → (⟨S_, .f32⟩ : BufTy).Contents (Elt F) → (⟨S_, .f32⟩ : BufTy).Contents (Elt F)) ]

/-- What those operations write, in order. -/
abbrev segHinge_W : List (Ref sig .tc) := [main_v64, main_call8_cst, main_call8_v0, main_v65, main_cst_20, main_v66, main_cst_21, main_v67]

/-- The operations of the synonymous group of every position's codon. -/
def segGrpP : List (HloOp τ sig (Elt F)) :=
  [ TRef.nullary (TRef.of (T := ⟨S_, .i32⟩) main_call9_c) (constantI S_ 32 0#32),
    TRef.unary (TRef.of (T := ⟨S_, .i32⟩) main_call9_c) (TRef.of (T := ⟨S64x4096, .i32⟩) main_call9_v0) (broadcastInDim S64x4096 ![] bcast_S_S64x4096),
    TRef.binary (TRef.of (T := ⟨S64x4096, .i32⟩) main_v0) (TRef.of (T := ⟨S64x4096, .i32⟩) main_call9_v0) (TRef.of (T := ⟨S64x4096, .i1⟩) main_call9_v1) (cmpi .slt),
    TRef.nullary (TRef.of (T := ⟨S_, .i32⟩) main_call9_c_0) (constantI S_ 32 66#32),
    TRef.unary (TRef.of (T := ⟨S_, .i32⟩) main_call9_c_0) (TRef.of (T := ⟨S64x4096, .i32⟩) main_call9_v2) (broadcastInDim S64x4096 ![] bcast_S_S64x4096),
    TRef.binary (TRef.of (T := ⟨S64x4096, .i32⟩) main_v0) (TRef.of (T := ⟨S64x4096, .i32⟩) main_call9_v2) (TRef.of (T := ⟨S64x4096, .i32⟩) main_call9_v3) addi,
    TRef.ternary (TRef.of (T := ⟨S64x4096, .i1⟩) main_call9_v1) (TRef.of (T := ⟨S64x4096, .i32⟩) main_call9_v3) (TRef.of (T := ⟨S64x4096, .i32⟩) main_v0) (TRef.of (T := ⟨S64x4096, .i32⟩) main_call9_v4) select,
    TRef.unary (TRef.of (T := ⟨S64x4096, .i32⟩) main_call9_v4) (TRef.of (T := ⟨S64x4096x1, .i32⟩) main_call9_v5) (broadcastInDim S64x4096x1 ![0, 1] bcast_S64x4096_S64x4096x1_0_1),
    TRef.nullary (TRef.of (T := ⟨S1, .i32⟩) main_call9_c_1) (constantI S1 32 65#32),
    TRef.nullary (TRef.of (T := ⟨S_, .i32⟩) main_call9_c_2) (constantI S_ 32 0#32),
    TRef.unary (TRef.of (T := ⟨S_, .i32⟩) main_call9_c_2) (TRef.of (T := ⟨S64x4096x1, .i32⟩) main_call9_v6) (broadcastInDim S64x4096x1 ![] bcast_S_S64x4096x1),
    TRef.binary (TRef.of (T := ⟨S64x4096x1, .i32⟩) main_call9_v5) (TRef.of (T := ⟨S64x4096x1, .i32⟩) main_call9_v6) (TRef.of (T := ⟨S64x4096x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S64x4096x1, .i32⟩) main_call9_v9) (broadcastInDim S64x4096x1 ![0, 1, 2] bcast_S1x1x1_S64x4096x1_0_1_2),
    TRef.binary (TRef.of (T := ⟨S64x4096x1, .i32⟩) main_call9_v5) (TRef.of (T := ⟨S64x4096x1, .i32⟩) main_call9_v9) (TRef.of (T := ⟨S64x4096x1, .i1⟩) main_call9_v10) (cmpi .sle),
    TRef.binary (TRef.of (T := ⟨S64x4096x1, .i1⟩) main_call9_v7) (TRef.of (T := ⟨S64x4096x1, .i1⟩) main_call9_v10) (TRef.of (T := ⟨S64x4096x1, .i1⟩) main_call9_v11) andi,
    TRef.nullary (TRef.of (T := ⟨S_, .i1⟩) main_call9_c_3) (constantI S_ 1 1#1),
    TRef.binary (TRef.of (T := ⟨S64x4096x1, .i1⟩) main_call9_v11) (TRef.of (T := ⟨S_, .i1⟩) main_call9_c_3) (TRef.of (T := ⟨S64x4096, .i1⟩) main_call9_v12) (fun x v => Host.reduce IntOp.andi x v reducesTo_S64x4096x1_S64x4096_d2 h_S_),
    TRef.binary (TRef.of (T := ⟨S66, .i32⟩) main_c) (TRef.of (T := ⟨S64x4096x1, .i32⟩) main_call9_v5) (TRef.of (T := ⟨S64x4096, .i32⟩) main_call9_v13) (fun x i => Host.gather gather_S66_S64x4096x1_S64x4096_n_0_n_n_0_2_1 x i),
    TRef.nullary (TRef.of (T := ⟨S_, .i32⟩) main_call9_c_4) (constantI S_ 32 2147483648#32),
    TRef.unary (TRef.of (T := ⟨S_, .i32⟩) main_call9_c_4) (TRef.of (T := ⟨S64x4096, .i32⟩) main_call9_v14) (broadcastInDim S64x4096 ![] bcast_S_S64x4096),
    TRef.ternary (TRef.of (T := ⟨S64x4096, .i1⟩) main_call9_v12) (TRef.of (T := ⟨S64x4096, .i32⟩) main_call9_v13) (TRef.of (T := ⟨S64x4096, .i32⟩) main_call9_v14) (TRef.of (T := ⟨S64x4096, .i32⟩) main_v68) select ]

/-- What those operations write, in order. -/
abbrev segGrpP_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_c_4, main_call9_v14, main_v68]

/-- The operations of the first operations of the codon counts of the predictions. -/
def segCntP1 : List (HloOp τ sig (Elt F)) :=
  [ nullary main_c_22 (constantI S_ 32 0#32),
    unary main_c_22 main_v69 (broadcastInDim S64x4096 ![] bcast_S_S64x4096 : (⟨S_, .i32⟩ : BufTy).Contents (Elt F) → (⟨S64x4096, .i32⟩ : BufTy).Contents (Elt F)),
    binary main_v0 main_v69 main_v70 (cmpi .sgt : (⟨S64x4096, .i32⟩ : BufTy).Contents (Elt F) → (⟨S64x4096, .i32⟩ : BufTy).Contents (Elt F) → (⟨S64x4096, .i1⟩ : BufTy).Contents (Elt F)),
    binary main_arg4 main_v70 main_v71 (andi : (⟨S64x4096, .i1⟩ : BufTy).Contents (Elt F) → (⟨S64x4096, .i1⟩ : BufTy).Contents (Elt F) → (⟨S64x4096, .i1⟩ : BufTy).Contents (Elt F)),
    nullary main_c_23 (constantI S_ 32 21#32),
    unary main_c_23 main_v72 (broadcastInDim S64x4096 ![] bcast_S_S64x4096 : (⟨S_, .i32⟩ : BufTy).Contents (Elt F) → (⟨S64x4096, .i32⟩ : BufTy).Contents (Elt F)),
    binary main_v68 main_v72 main_v73 (cmpi .slt : (⟨S64x4096, .i32⟩ : BufTy).Contents (Elt F) → (⟨S64x4096, .i32⟩ : BufTy).Contents (Elt F) → (⟨S64x4096, .i1⟩ : BufTy).Contents (Elt F)),
    binary main_v71 main_v73 main_v74 (andi : (⟨S64x4096, .i1⟩ : BufTy).Contents (Elt F) → (⟨S64x4096, .i1⟩ : BufTy).Contents (Elt F) → (⟨S64x4096, .i1⟩ : BufTy).Contents (Elt F)),
    unary main_v74 main_v75 (uitofp .f32 : (⟨S64x4096, .i1⟩ : BufTy).Contents (Elt F) → (⟨S64x4096, .f32⟩ : BufTy).Contents (Elt F)),
    nullary main_cst_24 (constant S_ .f32 0x00000000#32),
    unary main_cst_24 main_v76 (broadcastInDim S64x66 ![] bcast_S_S64x66 : (⟨S_, .f32⟩ : BufTy).Contents (Elt F) → (⟨S64x66, .f32⟩ : BufTy).Contents (Elt F)),
    nullary main_v77 (iotaInDim S64 32 0),
    unary main_v77 main_v78 (broadcastInDim S64x1 ![0] bcast_S64_S64x1_0 : (⟨S64, .i32⟩ : BufTy).Contents (Elt F) → (⟨S64x1, .i32⟩ : BufTy).Contents (Elt F)),
    nullary main_c_25 (constantI S_ 32 0#32),
    unary main_c_25 main_v79 (broadcastInDim S64x1 ![] bcast_S_S64x1 : (⟨S_, .i32⟩ : BufTy).Contents (Elt F) → (⟨S64x1, .i32⟩ : BufTy).Contents (Elt F)),
    binary main_v78 main_v79 main_v80 (cmpi .slt : (⟨S64x1, .i32⟩ : BufTy).Contents (Elt F) → (⟨S64x1, .i32⟩ : BufTy).Contents (Elt F) → (⟨S64x1, .i1⟩ : BufTy).Contents (Elt F)),
    nullary main_c_26 (constantI S_ 32 64#32),
    unary main_c_26 main_v81 (broadcastInDim S64x1 ![] bcast_S_S64x1 : (⟨S_, .i32⟩ : BufTy).Contents (Elt F) → (⟨S64x1, .i32⟩ : BufTy).Contents (Elt F)),
    binary main_v78 main_v81 main_v82 (addi : (⟨S64x1, .i32⟩ : BufTy).Contents (Elt F) → (⟨S64x1, .i32⟩ : BufTy).Contents (Elt F) → (⟨S64x1, .i32⟩ : BufTy).Contents (Elt F)),
    ternary main_v80 main_v82 main_v78 main_v83 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_27 (constantI S_ 32 0#32),
    unary main_c_27 main_v84 (broadcastInDim S64x4096 ![] bcast_S_S64x4096 : (⟨S_, .i32⟩ : BufTy).Contents (Elt F) → (⟨S64x4096, .i32⟩ : BufTy).Contents (Elt F)),
    binary main_v0 main_v84 main_v85 (cmpi .slt : (⟨S64x4096, .i32⟩ : BufTy).Contents (Elt F) → (⟨S64x4096, .i32⟩ : BufTy).Contents (Elt F) → (⟨S64x4096, .i1⟩ : BufTy).Contents (Elt F)),
    nullary main_c_28 (constantI S_ 32 66#32),
    unary main_c_28 main_v86 (broadcastInDim S64x4096 ![] bcast_S_S64x4096 : (⟨S_, .i32⟩ : BufTy).Contents (Elt F) → (⟨S64x4096, .i32⟩ : BufTy).Contents (Elt F)),
    binary main_v0 main_v86 main_v87 (addi : (⟨S64x4096, .i32⟩ : BufTy).Contents (Elt F) → (⟨S64x4096, .i32⟩ : BufTy).Contents (Elt F) → (⟨S64x4096, .i32⟩ : BufTy).Contents (Elt F)),
    ternary main_v85 main_v87 main_v0 main_v88 (select : (⟨S64x4096, .i1⟩ : BufTy).Contents (Elt F) → (⟨S64x4096, .i32⟩ : BufTy).Contents (Elt F) → (⟨S64x4096, .i32⟩ : BufTy).Contents (Elt F) → (⟨S64x4096, .i32⟩ : BufTy).Contents (Elt F)) ]

/-- What those operations write, in order. -/
abbrev segCntP1_W : List (Ref sig .tc) := [main_c_22, main_v69, main_v70, main_v71, main_c_23, main_v72, main_v73, main_v74, main_v75, main_cst_24, main_v76, main_v77, main_v78, main_c_25, main_v79, main_v80, main_c_26, main_v81, main_v82, main_v83, main_c_27, main_v84, main_v85, main_c_28, main_v86, main_v87, main_v88]

/-- The operations of the other operations of the codon counts of the predictions. -/
def segCntP2 : List (HloOp τ sig (Elt F)) :=
  [ unary main_v83 main_v89 (broadcastInDim S64x4096 ![0, 1] bcast_S64x1_S64x4096_0_1 : (⟨S64x1, .i32⟩ : BufTy).Contents (Elt F) → (⟨S64x4096, .i32⟩ : BufTy).Contents (Elt F)),
    unary main_v89 main_v90 (broadcastInDim S64x4096x1 ![0, 1] bcast_S64x4096_S64x4096x1_0_1 : (⟨S64x4096, .i32⟩ : BufTy).Contents (Elt F) → (⟨S64x4096x1, .i32⟩ : BufTy).Contents (Elt F)),
    unary main_v88 main_v91 (broadcastInDim S64x4096x1 ![0, 1] bcast_S64x4096_S64x4096x1_0_1 : (⟨S64x4096, .i32⟩ : BufTy).Contents (Elt F) → (⟨S64x4096x1, .i32⟩ : BufTy).Contents (Elt F)),
    binary main_v90 main_v91 main_v92 pairUp,
    ternary main_v76 main_v92 main_v75 main_v93 ((fun x i u => Host.scatterAdd scatter_S64x66_S64x4096x2_S64x4096_n_01_01_2 x i u) : (⟨S64x66, .f32⟩ : BufTy).Contents (Elt F) → (⟨S64x4096x2, .i32⟩ : BufTy).Contents (Elt F) → (⟨S64x4096, .f32⟩ : BufTy).Contents (Elt F) → (⟨S64x66, .f32⟩ : BufTy).Contents (Elt F)) ]

/-- What those operations write, in order. -/
abbrev segCntP2_W : List (Ref sig .tc) := [main_v89, main_v90, main_v91, main_v92, main_v93]

/-- The operations of per sequence, the counts summed over each synonymous group. -/
def segTotP : List (HloOp τ sig (Elt F)) :=
  [ nullary main_cst_29 (constant S_ .f32 0x00000000#32),
    unary main_cst_29 main_v94 (broadcastInDim S64x22 ![] bcast_S_S64x22 : (⟨S_, .f32⟩ : BufTy).Contents (Elt F) → (⟨S64x22, .f32⟩ : BufTy).Contents (Elt F)),
    nullary main_c_30 (constantI S_ 32 0#32),
    unary main_c_30 main_v95 (broadcastInDim S66 ![] bcast_S_S66 : (⟨S_, .i32⟩ : BufTy).Contents (Elt F) → (⟨S66, .i32⟩ : BufTy).Contents (Elt F)),
    binary main_c main_v95 main_v96 (cmpi .slt : (⟨S66, .i32⟩ : BufTy).Contents (Elt F) → (⟨S66, .i32⟩ : BufTy).Contents (Elt F) → (⟨S66, .i1⟩ : BufTy).Contents (Elt F)),
    nullary main_c_31 (constantI S_ 32 22#32),
    unary main_c_31 main_v97 (broadcastInDim S66 ![] bcast_S_S66 : (⟨S_, .i32⟩ : BufTy).Contents (Elt F) → (⟨S66, .i32⟩ : BufTy).Contents (Elt F)),
    binary main_c main_v97 main_v98 (addi : (⟨S66, .i32⟩ : BufTy).Contents (Elt F) → (⟨S66, .i32⟩ : BufTy).Contents (Elt F) → (⟨S66, .i32⟩ : BufTy).Contents (Elt F)),
    ternary main_v96 main_v98 main_c main_v99 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    unary main_v99 main_v100 (broadcastInDim S66x1 ![0] bcast_S66_S66x1_0 : (⟨S66, .i32⟩ : BufTy).Contents (Elt F) → (⟨S66x1, .i32⟩ : BufTy).Contents (Elt F)),
    ternary main_v94 main_v100 main_v93 main_v101 ((fun x i u => Host.scatterAdd scatter_S64x22_S66x1_S64x66_0_1_1_1 x i u) : (⟨S64x22, .f32⟩ : BufTy).Contents (Elt F) → (⟨S66x1, .i32⟩ : BufTy).Contents (Elt F) → (⟨S64x66, .f32⟩ : BufTy).Contents (Elt F) → (⟨S64x22, .f32⟩ : BufTy).Contents (Elt F)) ]

/-- What those operations write, in order. -/
abbrev segTotP_W : List (Ref sig .tc) := [main_cst_29, main_v94, main_c_30, main_v95, main_v96, main_c_31, main_v97, main_v98, main_v99, main_v100, main_v101]

/-- The operations of per sequence and codon, the total of the codon's own group. -/
def segBackP : List (HloOp τ sig (Elt F)) :=
  [ TRef.nullary (TRef.of (T := ⟨S_, .i32⟩) main_call10_c) (constantI S_ 32 0#32),
    TRef.unary (TRef.of (T := ⟨S_, .i32⟩) main_call10_c) (TRef.of (T := ⟨S66, .i32⟩) main_call10_v0) (broadcastInDim S66 ![] bcast_S_S66),
    TRef.binary (TRef.of (T := ⟨S66, .i32⟩) main_c) (TRef.of (T := ⟨S66, .i32⟩) main_call10_v0) (TRef.of (T := ⟨S66, .i1⟩) main_call10_v1) (cmpi .slt),
    TRef.nullary (TRef.of (T := ⟨S_, .i32⟩) main_call10_c_0) (constantI S_ 32 22#32),
    TRef.unary (TRef.of (T := ⟨S_, .i32⟩) main_call10_c_0) (TRef.of (T := ⟨S66, .i32⟩) main_call10_v2) (broadcastInDim S66 ![] bcast_S_S66),
    TRef.binary (TRef.of (T := ⟨S66, .i32⟩) main_c) (TRef.of (T := ⟨S66, .i32⟩) main_call10_v2) (TRef.of (T := ⟨S66, .i32⟩) main_call10_v3) addi,
    TRef.ternary (TRef.of (T := ⟨S66, .i1⟩) main_call10_v1) (TRef.of (T := ⟨S66, .i32⟩) main_call10_v3) (TRef.of (T := ⟨S66, .i32⟩) main_c) (TRef.of (T := ⟨S66, .i32⟩) main_call10_v4) select,
    TRef.unary (TRef.of (T := ⟨S66, .i32⟩) main_call10_v4) (TRef.of (T := ⟨S66x1, .i32⟩) main_call10_v5) (broadcastInDim S66x1 ![0] bcast_S66_S66x1_0),
    TRef.nullary (TRef.of (T := ⟨S1, .i32⟩) main_call10_c_1) (constantI S1 32 21#32),
    TRef.nullary (TRef.of (T := ⟨S_, .i32⟩) main_call10_c_2) (constantI S_ 32 0#32),
    TRef.unary (TRef.of (T := ⟨S_, .i32⟩) main_call10_c_2) (TRef.of (T := ⟨S66x1, .i32⟩) main_call10_v6) (broadcastInDim S66x1 ![] bcast_S_S66x1),
    TRef.binary (TRef.of (T := ⟨S66x1, .i32⟩) main_call10_v5) (TRef.of (T := ⟨S66x1, .i32⟩) main_call10_v6) (TRef.of (T := ⟨S66x1, .i1⟩) main_call10_v7) (cmpi .sge),
    TRef.unary (TRef.of (T := ⟨S1, .i32⟩) main_call10_c_1) (TRef.of (T := ⟨S1x1, .i32⟩) main_call10_v8) (broadcastInDim S1x1 ![1] bcast_S1_S1x1_1),
    TRef.unary (TRef.of (T := ⟨S1x1, .i32⟩) main_call10_v8) (TRef.of (T := ⟨S66x1, .i32⟩) main_call10_v9) (broadcastInDim S66x1 ![0, 1] bcast_S1x1_S66x1_0_1),
    TRef.binary (TRef.of (T := ⟨S66x1, .i32⟩) main_call10_v5) (TRef.of (T := ⟨S66x1, .i32⟩) main_call10_v9) (TRef.of (T := ⟨S66x1, .i1⟩) main_call10_v10) (cmpi .sle),
    TRef.binary (TRef.of (T := ⟨S66x1, .i1⟩) main_call10_v7) (TRef.of (T := ⟨S66x1, .i1⟩) main_call10_v10) (TRef.of (T := ⟨S66x1, .i1⟩) main_call10_v11) andi,
    TRef.nullary (TRef.of (T := ⟨S_, .i1⟩) main_call10_c_3) (constantI S_ 1 1#1),
    TRef.binary (TRef.of (T := ⟨S66x1, .i1⟩) main_call10_v11) (TRef.of (T := ⟨S_, .i1⟩) main_call10_c_3) (TRef.of (T := ⟨S66, .i1⟩) main_call10_v12) (fun x v => Host.reduce IntOp.andi x v reducesTo_S66x1_S66_d1 h_S_),
    TRef.binary (TRef.of (T := ⟨S64x22, .f32⟩) main_v101) (TRef.of (T := ⟨S66x1, .i32⟩) main_call10_v5) (TRef.of (T := ⟨S64x66, .f32⟩) main_call10_v13) (fun x i => Host.gather gather_S64x22_S66x1_S64x66_0_1_n_n_1_1_641 x i),
    TRef.unary (TRef.of (T := ⟨S66, .i1⟩) main_call10_v12) (TRef.of (T := ⟨S64x66, .i1⟩) main_call10_v14) (broadcastInDim S64x66 ![1] bcast_S66_S64x66_1),
    TRef.nullary (TRef.of (T := ⟨S_, .f32⟩) main_call10_cst) (constant S_ .f32 0x7FC00000#32),
    TRef.unary (TRef.of (T := ⟨S_, .f32⟩) main_call10_cst) (TRef.of (T := ⟨S64x66, .f32⟩) main_call10_v15) (broadcastInDim S64x66 ![] bcast_S_S64x66),
    TRef.ternary (TRef.of (T := ⟨S64x66, .i1⟩) main_call10_v14) (TRef.of (T := ⟨S64x66, .f32⟩) main_call10_v13) (TRef.of (T := ⟨S64x66, .f32⟩) main_call10_v15) (TRef.of (T := ⟨S64x66, .f32⟩) main_v102) select ]

/-- What those operations write, in order. -/
abbrev segBackP_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v102]

/-- The operations of the relative synonymous codon usage from counts and totals. -/
def segRatioP : List (HloOp τ sig (Elt F)) :=
  [ nullary main_cst_32 (constant S_ .f32 0x00000000#32),
    unary main_cst_32 main_v103 (broadcastInDim S64x66 ![] bcast_S_S64x66 : (⟨S_, .f32⟩ : BufTy).Contents (Elt F) → (⟨S64x66, .f32⟩ : BufTy).Contents (Elt F)),
    binary main_v102 main_v103 main_v104 (cmpf .ogt : (⟨S64x66, .f32⟩ : BufTy).Contents (Elt F) → (⟨S64x66, .f32⟩ : BufTy).Contents (Elt F) → (⟨S64x66, .i1⟩ : BufTy).Contents (Elt F)),
    unary main_cst main_v105 (broadcastInDim S1x66 ![1] bcast_S66_S1x66_1 : (⟨S66, .f32⟩ : BufTy).Contents (Elt F) → (⟨S1x66, .f32⟩ : BufTy).Contents (Elt F)),
    unary main_v105 main_v106 (broadcastInDim S64x66 ![0, 1] bcast_S1x66_S64x66_0_1 : (⟨S1x66, .f32⟩ : BufTy).Contents (Elt F) → (⟨S64x66, .f32⟩ : BufTy).Contents (Elt F)),
    binary main_v93 main_v106 main_v107 (mulf : (⟨S64x66, .f32⟩ : BufTy).Contents (Elt F) → (⟨S64x66, .f32⟩ : BufTy).Contents (Elt F) → (⟨S64x66, .f32⟩ : BufTy).Contents (Elt F)),
    nullary main_cst_33 (constant S_ .f32 0x322BCC77#32),
    unary main_cst_33 main_v108 (broadcastInDim S64x66 ![] bcast_S_S64x66 : (⟨S_, .f32⟩ : BufTy).Contents (Elt F) → (⟨S64x66, .f32⟩ : BufTy).Contents (Elt F)),
    binary main_v102 main_v108 main_v109 (maximumf : (⟨S64x66, .f32⟩ : BufTy).Contents (Elt F) → (⟨S64x66, .f32⟩ : BufTy).Contents (Elt F) → (⟨S64x66, .f32⟩ : BufTy).Contents (Elt F)),
    binary main_v107 main_v109 main_v110 (Host.divf : (⟨S64x66, .f32⟩ : BufTy).Contents (Elt F) → (⟨S64x66, .f32⟩ : BufTy).Contents (Elt F) → (⟨S64x66, .f32⟩ : BufTy).Contents (Elt F)),
    nullary main_cst_34 (constant S_ .f32 0x00000000#32),
    TRef.unary (TRef.of (T := ⟨S_, .f32⟩) main_cst_34) (TRef.of (T := ⟨S_, .f32⟩) main_call11_v0) id,
    TRef.unary (TRef.of (T := ⟨S_, .f32⟩) main_call11_v0) (TRef.of (T := ⟨S64x66, .f32⟩) main_call11_v1) (broadcastInDim S64x66 ![] bcast_S_S64x66),
    TRef.ternary (TRef.of (T := ⟨S64x66, .i1⟩) main_v104) (TRef.of (T := ⟨S64x66, .f32⟩) main_v110) (TRef.of (T := ⟨S64x66, .f32⟩) main_call11_v1) (TRef.of (T := ⟨S64x66, .f32⟩) main_v111) select ]

/-- What those operations write, in order. -/
abbrev segRatioP_W : List (Ref sig .tc) := [main_cst_32, main_v103, main_v104, main_v105, main_v106, main_v107, main_cst_33, main_v108, main_v109, main_v110, main_cst_34, main_call11_v0, main_call11_v1, main_v111]

/-- The operations of the groups of the targets. -/
def segGrpT : List (HloOp τ sig (Elt F)) :=
  [ TRef.nullary (TRef.of (T := ⟨S_, .i32⟩) main_call12_c) (constantI S_ 32 0#32),
    TRef.unary (TRef.of (T := ⟨S_, .i32⟩) main_call12_c) (TRef.of (T := ⟨S64x4096, .i32⟩) main_call12_v0) (broadcastInDim S64x4096 ![] bcast_S_S64x4096),
    TRef.binary (TRef.of (T := ⟨S64x4096, .i32⟩) main_arg1) (TRef.of (T := ⟨S64x4096, .i32⟩) main_call12_v0) (TRef.of (T := ⟨S64x4096, .i1⟩) main_call12_v1) (cmpi .slt),
    TRef.nullary (TRef.of (T := ⟨S_, .i32⟩) main_call12_c_0) (constantI S_ 32 66#32),
    TRef.unary (TRef.of (T := ⟨S_, .i32⟩) main_call12_c_0) (TRef.of (T := ⟨S64x4096, .i32⟩) main_call12_v2) (broadcastInDim S64x4096 ![] bcast_S_S64x4096),
    TRef.binary (TRef.of (T := ⟨S64x4096, .i32⟩) main_arg1) (TRef.of (T := ⟨S64x4096, .i32⟩) main_call12_v2) (TRef.of (T := ⟨S64x4096, .i32⟩) main_call12_v3) addi,
    TRef.ternary (TRef.of (T := ⟨S64x4096, .i1⟩) main_call12_v1) (TRef.of (T := ⟨S64x4096, .i32⟩) main_call12_v3) (TRef.of (T := ⟨S64x4096, .i32⟩) main_arg1) (TRef.of (T := ⟨S64x4096, .i32⟩) main_call12_v4) select,
    TRef.unary (TRef.of (T := ⟨S64x4096, .i32⟩) main_call12_v4) (TRef.of (T := ⟨S64x4096x1, .i32⟩) main_call12_v5) (broadcastInDim S64x4096x1 ![0, 1] bcast_S64x4096_S64x4096x1_0_1),
    TRef.nullary (TRef.of (T := ⟨S1, .i32⟩) main_call12_c_1) (constantI S1 32 65#32),
    TRef.nullary (TRef.of (T := ⟨S_, .i32⟩) main_call12_c_2) (constantI S_ 32 0#32),
    TRef.unary (TRef.of (T := ⟨S_, .i32⟩) main_call12_c_2) (TRef.of (T := ⟨S64x4096x1, .i32⟩) main_call12_v6) (broadcastInDim S64x4096x1 ![] bcast_S_S64x4096x1),
    TRef.binary (TRef.of (T := ⟨S64x4096x1, .i32⟩) main_call12_v5) (TRef.of (T := ⟨S64x4096x1, .i32⟩) main_call12_v6) (TRef.of (T := ⟨S64x4096x1, .i1⟩) main_call12_v7) (cmpi .sge),
    TRef.unary (TRef.of (T := ⟨S1, .i32⟩) main_call12_c_1) (TRef.of (T := ⟨S1x1x1, .i32⟩) main_call12_v8) (broadcastInDim S1x1x1 ![2] bcast_S1_S1x1x1_2),
    TRef.unary (TRef.of (T := ⟨S1x1x1, .i32⟩) main_call12_v8) (TRef.of (T := ⟨S64x4096x1, .i32⟩) main_call12_v9) (broadcastInDim S64x4096x1 ![0, 1, 2] bcast_S1x1x1_S64x4096x1_0_1_2),
    TRef.binary (TRef.of (T := ⟨S64x4096x1, .i32⟩) main_call12_v5) (TRef.of (T := ⟨S64x4096x1, .i32⟩) main_call12_v9) (TRef.of (T := ⟨S64x4096x1, .i1⟩) main_call12_v10) (cmpi .sle),
    TRef.binary (TRef.of (T := ⟨S64x4096x1, .i1⟩) main_call12_v7) (TRef.of (T := ⟨S64x4096x1, .i1⟩) main_call12_v10) (TRef.of (T := ⟨S64x4096x1, .i1⟩) main_call12_v11) andi,
    TRef.nullary (TRef.of (T := ⟨S_, .i1⟩) main_call12_c_3) (constantI S_ 1 1#1),
    TRef.binary (TRef.of (T := ⟨S64x4096x1, .i1⟩) main_call12_v11) (TRef.of (T := ⟨S_, .i1⟩) main_call12_c_3) (TRef.of (T := ⟨S64x4096, .i1⟩) main_call12_v12) (fun x v => Host.reduce IntOp.andi x v reducesTo_S64x4096x1_S64x4096_d2 h_S_),
    TRef.binary (TRef.of (T := ⟨S66, .i32⟩) main_c) (TRef.of (T := ⟨S64x4096x1, .i32⟩) main_call12_v5) (TRef.of (T := ⟨S64x4096, .i32⟩) main_call12_v13) (fun x i => Host.gather gather_S66_S64x4096x1_S64x4096_n_0_n_n_0_2_1 x i),
    TRef.nullary (TRef.of (T := ⟨S_, .i32⟩) main_call12_c_4) (constantI S_ 32 2147483648#32),
    TRef.unary (TRef.of (T := ⟨S_, .i32⟩) main_call12_c_4) (TRef.of (T := ⟨S64x4096, .i32⟩) main_call12_v14) (broadcastInDim S64x4096 ![] bcast_S_S64x4096),
    TRef.ternary (TRef.of (T := ⟨S64x4096, .i1⟩) main_call12_v12) (TRef.of (T := ⟨S64x4096, .i32⟩) main_call12_v13) (TRef.of (T := ⟨S64x4096, .i32⟩) main_call12_v14) (TRef.of (T := ⟨S64x4096, .i32⟩) main_v112) select ]

/-- What those operations write, in order. -/
abbrev segGrpT_W : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_c_4, main_call12_v14, main_v112]

/-- The operations of the first operations of the codon counts of the targets. -/
def segCntT1 : List (HloOp τ sig (Elt F)) :=
  [ nullary main_c_35 (constantI S_ 32 0#32),
    unary main_c_35 main_v113 (broadcastInDim S64x4096 ![] bcast_S_S64x4096 : (⟨S_, .i32⟩ : BufTy).Contents (Elt F) → (⟨S64x4096, .i32⟩ : BufTy).Contents (Elt F)),
    binary main_arg1 main_v113 main_v114 (cmpi .sgt : (⟨S64x4096, .i32⟩ : BufTy).Contents (Elt F) → (⟨S64x4096, .i32⟩ : BufTy).Contents (Elt F) → (⟨S64x4096, .i1⟩ : BufTy).Contents (Elt F)),
    binary main_arg4 main_v114 main_v115 (andi : (⟨S64x4096, .i1⟩ : BufTy).Contents (Elt F) → (⟨S64x4096, .i1⟩ : BufTy).Contents (Elt F) → (⟨S64x4096, .i1⟩ : BufTy).Contents (Elt F)),
    nullary main_c_36 (constantI S_ 32 21#32),
    unary main_c_36 main_v116 (broadcastInDim S64x4096 ![] bcast_S_S64x4096 : (⟨S_, .i32⟩ : BufTy).Contents (Elt F) → (⟨S64x4096, .i32⟩ : BufTy).Contents (Elt F)),
    binary main_v112 main_v116 main_v117 (cmpi .slt : (⟨S64x4096, .i32⟩ : BufTy).Contents (Elt F) → (⟨S64x4096, .i32⟩ : BufTy).Contents (Elt F) → (⟨S64x4096, .i1⟩ : BufTy).Contents (Elt F)),
    binary main_v115 main_v117 main_v118 (andi : (⟨S64x4096, .i1⟩ : BufTy).Contents (Elt F) → (⟨S64x4096, .i1⟩ : BufTy).Contents (Elt F) → (⟨S64x4096, .i1⟩ : BufTy).Contents (Elt F)),
    unary main_v118 main_v119 (uitofp .f32 : (⟨S64x4096, .i1⟩ : BufTy).Contents (Elt F) → (⟨S64x4096, .f32⟩ : BufTy).Contents (Elt F)),
    nullary main_cst_37 (constant S_ .f32 0x00000000#32),
    unary main_cst_37 main_v120 (broadcastInDim S64x66 ![] bcast_S_S64x66 : (⟨S_, .f32⟩ : BufTy).Contents (Elt F) → (⟨S64x66, .f32⟩ : BufTy).Contents (Elt F)),
    nullary main_v121 (iotaInDim S64 32 0),
    unary main_v121 main_v122 (broadcastInDim S64x1 ![0] bcast_S64_S64x1_0 : (⟨S64, .i32⟩ : BufTy).Contents (Elt F) → (⟨S64x1, .i32⟩ : BufTy).Contents (Elt F)),
    nullary main_c_38 (constantI S_ 32 0#32),
    unary main_c_38 main_v123 (broadcastInDim S64x1 ![] bcast_S_S64x1 : (⟨S_, .i32⟩ : BufTy).Contents (Elt F) → (⟨S64x1, .i32⟩ : BufTy).Contents (Elt F)),
    binary main_v122 main_v123 main_v124 (cmpi .slt : (⟨S64x1, .i32⟩ : BufTy).Contents (Elt F) → (⟨S64x1, .i32⟩ : BufTy).Contents (Elt F) → (⟨S64x1, .i1⟩ : BufTy).Contents (Elt F)),
    nullary main_c_39 (constantI S_ 32 64#32),
    unary main_c_39 main_v125 (broadcastInDim S64x1 ![] bcast_S_S64x1 : (⟨S_, .i32⟩ : BufTy).Contents (Elt F) → (⟨S64x1, .i32⟩ : BufTy).Contents (Elt F)),
    binary main_v122 main_v125 main_v126 (addi : (⟨S64x1, .i32⟩ : BufTy).Contents (Elt F) → (⟨S64x1, .i32⟩ : BufTy).Contents (Elt F) → (⟨S64x1, .i32⟩ : BufTy).Contents (Elt F)),
    ternary main_v124 main_v126 main_v122 main_v127 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_40 (constantI S_ 32 0#32),
    unary main_c_40 main_v128 (broadcastInDim S64x4096 ![] bcast_S_S64x4096 : (⟨S_, .i32⟩ : BufTy).Contents (Elt F) → (⟨S64x4096, .i32⟩ : BufTy).Contents (Elt F)),
    binary main_arg1 main_v128 main_v129 (cmpi .slt : (⟨S64x4096, .i32⟩ : BufTy).Contents (Elt F) → (⟨S64x4096, .i32⟩ : BufTy).Contents (Elt F) → (⟨S64x4096, .i1⟩ : BufTy).Contents (Elt F)),
    nullary main_c_41 (constantI S_ 32 66#32),
    unary main_c_41 main_v130 (broadcastInDim S64x4096 ![] bcast_S_S64x4096 : (⟨S_, .i32⟩ : BufTy).Contents (Elt F) → (⟨S64x4096, .i32⟩ : BufTy).Contents (Elt F)),
    binary main_arg1 main_v130 main_v131 (addi : (⟨S64x4096, .i32⟩ : BufTy).Contents (Elt F) → (⟨S64x4096, .i32⟩ : BufTy).Contents (Elt F) → (⟨S64x4096, .i32⟩ : BufTy).Contents (Elt F)),
    ternary main_v129 main_v131 main_arg1 main_v132 (select : (⟨S64x4096, .i1⟩ : BufTy).Contents (Elt F) → (⟨S64x4096, .i32⟩ : BufTy).Contents (Elt F) → (⟨S64x4096, .i32⟩ : BufTy).Contents (Elt F) → (⟨S64x4096, .i32⟩ : BufTy).Contents (Elt F)),
    unary main_v127 main_v133 (broadcastInDim S64x4096 ![0, 1] bcast_S64x1_S64x4096_0_1 : (⟨S64x1, .i32⟩ : BufTy).Contents (Elt F) → (⟨S64x4096, .i32⟩ : BufTy).Contents (Elt F)),
    unary main_v133 main_v134 (broadcastInDim S64x4096x1 ![0, 1] bcast_S64x4096_S64x4096x1_0_1 : (⟨S64x4096, .i32⟩ : BufTy).Contents (Elt F) → (⟨S64x4096x1, .i32⟩ : BufTy).Contents (Elt F)),
    unary main_v132 main_v135 (broadcastInDim S64x4096x1 ![0, 1] bcast_S64x4096_S64x4096x1_0_1 : (⟨S64x4096, .i32⟩ : BufTy).Contents (Elt F) → (⟨S64x4096x1, .i32⟩ : BufTy).Contents (Elt F)) ]

/-- What those operations write, in order. -/
abbrev segCntT1_W : List (Ref sig .tc) := [main_c_35, main_v113, main_v114, main_v115, main_c_36, main_v116, main_v117, main_v118, main_v119, main_cst_37, main_v120, main_v121, main_v122, main_c_38, main_v123, main_v124, main_c_39, main_v125, main_v126, main_v127, main_c_40, main_v128, main_v129, main_c_41, main_v130, main_v131, main_v132, main_v133, main_v134, main_v135]

/-- The operations of the other operations of the codon counts of the targets. -/
def segCntT2 : List (HloOp τ sig (Elt F)) :=
  [ binary main_v134 main_v135 main_v136 pairUp,
    ternary main_v120 main_v136 main_v119 main_v137 ((fun x i u => Host.scatterAdd scatter_S64x66_S64x4096x2_S64x4096_n_01_01_2 x i u) : (⟨S64x66, .f32⟩ : BufTy).Contents (Elt F) → (⟨S64x4096x2, .i32⟩ : BufTy).Contents (Elt F) → (⟨S64x4096, .f32⟩ : BufTy).Contents (Elt F) → (⟨S64x66, .f32⟩ : BufTy).Contents (Elt F)) ]

/-- What those operations write, in order. -/
abbrev segCntT2_W : List (Ref sig .tc) := [main_v136, main_v137]

/-- The operations of the group totals of the targets. -/
def segTotT : List (HloOp τ sig (Elt F)) :=
  [ nullary main_cst_42 (constant S_ .f32 0x00000000#32),
    unary main_cst_42 main_v138 (broadcastInDim S64x22 ![] bcast_S_S64x22 : (⟨S_, .f32⟩ : BufTy).Contents (Elt F) → (⟨S64x22, .f32⟩ : BufTy).Contents (Elt F)),
    nullary main_c_43 (constantI S_ 32 0#32),
    unary main_c_43 main_v139 (broadcastInDim S66 ![] bcast_S_S66 : (⟨S_, .i32⟩ : BufTy).Contents (Elt F) → (⟨S66, .i32⟩ : BufTy).Contents (Elt F)),
    binary main_c main_v139 main_v140 (cmpi .slt : (⟨S66, .i32⟩ : BufTy).Contents (Elt F) → (⟨S66, .i32⟩ : BufTy).Contents (Elt F) → (⟨S66, .i1⟩ : BufTy).Contents (Elt F)),
    nullary main_c_44 (constantI S_ 32 22#32),
    unary main_c_44 main_v141 (broadcastInDim S66 ![] bcast_S_S66 : (⟨S_, .i32⟩ : BufTy).Contents (Elt F) → (⟨S66, .i32⟩ : BufTy).Contents (Elt F)),
    binary main_c main_v141 main_v142 (addi : (⟨S66, .i32⟩ : BufTy).Contents (Elt F) → (⟨S66, .i32⟩ : BufTy).Contents (Elt F) → (⟨S66, .i32⟩ : BufTy).Contents (Elt F)),
    ternary main_v140 main_v142 main_c main_v143 (select : (⟨S66, .i1⟩ : BufTy).Contents (Elt F) → (⟨S66, .i32⟩ : BufTy).Contents (Elt F) → (⟨S66, .i32⟩ : BufTy).Contents (Elt F) → (⟨S66, .i32⟩ : BufTy).Contents (Elt F)),
    unary main_v143 main_v144 (broadcastInDim S66x1 ![0] bcast_S66_S66x1_0 : (⟨S66, .i32⟩ : BufTy).Contents (Elt F) → (⟨S66x1, .i32⟩ : BufTy).Contents (Elt F)),
    ternary main_v138 main_v144 main_v137 main_v145 ((fun x i u => Host.scatterAdd scatter_S64x22_S66x1_S64x66_0_1_1_1 x i u) : (⟨S64x22, .f32⟩ : BufTy).Contents (Elt F) → (⟨S66x1, .i32⟩ : BufTy).Contents (Elt F) → (⟨S64x66, .f32⟩ : BufTy).Contents (Elt F) → (⟨S64x22, .f32⟩ : BufTy).Contents (Elt F)) ]

/-- What those operations write, in order. -/
abbrev segTotT_W : List (Ref sig .tc) := [main_cst_42, main_v138, main_c_43, main_v139, main_v140, main_c_44, main_v141, main_v142, main_v143, main_v144, main_v145]

/-- The operations of the totals taken back to the codons, for the targets. -/
def segBackT : List (HloOp τ sig (Elt F)) :=
  [ TRef.nullary (TRef.of (T := ⟨S_, .i32⟩) main_call13_c) (constantI S_ 32 0#32),
    TRef.unary (TRef.of (T := ⟨S_, .i32⟩) main_call13_c) (TRef.of (T := ⟨S66, .i32⟩) main_call13_v0) (broadcastInDim S66 ![] bcast_S_S66),
    TRef.binary (TRef.of (T := ⟨S66, .i32⟩) main_c) (TRef.of (T := ⟨S66, .i32⟩) main_call13_v0) (TRef.of (T := ⟨S66, .i1⟩) main_call13_v1) (cmpi .slt),
    TRef.nullary (TRef.of (T := ⟨S_, .i32⟩) main_call13_c_0) (constantI S_ 32 22#32),
    TRef.unary (TRef.of (T := ⟨S_, .i32⟩) main_call13_c_0) (TRef.of (T := ⟨S66, .i32⟩) main_call13_v2) (broadcastInDim S66 ![] bcast_S_S66),
    TRef.binary (TRef.of (T := ⟨S66, .i32⟩) main_c) (TRef.of (T := ⟨S66, .i32⟩) main_call13_v2) (TRef.of (T := ⟨S66, .i32⟩) main_call13_v3) addi,
    TRef.ternary (TRef.of (T := ⟨S66, .i1⟩) main_call13_v1) (TRef.of (T := ⟨S66, .i32⟩) main_call13_v3) (TRef.of (T := ⟨S66, .i32⟩) main_c) (TRef.of (T := ⟨S66, .i32⟩) main_call13_v4) select,
    TRef.unary (TRef.of (T := ⟨S66, .i32⟩) main_call13_v4) (TRef.of (T := ⟨S66x1, .i32⟩) main_call13_v5) (broadcastInDim S66x1 ![0] bcast_S66_S66x1_0),
    TRef.nullary (TRef.of (T := ⟨S1, .i32⟩) main_call13_c_1) (constantI S1 32 21#32),
    TRef.nullary (TRef.of (T := ⟨S_, .i32⟩) main_call13_c_2) (constantI S_ 32 0#32),
    TRef.unary (TRef.of (T := ⟨S_, .i32⟩) main_call13_c_2) (TRef.of (T := ⟨S66x1, .i32⟩) main_call13_v6) (broadcastInDim S66x1 ![] bcast_S_S66x1),
    TRef.binary (TRef.of (T := ⟨S66x1, .i32⟩) main_call13_v5) (TRef.of (T := ⟨S66x1, .i32⟩) main_call13_v6) (TRef.of (T := ⟨S66x1, .i1⟩) main_call13_v7) (cmpi .sge),
    TRef.unary (TRef.of (T := ⟨S1, .i32⟩) main_call13_c_1) (TRef.of (T := ⟨S1x1, .i32⟩) main_call13_v8) (broadcastInDim S1x1 ![1] bcast_S1_S1x1_1),
    TRef.unary (TRef.of (T := ⟨S1x1, .i32⟩) main_call13_v8) (TRef.of (T := ⟨S66x1, .i32⟩) main_call13_v9) (broadcastInDim S66x1 ![0, 1] bcast_S1x1_S66x1_0_1),
    TRef.binary (TRef.of (T := ⟨S66x1, .i32⟩) main_call13_v5) (TRef.of (T := ⟨S66x1, .i32⟩) main_call13_v9) (TRef.of (T := ⟨S66x1, .i1⟩) main_call13_v10) (cmpi .sle),
    TRef.binary (TRef.of (T := ⟨S66x1, .i1⟩) main_call13_v7) (TRef.of (T := ⟨S66x1, .i1⟩) main_call13_v10) (TRef.of (T := ⟨S66x1, .i1⟩) main_call13_v11) andi,
    TRef.nullary (TRef.of (T := ⟨S_, .i1⟩) main_call13_c_3) (constantI S_ 1 1#1),
    TRef.binary (TRef.of (T := ⟨S66x1, .i1⟩) main_call13_v11) (TRef.of (T := ⟨S_, .i1⟩) main_call13_c_3) (TRef.of (T := ⟨S66, .i1⟩) main_call13_v12) (fun x v => Host.reduce IntOp.andi x v reducesTo_S66x1_S66_d1 h_S_),
    TRef.binary (TRef.of (T := ⟨S64x22, .f32⟩) main_v145) (TRef.of (T := ⟨S66x1, .i32⟩) main_call13_v5) (TRef.of (T := ⟨S64x66, .f32⟩) main_call13_v13) (fun x i => Host.gather gather_S64x22_S66x1_S64x66_0_1_n_n_1_1_641 x i),
    TRef.unary (TRef.of (T := ⟨S66, .i1⟩) main_call13_v12) (TRef.of (T := ⟨S64x66, .i1⟩) main_call13_v14) (broadcastInDim S64x66 ![1] bcast_S66_S64x66_1),
    TRef.nullary (TRef.of (T := ⟨S_, .f32⟩) main_call13_cst) (constant S_ .f32 0x7FC00000#32),
    TRef.unary (TRef.of (T := ⟨S_, .f32⟩) main_call13_cst) (TRef.of (T := ⟨S64x66, .f32⟩) main_call13_v15) (broadcastInDim S64x66 ![] bcast_S_S64x66),
    TRef.ternary (TRef.of (T := ⟨S64x66, .i1⟩) main_call13_v14) (TRef.of (T := ⟨S64x66, .f32⟩) main_call13_v13) (TRef.of (T := ⟨S64x66, .f32⟩) main_call13_v15) (TRef.of (T := ⟨S64x66, .f32⟩) main_v146) select ]

/-- What those operations write, in order. -/
abbrev segBackT_W : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v146]

/-- The operations of the codon usage of the targets. -/
def segRatioT : List (HloOp τ sig (Elt F)) :=
  [ nullary main_cst_45 (constant S_ .f32 0x00000000#32),
    unary main_cst_45 main_v147 (broadcastInDim S64x66 ![] bcast_S_S64x66 : (⟨S_, .f32⟩ : BufTy).Contents (Elt F) → (⟨S64x66, .f32⟩ : BufTy).Contents (Elt F)),
    binary main_v146 main_v147 main_v148 (cmpf .ogt : (⟨S64x66, .f32⟩ : BufTy).Contents (Elt F) → (⟨S64x66, .f32⟩ : BufTy).Contents (Elt F) → (⟨S64x66, .i1⟩ : BufTy).Contents (Elt F)),
    unary main_cst main_v149 (broadcastInDim S1x66 ![1] bcast_S66_S1x66_1 : (⟨S66, .f32⟩ : BufTy).Contents (Elt F) → (⟨S1x66, .f32⟩ : BufTy).Contents (Elt F)),
    unary main_v149 main_v150 (broadcastInDim S64x66 ![0, 1] bcast_S1x66_S64x66_0_1 : (⟨S1x66, .f32⟩ : BufTy).Contents (Elt F) → (⟨S64x66, .f32⟩ : BufTy).Contents (Elt F)),
    binary main_v137 main_v150 main_v151 (mulf : (⟨S64x66, .f32⟩ : BufTy).Contents (Elt F) → (⟨S64x66, .f32⟩ : BufTy).Contents (Elt F) → (⟨S64x66, .f32⟩ : BufTy).Contents (Elt F)),
    nullary main_cst_46 (constant S_ .f32 0x322BCC77#32),
    unary main_cst_46 main_v152 (broadcastInDim S64x66 ![] bcast_S_S64x66 : (⟨S_, .f32⟩ : BufTy).Contents (Elt F) → (⟨S64x66, .f32⟩ : BufTy).Contents (Elt F)),
    binary main_v146 main_v152 main_v153 (maximumf : (⟨S64x66, .f32⟩ : BufTy).Contents (Elt F) → (⟨S64x66, .f32⟩ : BufTy).Contents (Elt F) → (⟨S64x66, .f32⟩ : BufTy).Contents (Elt F)),
    binary main_v151 main_v153 main_v154 (Host.divf : (⟨S64x66, .f32⟩ : BufTy).Contents (Elt F) → (⟨S64x66, .f32⟩ : BufTy).Contents (Elt F) → (⟨S64x66, .f32⟩ : BufTy).Contents (Elt F)),
    nullary main_cst_47 (constant S_ .f32 0x00000000#32),
    TRef.unary (TRef.of (T := ⟨S_, .f32⟩) main_cst_47) (TRef.of (T := ⟨S_, .f32⟩) main_call14_v0) id,
    TRef.unary (TRef.of (T := ⟨S_, .f32⟩) main_call14_v0) (TRef.of (T := ⟨S64x66, .f32⟩) main_call14_v1) (broadcastInDim S64x66 ![] bcast_S_S64x66),
    TRef.ternary (TRef.of (T := ⟨S64x66, .i1⟩) main_v148) (TRef.of (T := ⟨S64x66, .f32⟩) main_v154) (TRef.of (T := ⟨S64x66, .f32⟩) main_call14_v1) (TRef.of (T := ⟨S64x66, .f32⟩) main_v155) select ]

/-- What those operations write, in order. -/
abbrev segRatioT_W : List (Ref sig .tc) := [main_cst_45, main_v147, main_v148, main_v149, main_v150, main_v151, main_cst_46, main_v152, main_v153, main_v154, main_cst_47, main_call14_v0, main_call14_v1, main_v155]

/-- The operations of the row of the species' reference distribution for every sequence. -/
def segRow : List (HloOp τ sig (Elt F)) :=
  [ TRef.nullary (TRef.of (T := ⟨S_, .i32⟩) main_call15_c) (constantI S_ 32 0#32),
    TRef.unary (TRef.of (T := ⟨S_, .i32⟩) main_call15_c) (TRef.of (T := ⟨S64, .i32⟩) main_call15_v0) (broadcastInDim S64 ![] bcast_S_S64),
    TRef.binary (TRef.of (T := ⟨S64, .i32⟩) main_arg3) (TRef.of (T := ⟨S64, .i32⟩) main_call15_v0) (TRef.of (T := ⟨S64, .i1⟩) main_call15_v1) (cmpi .slt),
    TRef.nullary (TRef.of (T := ⟨S_, .i32⟩) main_call15_c_0) (constantI S_ 32 5#32),
    TRef.unary (TRef.of (T := ⟨S_, .i32⟩) main_call15_c_0) (TRef.of (T := ⟨S64, .i32⟩) main_call15_v2) (broadcastInDim S64 ![] bcast_S_S64),
    TRef.binary (TRef.of (T := ⟨S64, .i32⟩) main_arg3) (TRef.of (T := ⟨S64, .i32⟩) main_call15_v2) (TRef.of (T := ⟨S64, .i32⟩) main_call15_v3) addi,
    TRef.ternary (TRef.of (T := ⟨S64, .i1⟩) main_call15_v1) (TRef.of (T := ⟨S64, .i32⟩) main_call15_v3) (TRef.of (T := ⟨S64, .i32⟩) main_arg3) (TRef.of (T := ⟨S64, .i32⟩) main_call15_v4) select,
    TRef.unary (TRef.of (T := ⟨S64, .i32⟩) main_call15_v4) (TRef.of (T := ⟨S64x1, .i32⟩) main_call15_v5) (broadcastInDim S64x1 ![0] bcast_S64_S64x1_0),
    TRef.nullary (TRef.of (T := ⟨S1, .i32⟩) main_call15_c_1) (constantI S1 32 4#32),
    TRef.nullary (TRef.of (T := ⟨S_, .i32⟩) main_call15_c_2) (constantI S_ 32 0#32),
    TRef.unary (TRef.of (T := ⟨S_, .i32⟩) main_call15_c_2) (TRef.of (T := ⟨S64x1, .i32⟩) main_call15_v6) (broadcastInDim S64x1 ![] bcast_S_S64x1),
    TRef.binary (TRef.of (T := ⟨S64x1, .i32⟩) main_call15_v5) (TRef.of (T := ⟨S64x1, .i32⟩) main_call15_v6) (TRef.of (T := ⟨S64x1, .i1⟩) main_call15_v7) (cmpi .sge),
    TRef.unary (TRef.of (T := ⟨S1, .i32⟩) main_call15_c_1) (TRef.of (T := ⟨S1x1, .i32⟩) main_call15_v8) (broadcastInDim S1x1 ![1] bcast_S1_S1x1_1),
    TRef.unary (TRef.of (T := ⟨S1x1, .i32⟩) main_call15_v8) (TRef.of (T := ⟨S64x1, .i32⟩) main_call15_v9) (broadcastInDim S64x1 ![0, 1] bcast_S1x1_S64x1_0_1),
    TRef.binary (TRef.of (T := ⟨S64x1, .i32⟩) main_call15_v5) (TRef.of (T := ⟨S64x1, .i32⟩) main_call15_v9) (TRef.of (T := ⟨S64x1, .i1⟩) main_call15_v10) (cmpi .sle),
    TRef.binary (TRef.of (T := ⟨S64x1, .i1⟩) main_call15_v7) (TRef.of (T := ⟨S64x1, .i1⟩) main_call15_v10) (TRef.of (T := ⟨S64x1, .i1⟩) main_call15_v11) andi,
    TRef.nullary (TRef.of (T := ⟨S_, .i1⟩) main_call15_c_3) (constantI S_ 1 1#1),
    TRef.binary (TRef.of (T := ⟨S64x1, .i1⟩) main_call15_v11) (TRef.of (T := ⟨S_, .i1⟩) main_call15_c_3) (TRef.of (T := ⟨S64, .i1⟩) main_call15_v12) (fun x v => Host.reduce IntOp.andi x v reducesTo_S64x1_S64_d1 h_S_),
    TRef.binary (TRef.of (T := ⟨S5x66, .f32⟩) main_arg6) (TRef.of (T := ⟨S64x1, .i32⟩) main_call15_v5) (TRef.of (T := ⟨S64x66, .f32⟩) main_call15_v13) (fun x i => Host.gather gather_S5x66_S64x1_S64x66_1_0_n_n_0_1_166 x i),
    TRef.unary (TRef.of (T := ⟨S64, .i1⟩) main_call15_v12) (TRef.of (T := ⟨S64x66, .i1⟩) main_call15_v14) (broadcastInDim S64x66 ![0] bcast_S64_S64x66_0),
    TRef.nullary (TRef.of (T := ⟨S_, .f32⟩) main_call15_cst) (constant S_ .f32 0x7FC00000#32),
    TRef.unary (TRef.of (T := ⟨S_, .f32⟩) main_call15_cst) (TRef.of (T := ⟨S64x66, .f32⟩) main_call15_v15) (broadcastInDim S64x66 ![] bcast_S_S64x66),
    TRef.ternary (TRef.of (T := ⟨S64x66, .i1⟩) main_call15_v14) (TRef.of (T := ⟨S64x66, .f32⟩) main_call15_v13) (TRef.of (T := ⟨S64x66, .f32⟩) main_call15_v15) (TRef.of (T := ⟨S64x66, .f32⟩) main_v156) select ]

/-- What those operations write, in order. -/
abbrev segRow_W : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v156]

/-- The operations of the mean over sequences of the divergence between the usage distributions. -/
def segKl : List (HloOp τ sig (Elt F)) :=
  [ nullary main_cst_48 (constant S_ .f32 0x3F333333#32),
    unary main_cst_48 main_v157 (broadcastInDim S64x66 ![] bcast_S_S64x66 : (⟨S_, .f32⟩ : BufTy).Contents (Elt F) → (⟨S64x66, .f32⟩ : BufTy).Contents (Elt F)),
    binary main_v157 main_v155 main_v158 (mulf : (⟨S64x66, .f32⟩ : BufTy).Contents (Elt F) → (⟨S64x66, .f32⟩ : BufTy).Contents (Elt F) → (⟨S64x66, .f32⟩ : BufTy).Contents (Elt F)),
    nullary main_cst_49 (constant S_ .f32 0x3E99999A#32),
    unary main_cst_49 main_v159 (broadcastInDim S64x66 ![] bcast_S_S64x66 : (⟨S_, .f32⟩ : BufTy).Contents (Elt F) → (⟨S64x66, .f32⟩ : BufTy).Contents (Elt F)),
    binary main_v159 main_v156 main_v160 (mulf : (⟨S64x66, .f32⟩ : BufTy).Contents (Elt F) → (⟨S64x66, .f32⟩ : BufTy).Contents (Elt F) → (⟨S64x66, .f32⟩ : BufTy).Contents (Elt F)),
    binary main_v158 main_v160 main_v161 (addf : (⟨S64x66, .f32⟩ : BufTy).Contents (Elt F) → (⟨S64x66, .f32⟩ : BufTy).Contents (Elt F) → (⟨S64x66, .f32⟩ : BufTy).Contents (Elt F)),
    nullary main_cst_50 (constant S_ .f32 0x322BCC77#32),
    unary main_cst_50 main_v162 (broadcastInDim S64x66 ![] bcast_S_S64x66 : (⟨S_, .f32⟩ : BufTy).Contents (Elt F) → (⟨S64x66, .f32⟩ : BufTy).Contents (Elt F)),
    binary main_v111 main_v162 main_v163 (addf : (⟨S64x66, .f32⟩ : BufTy).Contents (Elt F) → (⟨S64x66, .f32⟩ : BufTy).Contents (Elt F) → (⟨S64x66, .f32⟩ : BufTy).Contents (Elt F)),
    nullary main_cst_51 (constant S_ .f32 0x322BCC77#32),
    unary main_cst_51 main_v164 (broadcastInDim S64x66 ![] bcast_S_S64x66 : (⟨S_, .f32⟩ : BufTy).Contents (Elt F) → (⟨S64x66, .f32⟩ : BufTy).Contents (Elt F)),
    binary main_v161 main_v164 main_v165 (addf : (⟨S64x66, .f32⟩ : BufTy).Contents (Elt F) → (⟨S64x66, .f32⟩ : BufTy).Contents (Elt F) → (⟨S64x66, .f32⟩ : BufTy).Contents (Elt F)),
    nullary main_cst_52 (constant S_ .f32 0x00000000#32),
    binary main_v163 main_cst_52 main_v166 ((fun x v => Host.reduceAdd x v reducesTo_S64x66_S64_d1 h_S_) : (⟨S64x66, .f32⟩ : BufTy).Contents (Elt F) → (⟨S_, .f32⟩ : BufTy).Contents (Elt F) → (⟨S64, .f32⟩ : BufTy).Contents (Elt F)),
    unary main_v166 main_v167 (broadcastInDim S64x1 ![0] bcast_S64_S64x1_0 : (⟨S64, .f32⟩ : BufTy).Contents (Elt F) → (⟨S64x1, .f32⟩ : BufTy).Contents (Elt F)),
    unary main_v167 main_v168 (broadcastInDim S64x66 ![0, 1] bcast_S64x1_S64x66_0_1 : (⟨S64x1, .f32⟩ : BufTy).Contents (Elt F) → (⟨S64x66, .f32⟩ : BufTy).Contents (Elt F)),
    binary main_v163 main_v168 main_v169 (Host.divf : (⟨S64x66, .f32⟩ : BufTy).Contents (Elt F) → (⟨S64x66, .f32⟩ : BufTy).Contents (Elt F) → (⟨S64x66, .f32⟩ : BufTy).Contents (Elt F)),
    nullary main_cst_53 (constant S_ .f32 0x00000000#32),
    binary main_v165 main_cst_53 main_v170 ((fun x v => Host.reduceAdd x v reducesTo_S64x66_S64_d1 h_S_) : (⟨S64x66, .f32⟩ : BufTy).Contents (Elt F) → (⟨S_, .f32⟩ : BufTy).Contents (Elt F) → (⟨S64, .f32⟩ : BufTy).Contents (Elt F)),
    unary main_v170 main_v171 (broadcastInDim S64x1 ![0] bcast_S64_S64x1_0 : (⟨S64, .f32⟩ : BufTy).Contents (Elt F) → (⟨S64x1, .f32⟩ : BufTy).Contents (Elt F)),
    unary main_v171 main_v172 (broadcastInDim S64x66 ![0, 1] bcast_S64x1_S64x66_0_1 : (⟨S64x1, .f32⟩ : BufTy).Contents (Elt F) → (⟨S64x66, .f32⟩ : BufTy).Contents (Elt F)),
    binary main_v165 main_v172 main_v173 (Host.divf : (⟨S64x66, .f32⟩ : BufTy).Contents (Elt F) → (⟨S64x66, .f32⟩ : BufTy).Contents (Elt F) → (⟨S64x66, .f32⟩ : BufTy).Contents (Elt F)),
    binary main_v173 main_v169 main_v174 (Host.divf : (⟨S64x66, .f32⟩ : BufTy).Contents (Elt F) → (⟨S64x66, .f32⟩ : BufTy).Contents (Elt F) → (⟨S64x66, .f32⟩ : BufTy).Contents (Elt F)),
    unary main_v174 main_v175 (Host.log : (⟨S64x66, .f32⟩ : BufTy).Contents (Elt F) → (⟨S64x66, .f32⟩ : BufTy).Contents (Elt F)),
    binary main_v173 main_v175 main_v176 (mulf : (⟨S64x66, .f32⟩ : BufTy).Contents (Elt F) → (⟨S64x66, .f32⟩ : BufTy).Contents (Elt F) → (⟨S64x66, .f32⟩ : BufTy).Contents (Elt F)),
    nullary main_cst_54 (constant S_ .f32 0x00000000#32),
    binary main_v176 main_cst_54 main_v177 ((fun x v => Host.reduceAdd x v reducesTo_S64x66_S64_d1 h_S_) : (⟨S64x66, .f32⟩ : BufTy).Contents (Elt F) → (⟨S_, .f32⟩ : BufTy).Contents (Elt F) → (⟨S64, .f32⟩ : BufTy).Contents (Elt F)),
    nullary main_cst_55 (constant S_ .f32 0x00000000#32),
    binary main_v177 main_cst_55 main_v178 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_56 (constant S_ .f32 0x42800000#32),
    binary main_v178 main_cst_56 main_v179 (Host.divf : (⟨S_, .f32⟩ : BufTy).Contents (Elt F) → (⟨S_, .f32⟩ : BufTy).Contents (Elt F) → (⟨S_, .f32⟩ : BufTy).Contents (Elt F)) ]

/-- What those operations write, in order. -/
abbrev segKl_W : List (Ref sig .tc) := [main_cst_48, main_v157, main_v158, main_cst_49, main_v159, main_v160, main_v161, main_cst_50, main_v162, main_v163, main_cst_51, main_v164, main_v165, main_cst_52, main_v166, main_v167, main_v168, main_v169, main_cst_53, main_v170, main_v171, main_v172, main_v173, main_v174, main_v175, main_v176, main_cst_54, main_v177, main_cst_55, main_v178, main_cst_56, main_v179]

/-- The operations of the weight of the cross-entropy. -/
def segOut1 : List (HloOp τ sig (Elt F)) :=
  [ nullary main_cst_57 (constant S_ .f32 0x3F800000#32) ]

/-- What those operations write, in order. -/
abbrev segOut1_W : List (Ref sig .tc) := [main_cst_57]

/-- The operations of the weighted sum. -/
def segOut2 : List (HloOp τ sig (Elt F)) :=
  [ binary main_cst_57 main_v13 main_v180 (mulf : (⟨S_, .f32⟩ : BufTy).Contents (Elt F) → (⟨S_, .f32⟩ : BufTy).Contents (Elt F) → (⟨S_, .f32⟩ : BufTy).Contents (Elt F)),
    nullary main_cst_58 (constant S_ .f32 0x3ECCCCCD#32),
    binary main_cst_58 main_v67 main_v181 (mulf : (⟨S_, .f32⟩ : BufTy).Contents (Elt F) → (⟨S_, .f32⟩ : BufTy).Contents (Elt F) → (⟨S_, .f32⟩ : BufTy).Contents (Elt F)),
    binary main_v180 main_v181 main_v182 (addf : (⟨S_, .f32⟩ : BufTy).Contents (Elt F) → (⟨S_, .f32⟩ : BufTy).Contents (Elt F) → (⟨S_, .f32⟩ : BufTy).Contents (Elt F)),
    nullary main_cst_59 (constant S_ .f32 0x3E99999A#32),
    binary main_cst_59 main_v179 main_v183 (mulf : (⟨S_, .f32⟩ : BufTy).Contents (Elt F) → (⟨S_, .f32⟩ : BufTy).Contents (Elt F) → (⟨S_, .f32⟩ : BufTy).Contents (Elt F)),
    binary main_v182 main_v183 main_v184 (addf : (⟨S_, .f32⟩ : BufTy).Contents (Elt F) → (⟨S_, .f32⟩ : BufTy).Contents (Elt F) → (⟨S_, .f32⟩ : BufTy).Contents (Elt F)),
    reshape main_v184 main_v185 (rfl : (.f32 : EltTy) = .f32) shapeCasts_S_S1x1 ]

/-- What those operations write, in order. -/
abbrev segOut2_W : List (Ref sig .tc) := [main_v180, main_cst_58, main_v181, main_v182, main_cst_59, main_v183, main_v184, main_v185]

end Cert.RefRun

end
-- ==== Proof.RefFacts.lean ====
module

public import proofs.«01_k».proof.Proof.Gen.ReferenceIdeal
public import Idealize.ShloMosaic.Lib.StableHlo.Run
public import Idealize.ShloMosaic.Lib.Pipeline.Frame
public import proofs.«01_k».proof.Proof.RefOps

/-! The reference program is its list of operations, and its run ends with the result array at `refOut` of the
arguments. -/

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the program. -/
def part0 : List (HloOp τ sig (Elt F)) :=
  segTables ++ (segArgmax ++ (segLogSoftmax ++ (segTake ++ (segCe ++ (segCaiP ++ (segCaiT1))))))

set_option maxRecDepth 8192 in
set_option maxHeartbeats 4000000 in
/-- Window 0 of the program runs those operations. -/
theorem main_part0_eq (c : Dev nD) : main_part0 (F := F) c = seq part0 := rfl

/-- The operations of window 1 of the program. -/
def part1 : List (HloOp τ sig (Elt F)) :=
  segCaiT2 ++ (segHinge ++ (segGrpP ++ (segCntP1)))

set_option maxRecDepth 8192 in
set_option maxHeartbeats 4000000 in
/-- Window 1 of the program runs those operations. -/
theorem main_part1_eq (c : Dev nD) : main_part1 (F := F) c = seq part1 := rfl

/-- The operations of window 2 of the program. -/
def part2 : List (HloOp τ sig (Elt F)) :=
  segCntP2 ++ (segTotP ++ (segBackP ++ (segRatioP ++ (segGrpT ++ (segCntT1)))))

set_option maxRecDepth 8192 in
set_option maxHeartbeats 4000000 in
/-- Window 2 of the program runs those operations. -/
theorem main_part2_eq (c : Dev nD) : main_part2 (F := F) c = seq part2 := rfl

/-- The operations of window 3 of the program. -/
def part3 : List (HloOp τ sig (Elt F)) :=
  segCntT2 ++ (segTotT ++ (segBackT ++ (segRatioT ++ (segRow ++ (segKl ++ (segOut1))))))

set_option maxRecDepth 8192 in
set_option maxHeartbeats 4000000 in
/-- Window 3 of the program runs those operations. -/
theorem main_part3_eq (c : Dev nD) : main_part3 (F := F) c = seq part3 := rfl

/-- The operations of window 4 of the program. -/
def part4 : List (HloOp τ sig (Elt F)) :=
  segOut2

set_option maxRecDepth 8192 in
set_option maxHeartbeats 4000000 in
/-- Window 4 of the program runs those operations. -/
theorem main_part4_eq (c : Dev nD) : main_part4 (F := F) c = seq part4 := rfl

/-- All the operations of the program. -/
def allOps : List (HloOp τ sig (Elt F)) := part0 ++ (part1 ++ (part2 ++ (part3 ++ part4)))

set_option maxRecDepth 8192 in
/-- The program runs all the operations in order. -/
theorem main_eq (c : Dev nD) : main (F := F) c = seq allOps := by
  simp only [allOps, seq_append, ← main_part0_eq c, ← main_part1_eq c, ← main_part2_eq c, ← main_part3_eq c, ← main_part4_eq c]
  rfl

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

set_option maxRecDepth 8192 in
/-- `segTables` touches the device's buffers only. -/
theorem segTables_sub : (segTables : List (HloOp τ sig (Elt F))).Forall fun op => op.bufs ⊆ tcRefs τ sig :=
  ⟨nullary_bufs_sub .., nullary_bufs_sub ..⟩
set_option maxRecDepth 8192 in
/-- `segTables` makes no fresh buffer. -/
theorem segTables_fresh : (segTables : List (HloOp τ sig (Elt F))).Forall fun op => op.fresh = ∅ :=
  ⟨rfl, rfl⟩
set_option maxRecDepth 8192 in
/-- A buffer `segTables` does not write keeps its contents through it. -/
theorem segTables_keep (V : Valuation τ sig (Elt F)) (r : Ref sig .tc) (h : r ∉ segTables_W) :
    after segTables V (no_index (Proc.devRef .tc r)) = V (Proc.devRef .tc r) :=
  after_of_writes_sub segTables _ (forall_writes_sub_of_map rfl) h

set_option maxRecDepth 8192 in
/-- `segArgmax` touches the device's buffers only. -/
theorem segArgmax_sub : (segArgmax : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 8192 in
/-- `segArgmax` makes no fresh buffer. -/
theorem segArgmax_fresh : (segArgmax : List (HloOp τ sig (Elt F))).Forall fun op => op.fresh = ∅ :=
  ⟨rfl, rfl, rfl, rfl, rfl⟩
set_option maxRecDepth 8192 in
/-- A buffer `segArgmax` does not write keeps its contents through it. -/
theorem segArgmax_keep (V : Valuation τ sig (Elt F)) (r : Ref sig .tc) (h : r ∉ segArgmax_W) :
    after segArgmax V (no_index (Proc.devRef .tc r)) = V (Proc.devRef .tc r) :=
  after_of_writes_sub segArgmax _ (forall_writes_sub_of_map rfl) h

set_option maxRecDepth 8192 in
/-- `segLogSoftmax` touches the device's buffers only. -/
theorem segLogSoftmax_sub : (segLogSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
set_option maxRecDepth 8192 in
/-- `segLogSoftmax` makes no fresh buffer. -/
theorem segLogSoftmax_fresh : (segLogSoftmax : List (HloOp τ sig (Elt F))).Forall fun op => op.fresh = ∅ :=
  ⟨rfl, rfl, rfl, rfl, rfl, rfl, rfl, rfl, rfl, rfl, rfl, rfl, rfl, rfl, rfl⟩
set_option maxRecDepth 8192 in
/-- A buffer `segLogSoftmax` does not write keeps its contents through it. -/
theorem segLogSoftmax_keep (V : Valuation τ sig (Elt F)) (r : Ref sig .tc) (h : r ∉ segLogSoftmax_W) :
    after segLogSoftmax V (no_index (Proc.devRef .tc r)) = V (Proc.devRef .tc r) :=
  after_of_writes_sub segLogSoftmax _ (forall_writes_sub_of_map rfl) h

set_option maxRecDepth 8192 in
/-- `segTake` touches the device's buffers only. -/
theorem segTake_sub : (segTake : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
set_option maxRecDepth 8192 in
/-- `segTake` makes no fresh buffer. -/
theorem segTake_fresh : (segTake : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
/-- A buffer `segTake` does not write keeps its contents through it. -/
theorem segTake_keep (V : Valuation τ sig (Elt F)) (r : Ref sig .tc) (h : r ∉ segTake_W) :
    after segTake V (no_index (Proc.devRef .tc r)) = V (Proc.devRef .tc r) :=
  after_of_writes_sub segTake _ (forall_writes_sub_of_map rfl) h

set_option maxRecDepth 8192 in
/-- `segCe` touches the device's buffers only. -/
theorem segCe_sub : (segCe : List (HloOp τ sig (Elt F))).Forall fun op => op.bufs ⊆ tcRefs τ sig :=
  ⟨reshape_bufs_sub .., unary_bufs_sub .., nullary_bufs_sub .., unary_bufs_sub .., binary_bufs_sub .., unary_bufs_sub .., binary_bufs_sub .., nullary_bufs_sub .., binary_bufs_sub .., nullary_bufs_sub .., binary_bufs_sub .., nullary_bufs_sub .., unary_bufs_sub .., binary_bufs_sub .., binary_bufs_sub ..⟩
set_option maxRecDepth 8192 in
/-- `segCe` makes no fresh buffer. -/
theorem segCe_fresh : (segCe : List (HloOp τ sig (Elt F))).Forall fun op => op.fresh = ∅ :=
  ⟨rfl, rfl, rfl, rfl, rfl, rfl, rfl, rfl, rfl, rfl, rfl, rfl, rfl, rfl, rfl⟩
set_option maxRecDepth 8192 in
/-- A buffer `segCe` does not write keeps its contents through it. -/
theorem segCe_keep (V : Valuation τ sig (Elt F)) (r : Ref sig .tc) (h : r ∉ segCe_W) :
    after segCe V (no_index (Proc.devRef .tc r)) = V (Proc.devRef .tc r) :=
  after_of_writes_sub segCe _ (forall_writes_sub_of_map rfl) h

set_option maxRecDepth 8192 in
/-- `segCaiP` touches the device's buffers only. -/
theorem segCaiP_sub : (segCaiP : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., unary_bufs_sub .., binary_bufs_sub .., unary_bufs_sub .., unary_bufs_sub .., binary_bufs_sub .., nullary_bufs_sub .., binary_bufs_sub .., nullary_bufs_sub .., binary_bufs_sub .., nullary_bufs_sub .., unary_bufs_sub .., unary_bufs_sub .., binary_bufs_sub .., binary_bufs_sub .., unary_bufs_sub ..⟩
set_option maxRecDepth 8192 in
/-- `segCaiP` makes no fresh buffer. -/
theorem segCaiP_fresh : (segCaiP : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- A buffer `segCaiP` does not write keeps its contents through it. -/
theorem segCaiP_keep (V : Valuation τ sig (Elt F)) (r : Ref sig .tc) (h : r ∉ segCaiP_W) :
    after segCaiP V (no_index (Proc.devRef .tc r)) = V (Proc.devRef .tc r) :=
  after_of_writes_sub segCaiP _ (forall_writes_sub_of_map rfl) h

set_option maxRecDepth 8192 in
/-- `segCaiT1` touches the device's buffers only. -/
theorem segCaiT1_sub : (segCaiT1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..⟩
set_option maxRecDepth 8192 in
/-- `segCaiT1` makes no fresh buffer. -/
theorem segCaiT1_fresh : (segCaiT1 : List (HloOp τ sig (Elt F))).Forall fun op => op.fresh = ∅ :=
  ⟨rfl, rfl, rfl, rfl, rfl, rfl, rfl⟩
set_option maxRecDepth 8192 in
/-- A buffer `segCaiT1` does not write keeps its contents through it. -/
theorem segCaiT1_keep (V : Valuation τ sig (Elt F)) (r : Ref sig .tc) (h : r ∉ segCaiT1_W) :
    after segCaiT1 V (no_index (Proc.devRef .tc r)) = V (Proc.devRef .tc r) :=
  after_of_writes_sub segCaiT1 _ (forall_writes_sub_of_map rfl) h

set_option maxRecDepth 8192 in
/-- `segCaiT2` touches the device's buffers only. -/
theorem segCaiT2_sub : (segCaiT2 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., unary_bufs_sub .., binary_bufs_sub .., unary_bufs_sub .., unary_bufs_sub .., binary_bufs_sub .., nullary_bufs_sub .., binary_bufs_sub .., nullary_bufs_sub .., binary_bufs_sub .., nullary_bufs_sub .., unary_bufs_sub .., unary_bufs_sub .., binary_bufs_sub .., binary_bufs_sub .., unary_bufs_sub ..⟩
set_option maxRecDepth 8192 in
/-- `segCaiT2` makes no fresh buffer. -/
theorem segCaiT2_fresh : (segCaiT2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- A buffer `segCaiT2` does not write keeps its contents through it. -/
theorem segCaiT2_keep (V : Valuation τ sig (Elt F)) (r : Ref sig .tc) (h : r ∉ segCaiT2_W) :
    after segCaiT2 V (no_index (Proc.devRef .tc r)) = V (Proc.devRef .tc r) :=
  after_of_writes_sub segCaiT2 _ (forall_writes_sub_of_map rfl) h

set_option maxRecDepth 8192 in
/-- `segHinge` touches the device's buffers only. -/
theorem segHinge_sub : (segHinge : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., binary_bufs_sub ..⟩
set_option maxRecDepth 8192 in
/-- `segHinge` makes no fresh buffer. -/
theorem segHinge_fresh : (segHinge : List (HloOp τ sig (Elt F))).Forall fun op => op.fresh = ∅ :=
  ⟨rfl, rfl, rfl, rfl, rfl, rfl, rfl, rfl⟩
set_option maxRecDepth 8192 in
/-- A buffer `segHinge` does not write keeps its contents through it. -/
theorem segHinge_keep (V : Valuation τ sig (Elt F)) (r : Ref sig .tc) (h : r ∉ segHinge_W) :
    after segHinge V (no_index (Proc.devRef .tc r)) = V (Proc.devRef .tc r) :=
  after_of_writes_sub segHinge _ (forall_writes_sub_of_map rfl) h

set_option maxRecDepth 8192 in
/-- `segGrpP` touches the device's buffers only. -/
theorem segGrpP_sub : (segGrpP : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
set_option maxRecDepth 8192 in
/-- `segGrpP` makes no fresh buffer. -/
theorem segGrpP_fresh : (segGrpP : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
/-- A buffer `segGrpP` does not write keeps its contents through it. -/
theorem segGrpP_keep (V : Valuation τ sig (Elt F)) (r : Ref sig .tc) (h : r ∉ segGrpP_W) :
    after segGrpP V (no_index (Proc.devRef .tc r)) = V (Proc.devRef .tc r) :=
  after_of_writes_sub segGrpP _ (forall_writes_sub_of_map rfl) h

set_option maxRecDepth 8192 in
/-- `segCntP1` touches the device's buffers only. -/
theorem segCntP1_sub : (segCntP1 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxRecDepth 8192 in
/-- `segCntP1` makes no fresh buffer. -/
theorem segCntP1_fresh : (segCntP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- A buffer `segCntP1` does not write keeps its contents through it. -/
theorem segCntP1_keep (V : Valuation τ sig (Elt F)) (r : Ref sig .tc) (h : r ∉ segCntP1_W) :
    after segCntP1 V (no_index (Proc.devRef .tc r)) = V (Proc.devRef .tc r) :=
  after_of_writes_sub segCntP1 _ (forall_writes_sub_of_map rfl) h

set_option maxRecDepth 8192 in
/-- `segCntP2` touches the device's buffers only. -/
theorem segCntP2_sub : (segCntP2 : List (HloOp τ sig (Elt F))).Forall fun op => op.bufs ⊆ tcRefs τ sig :=
  ⟨unary_bufs_sub .., unary_bufs_sub .., unary_bufs_sub .., binary_bufs_sub .., ternary_bufs_sub ..⟩
set_option maxRecDepth 8192 in
/-- `segCntP2` makes no fresh buffer. -/
theorem segCntP2_fresh : (segCntP2 : List (HloOp τ sig (Elt F))).Forall fun op => op.fresh = ∅ :=
  ⟨rfl, rfl, rfl, rfl, rfl⟩
set_option maxRecDepth 8192 in
/-- A buffer `segCntP2` does not write keeps its contents through it. -/
theorem segCntP2_keep (V : Valuation τ sig (Elt F)) (r : Ref sig .tc) (h : r ∉ segCntP2_W) :
    after segCntP2 V (no_index (Proc.devRef .tc r)) = V (Proc.devRef .tc r) :=
  after_of_writes_sub segCntP2 _ (forall_writes_sub_of_map rfl) h

set_option maxRecDepth 8192 in
/-- `segTotP` touches the device's buffers only. -/
theorem segTotP_sub : (segTotP : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
set_option maxRecDepth 8192 in
/-- `segTotP` makes no fresh buffer. -/
theorem segTotP_fresh : (segTotP : List (HloOp τ sig (Elt F))).Forall fun op => op.fresh = ∅ :=
  ⟨rfl, rfl, rfl, rfl, rfl, rfl, rfl, rfl, rfl, rfl, rfl⟩
set_option maxRecDepth 8192 in
/-- A buffer `segTotP` does not write keeps its contents through it. -/
theorem segTotP_keep (V : Valuation τ sig (Elt F)) (r : Ref sig .tc) (h : r ∉ segTotP_W) :
    after segTotP V (no_index (Proc.devRef .tc r)) = V (Proc.devRef .tc r) :=
  after_of_writes_sub segTotP _ (forall_writes_sub_of_map rfl) h

set_option maxRecDepth 8192 in
/-- `segBackP` touches the device's buffers only. -/
theorem segBackP_sub : (segBackP : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
/-- `segBackP` makes no fresh buffer. -/
theorem segBackP_fresh : (segBackP : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
/-- A buffer `segBackP` does not write keeps its contents through it. -/
theorem segBackP_keep (V : Valuation τ sig (Elt F)) (r : Ref sig .tc) (h : r ∉ segBackP_W) :
    after segBackP V (no_index (Proc.devRef .tc r)) = V (Proc.devRef .tc r) :=
  after_of_writes_sub segBackP _ (forall_writes_sub_of_map rfl) h

set_option maxRecDepth 8192 in
/-- `segRatioP` touches the device's buffers only. -/
theorem segRatioP_sub : (segRatioP : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩
set_option maxRecDepth 8192 in
/-- `segRatioP` makes no fresh buffer. -/
theorem segRatioP_fresh : (segRatioP : List (HloOp τ sig (Elt F))).Forall fun op => op.fresh = ∅ :=
  ⟨rfl, rfl, rfl, rfl, rfl, rfl, rfl, rfl, rfl, rfl, rfl, rfl, rfl, rfl⟩
set_option maxRecDepth 8192 in
/-- A buffer `segRatioP` does not write keeps its contents through it. -/
theorem segRatioP_keep (V : Valuation τ sig (Elt F)) (r : Ref sig .tc) (h : r ∉ segRatioP_W) :
    after segRatioP V (no_index (Proc.devRef .tc r)) = V (Proc.devRef .tc r) :=
  after_of_writes_sub segRatioP _ (forall_writes_sub_of_map rfl) h

set_option maxRecDepth 8192 in
/-- `segGrpT` touches the device's buffers only. -/
theorem segGrpT_sub : (segGrpT : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
set_option maxRecDepth 8192 in
/-- `segGrpT` makes no fresh buffer. -/
theorem segGrpT_fresh : (segGrpT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
/-- A buffer `segGrpT` does not write keeps its contents through it. -/
theorem segGrpT_keep (V : Valuation τ sig (Elt F)) (r : Ref sig .tc) (h : r ∉ segGrpT_W) :
    after segGrpT V (no_index (Proc.devRef .tc r)) = V (Proc.devRef .tc r) :=
  after_of_writes_sub segGrpT _ (forall_writes_sub_of_map rfl) h

set_option maxRecDepth 8192 in
/-- `segCntT1` touches the device's buffers only. -/
theorem segCntT1_sub : (segCntT1 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxRecDepth 8192 in
/-- `segCntT1` makes no fresh buffer. -/
theorem segCntT1_fresh : (segCntT1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- A buffer `segCntT1` does not write keeps its contents through it. -/
theorem segCntT1_keep (V : Valuation τ sig (Elt F)) (r : Ref sig .tc) (h : r ∉ segCntT1_W) :
    after segCntT1 V (no_index (Proc.devRef .tc r)) = V (Proc.devRef .tc r) :=
  after_of_writes_sub segCntT1 _ (forall_writes_sub_of_map rfl) h

set_option maxRecDepth 8192 in
/-- `segCntT2` touches the device's buffers only. -/
theorem segCntT2_sub : (segCntT2 : List (HloOp τ sig (Elt F))).Forall fun op => op.bufs ⊆ tcRefs τ sig :=
  ⟨binary_bufs_sub .., ternary_bufs_sub ..⟩
set_option maxRecDepth 8192 in
/-- `segCntT2` makes no fresh buffer. -/
theorem segCntT2_fresh : (segCntT2 : List (HloOp τ sig (Elt F))).Forall fun op => op.fresh = ∅ :=
  ⟨rfl, rfl⟩
set_option maxRecDepth 8192 in
/-- A buffer `segCntT2` does not write keeps its contents through it. -/
theorem segCntT2_keep (V : Valuation τ sig (Elt F)) (r : Ref sig .tc) (h : r ∉ segCntT2_W) :
    after segCntT2 V (no_index (Proc.devRef .tc r)) = V (Proc.devRef .tc r) :=
  after_of_writes_sub segCntT2 _ (forall_writes_sub_of_map rfl) h

set_option maxRecDepth 8192 in
/-- `segTotT` touches the device's buffers only. -/
theorem segTotT_sub : (segTotT : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
set_option maxRecDepth 8192 in
/-- `segTotT` makes no fresh buffer. -/
theorem segTotT_fresh : (segTotT : List (HloOp τ sig (Elt F))).Forall fun op => op.fresh = ∅ :=
  ⟨rfl, rfl, rfl, rfl, rfl, rfl, rfl, rfl, rfl, rfl, rfl⟩
set_option maxRecDepth 8192 in
/-- A buffer `segTotT` does not write keeps its contents through it. -/
theorem segTotT_keep (V : Valuation τ sig (Elt F)) (r : Ref sig .tc) (h : r ∉ segTotT_W) :
    after segTotT V (no_index (Proc.devRef .tc r)) = V (Proc.devRef .tc r) :=
  after_of_writes_sub segTotT _ (forall_writes_sub_of_map rfl) h

set_option maxRecDepth 8192 in
/-- `segBackT` touches the device's buffers only. -/
theorem segBackT_sub : (segBackT : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
/-- `segBackT` makes no fresh buffer. -/
theorem segBackT_fresh : (segBackT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
/-- A buffer `segBackT` does not write keeps its contents through it. -/
theorem segBackT_keep (V : Valuation τ sig (Elt F)) (r : Ref sig .tc) (h : r ∉ segBackT_W) :
    after segBackT V (no_index (Proc.devRef .tc r)) = V (Proc.devRef .tc r) :=
  after_of_writes_sub segBackT _ (forall_writes_sub_of_map rfl) h

set_option maxRecDepth 8192 in
/-- `segRatioT` touches the device's buffers only. -/
theorem segRatioT_sub : (segRatioT : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩
set_option maxRecDepth 8192 in
/-- `segRatioT` makes no fresh buffer. -/
theorem segRatioT_fresh : (segRatioT : List (HloOp τ sig (Elt F))).Forall fun op => op.fresh = ∅ :=
  ⟨rfl, rfl, rfl, rfl, rfl, rfl, rfl, rfl, rfl, rfl, rfl, rfl, rfl, rfl⟩
set_option maxRecDepth 8192 in
/-- A buffer `segRatioT` does not write keeps its contents through it. -/
theorem segRatioT_keep (V : Valuation τ sig (Elt F)) (r : Ref sig .tc) (h : r ∉ segRatioT_W) :
    after segRatioT V (no_index (Proc.devRef .tc r)) = V (Proc.devRef .tc r) :=
  after_of_writes_sub segRatioT _ (forall_writes_sub_of_map rfl) h

set_option maxRecDepth 8192 in
/-- `segRow` touches the device's buffers only. -/
theorem segRow_sub : (segRow : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
/-- `segRow` makes no fresh buffer. -/
theorem segRow_fresh : (segRow : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
/-- A buffer `segRow` does not write keeps its contents through it. -/
theorem segRow_keep (V : Valuation τ sig (Elt F)) (r : Ref sig .tc) (h : r ∉ segRow_W) :
    after segRow V (no_index (Proc.devRef .tc r)) = V (Proc.devRef .tc r) :=
  after_of_writes_sub segRow _ (forall_writes_sub_of_map rfl) h

set_option maxRecDepth 8192 in
/-- `segKl` touches the device's buffers only. -/
theorem segKl_sub : (segKl : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., nullary_bufs_sub .., binary_bufs_sub .., unary_bufs_sub .., unary_bufs_sub .., binary_bufs_sub .., binary_bufs_sub .., unary_bufs_sub .., binary_bufs_sub .., nullary_bufs_sub .., binary_bufs_sub .., nullary_bufs_sub .., binary_bufs_sub .., nullary_bufs_sub .., binary_bufs_sub ..⟩
set_option maxRecDepth 8192 in
/-- `segKl` makes no fresh buffer. -/
theorem segKl_fresh : (segKl : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- A buffer `segKl` does not write keeps its contents through it. -/
theorem segKl_keep (V : Valuation τ sig (Elt F)) (r : Ref sig .tc) (h : r ∉ segKl_W) :
    after segKl V (no_index (Proc.devRef .tc r)) = V (Proc.devRef .tc r) :=
  after_of_writes_sub segKl _ (forall_writes_sub_of_map rfl) h

set_option maxRecDepth 8192 in
/-- `segOut1` touches the device's buffers only. -/
theorem segOut1_sub : (segOut1 : List (HloOp τ sig (Elt F))).Forall fun op => op.bufs ⊆ tcRefs τ sig :=
  nullary_bufs_sub ..
set_option maxRecDepth 8192 in
/-- `segOut1` makes no fresh buffer. -/
theorem segOut1_fresh : (segOut1 : List (HloOp τ sig (Elt F))).Forall fun op => op.fresh = ∅ :=
  rfl
set_option maxRecDepth 8192 in
/-- A buffer `segOut1` does not write keeps its contents through it. -/
theorem segOut1_keep (V : Valuation τ sig (Elt F)) (r : Ref sig .tc) (h : r ∉ segOut1_W) :
    after segOut1 V (no_index (Proc.devRef .tc r)) = V (Proc.devRef .tc r) :=
  after_of_writes_sub segOut1 _ (forall_writes_sub_of_map rfl) h

set_option maxRecDepth 8192 in
/-- `segOut2` touches the device's buffers only. -/
theorem segOut2_sub : (segOut2 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., reshape_bufs_sub ..⟩
set_option maxRecDepth 8192 in
/-- `segOut2` makes no fresh buffer. -/
theorem segOut2_fresh : (segOut2 : List (HloOp τ sig (Elt F))).Forall fun op => op.fresh = ∅ :=
  ⟨rfl, rfl, rfl, rfl, rfl, rfl, rfl, rfl⟩
set_option maxRecDepth 8192 in
/-- A buffer `segOut2` does not write keeps its contents through it. -/
theorem segOut2_keep (V : Valuation τ sig (Elt F)) (r : Ref sig .tc) (h : r ∉ segOut2_W) :
    after segOut2 V (no_index (Proc.devRef .tc r)) = V (Proc.devRef .tc r) :=
  after_of_writes_sub segOut2 _ (forall_writes_sub_of_map rfl) h

/-- Every operation touches the device's buffers only. -/
theorem allOps_sub : (allOps : List (HloOp τ sig (Elt F))).Forall fun op => op.bufs ⊆ tcRefs τ sig :=
  List.forall_iff_forall_mem.mpr fun op h => by
    simp only [allOps, part0, part1, part2, part3, part4, List.mem_append, or_assoc] at h
    rcases h with h | h | h | h | h | h | h | h | h | h | h | h | h | h | h | h | h | h | h | h | h | h | h | h | h
    exacts [List.forall_iff_forall_mem.mp segTables_sub op h,
      List.forall_iff_forall_mem.mp segArgmax_sub op h,
      List.forall_iff_forall_mem.mp segLogSoftmax_sub op h,
      List.forall_iff_forall_mem.mp segTake_sub op h,
      List.forall_iff_forall_mem.mp segCe_sub op h,
      List.forall_iff_forall_mem.mp segCaiP_sub op h,
      List.forall_iff_forall_mem.mp segCaiT1_sub op h,
      List.forall_iff_forall_mem.mp segCaiT2_sub op h,
      List.forall_iff_forall_mem.mp segHinge_sub op h,
      List.forall_iff_forall_mem.mp segGrpP_sub op h,
      List.forall_iff_forall_mem.mp segCntP1_sub op h,
      List.forall_iff_forall_mem.mp segCntP2_sub op h,
      List.forall_iff_forall_mem.mp segTotP_sub op h,
      List.forall_iff_forall_mem.mp segBackP_sub op h,
      List.forall_iff_forall_mem.mp segRatioP_sub op h,
      List.forall_iff_forall_mem.mp segGrpT_sub op h,
      List.forall_iff_forall_mem.mp segCntT1_sub op h,
      List.forall_iff_forall_mem.mp segCntT2_sub op h,
      List.forall_iff_forall_mem.mp segTotT_sub op h,
      List.forall_iff_forall_mem.mp segBackT_sub op h,
      List.forall_iff_forall_mem.mp segRatioT_sub op h,
      List.forall_iff_forall_mem.mp segRow_sub op h,
      List.forall_iff_forall_mem.mp segKl_sub op h,
      List.forall_iff_forall_mem.mp segOut1_sub op h,
      List.forall_iff_forall_mem.mp segOut2_sub op h]

/-- No operation makes a fresh buffer. -/
theorem allOps_fresh : ∀ op ∈ (allOps : List (HloOp τ sig (Elt F))), op.fresh = ∅ := fun op h => by
    simp only [allOps, part0, part1, part2, part3, part4, List.mem_append, or_assoc] at h
    rcases h with h | h | h | h | h | h | h | h | h | h | h | h | h | h | h | h | h | h | h | h | h | h | h | h | h
    exacts [List.forall_iff_forall_mem.mp segTables_fresh op h,
      List.forall_iff_forall_mem.mp segArgmax_fresh op h,
      List.forall_iff_forall_mem.mp segLogSoftmax_fresh op h,
      List.forall_iff_forall_mem.mp segTake_fresh op h,
      List.forall_iff_forall_mem.mp segCe_fresh op h,
      List.forall_iff_forall_mem.mp segCaiP_fresh op h,
      List.forall_iff_forall_mem.mp segCaiT1_fresh op h,
      List.forall_iff_forall_mem.mp segCaiT2_fresh op h,
      List.forall_iff_forall_mem.mp segHinge_fresh op h,
      List.forall_iff_forall_mem.mp segGrpP_fresh op h,
      List.forall_iff_forall_mem.mp segCntP1_fresh op h,
      List.forall_iff_forall_mem.mp segCntP2_fresh op h,
      List.forall_iff_forall_mem.mp segTotP_fresh op h,
      List.forall_iff_forall_mem.mp segBackP_fresh op h,
      List.forall_iff_forall_mem.mp segRatioP_fresh op h,
      List.forall_iff_forall_mem.mp segGrpT_fresh op h,
      List.forall_iff_forall_mem.mp segCntT1_fresh op h,
      List.forall_iff_forall_mem.mp segCntT2_fresh op h,
      List.forall_iff_forall_mem.mp segTotT_fresh op h,
      List.forall_iff_forall_mem.mp segBackT_fresh op h,
      List.forall_iff_forall_mem.mp segRatioT_fresh op h,
      List.forall_iff_forall_mem.mp segRow_fresh op h,
      List.forall_iff_forall_mem.mp segKl_fresh op h,
      List.forall_iff_forall_mem.mp segOut1_fresh op h,
      List.forall_iff_forall_mem.mp segOut2_fresh op h]

end Cert.RefRun

end
-- ==== Proof.RefRun.lean ====
module

public import proofs.«01_k».proof.Proof.Gen.ReferenceIdeal
public import Idealize.ShloMosaic.Lib.StableHlo.Run
public import Idealize.ShloMosaic.Lib.Pipeline.Frame
public import proofs.«01_k».proof.Proof.RefFacts

/-! The reference's run: it ends with the result array at `refOut` of the arguments and the arguments unchanged. -/

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- What `segTables` leaves in its result. -/
theorem val_c (V : Valuation τ sig (Elt F)) :
    after segTables V (no_index (Proc.devRef .tc main_c)) = grpTab  := by
  simp only [segTables, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segTables` leaves in its result. -/
theorem val_cst (V : Valuation τ sig (Elt F)) :
    after segTables V (no_index (Proc.devRef .tc main_cst)) = nsynTab  := by
  simp only [segTables, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segArgmax` leaves in its result. -/
theorem val_Argmax (V : Valuation τ sig (Elt F)) :
    after segArgmax V (no_index (Proc.devRef .tc main_v0)) = predIds (V (Proc.devRef .tc main_arg0)) := by
  simp only [segArgmax, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segLogSoftmax` leaves in its result. -/
theorem val_LogSoftmax (V : Valuation τ sig (Elt F)) :
    after segLogSoftmax V (no_index (Proc.devRef .tc main_v1)) = logSoftmax (V (Proc.devRef .tc main_arg0)) := by
  simp only [segLogSoftmax, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segTake` leaves in its result. -/
theorem val_Take (V : Valuation τ sig (Elt F)) :
    after segTake V (no_index (Proc.devRef .tc main_v3)) = takeTarget (V (Proc.devRef .tc main_v1)) (V (Proc.devRef .tc main_arg1)) := by
  simp only [segTake, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segCe` leaves in its result. -/
theorem val_Ce (V : Valuation τ sig (Elt F)) :
    after segCe V (no_index (Proc.devRef .tc main_v13)) = ceOf (V (Proc.devRef .tc main_v3)) (V (Proc.devRef .tc main_arg1)) := by
  simp only [segCe, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segCaiP` leaves in its result. -/
theorem val_CaiP (V : Valuation τ sig (Elt F)) :
    after segCaiP V (no_index (Proc.devRef .tc main_v38)) = caiOf (V (Proc.devRef .tc main_arg5)) (V (Proc.devRef .tc main_arg3)) (V (Proc.devRef .tc main_v0)) (V (Proc.devRef .tc main_arg4)) := by
  simp only [segCaiP, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segCaiT1` and `segCaiT2` leaves in its result. -/
theorem val_CaiT (V : Valuation τ sig (Elt F)) :
    after segCaiT2 (after segCaiT1 V) (no_index (Proc.devRef .tc main_v63)) = caiOf (V (Proc.devRef .tc main_arg5)) (V (Proc.devRef .tc main_arg3)) (V (Proc.devRef .tc main_arg1)) (V (Proc.devRef .tc main_arg4)) := by
  simp only [segCaiT1, segCaiT2, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segHinge` leaves in its result. -/
theorem val_Hinge (V : Valuation τ sig (Elt F)) :
    after segHinge V (no_index (Proc.devRef .tc main_v67)) = hingeOf (V (Proc.devRef .tc main_v38)) (V (Proc.devRef .tc main_v63)) := by
  simp only [segHinge, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segGrpP` leaves in its result. -/
theorem val_GrpP (V : Valuation τ sig (Elt F)) :
    after segGrpP V (no_index (Proc.devRef .tc main_v68)) = groupOf (V (Proc.devRef .tc main_c)) (V (Proc.devRef .tc main_v0)) := by
  simp only [segGrpP, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segCntP1` and `segCntP2` leaves in its result. -/
theorem val_CntP (V : Valuation τ sig (Elt F)) :
    after segCntP2 (after segCntP1 V) (no_index (Proc.devRef .tc main_v93)) = countsOf (V (Proc.devRef .tc main_v68)) (V (Proc.devRef .tc main_v0)) (V (Proc.devRef .tc main_arg4)) := by
  simp only [segCntP1, segCntP2, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segTotP` leaves in its result. -/
theorem val_TotP (V : Valuation τ sig (Elt F)) :
    after segTotP V (no_index (Proc.devRef .tc main_v101)) = totalsOf (V (Proc.devRef .tc main_c)) (V (Proc.devRef .tc main_v93)) := by
  simp only [segTotP, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segBackP` leaves in its result. -/
theorem val_BackP (V : Valuation τ sig (Elt F)) :
    after segBackP V (no_index (Proc.devRef .tc main_v102)) = backOf (V (Proc.devRef .tc main_c)) (V (Proc.devRef .tc main_v101)) := by
  simp only [segBackP, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segRatioP` leaves in its result. -/
theorem val_RatioP (V : Valuation τ sig (Elt F)) :
    after segRatioP V (no_index (Proc.devRef .tc main_v111)) = ratioOf (V (Proc.devRef .tc main_cst)) (V (Proc.devRef .tc main_v93)) (V (Proc.devRef .tc main_v102)) := by
  simp only [segRatioP, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segGrpT` leaves in its result. -/
theorem val_GrpT (V : Valuation τ sig (Elt F)) :
    after segGrpT V (no_index (Proc.devRef .tc main_v112)) = groupOf (V (Proc.devRef .tc main_c)) (V (Proc.devRef .tc main_arg1)) := by
  simp only [segGrpT, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segCntT1` and `segCntT2` leaves in its result. -/
theorem val_CntT (V : Valuation τ sig (Elt F)) :
    after segCntT2 (after segCntT1 V) (no_index (Proc.devRef .tc main_v137)) = countsOf (V (Proc.devRef .tc main_v112)) (V (Proc.devRef .tc main_arg1)) (V (Proc.devRef .tc main_arg4)) := by
  simp only [segCntT1, segCntT2, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segTotT` leaves in its result. -/
theorem val_TotT (V : Valuation τ sig (Elt F)) :
    after segTotT V (no_index (Proc.devRef .tc main_v145)) = totalsOf (V (Proc.devRef .tc main_c)) (V (Proc.devRef .tc main_v137)) := by
  simp only [segTotT, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segBackT` leaves in its result. -/
theorem val_BackT (V : Valuation τ sig (Elt F)) :
    after segBackT V (no_index (Proc.devRef .tc main_v146)) = backOf (V (Proc.devRef .tc main_c)) (V (Proc.devRef .tc main_v145)) := by
  simp only [segBackT, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segRatioT` leaves in its result. -/
theorem val_RatioT (V : Valuation τ sig (Elt F)) :
    after segRatioT V (no_index (Proc.devRef .tc main_v155)) = ratioOf (V (Proc.devRef .tc main_cst)) (V (Proc.devRef .tc main_v137)) (V (Proc.devRef .tc main_v146)) := by
  simp only [segRatioT, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segRow` leaves in its result. -/
theorem val_Row (V : Valuation τ sig (Elt F)) :
    after segRow V (no_index (Proc.devRef .tc main_v156)) = speciesRow (V (Proc.devRef .tc main_arg6)) (V (Proc.devRef .tc main_arg3)) := by
  simp only [segRow, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segKl` leaves in its result. -/
theorem val_Kl (V : Valuation τ sig (Elt F)) :
    after segKl V (no_index (Proc.devRef .tc main_v179)) = klOf (V (Proc.devRef .tc main_v111)) (V (Proc.devRef .tc main_v155)) (V (Proc.devRef .tc main_v156)) := by
  simp only [segKl, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What `segOut1` and `segOut2` leaves in its result. -/
theorem val_Out (V : Valuation τ sig (Elt F)) :
    after segOut2 (after segOut1 V) (no_index (Proc.devRef .tc main_v185)) = totalOf (V (Proc.devRef .tc main_v13)) (V (Proc.devRef .tc main_v67)) (V (Proc.devRef .tc main_v179)) := by
  simp only [segOut1, segOut2, TRef.binary, TRef.nullary, TRef.reshape, TRef.ternary, TRef.unary, TRef.quaternary, TRef.toBuf, TRef.ofBuf, cast_eq]
  after_results_simp
  rfl

set_option maxRecDepth 16384 in
set_option maxHeartbeats 4000000 in
/-- What all the operations leave in the result: `refOut` of the arguments. -/
theorem after_all (V : Valuation τ sig (Elt F)) : after allOps V (Proc.devRef .tc main_v185) =
    refOut (V (Proc.devRef .tc main_arg0)) (V (Proc.devRef .tc main_arg1)) (V (Proc.devRef .tc main_arg3)) (V (Proc.devRef .tc main_arg4)) (V (Proc.devRef .tc main_arg5)) (V (Proc.devRef .tc main_arg6)) := by
  simp only [allOps, part0, part1, part2, part3, part4, after_append]
  simp (disch := decide) only [val_c, val_cst, val_Argmax, val_LogSoftmax, val_Take, val_Ce, val_CaiP, val_CaiT, val_Hinge, val_GrpP, val_CntP, val_TotP, val_BackP, val_RatioP, val_GrpT, val_CntT, val_TotT, val_BackT, val_RatioT, val_Row, val_Kl, val_Out,
    segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]
  rfl

set_option maxRecDepth 16384 in
/-- Argument 0 is left as it was. -/
theorem after_all_arg0 (V : Valuation τ sig (Elt F)) : after allOps V (Proc.devRef .tc main_arg0) = V (Proc.devRef .tc main_arg0) := by
  simp only [allOps, part0, part1, part2, part3, part4, after_append]
  simp (disch := decide) only [segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]

set_option maxRecDepth 16384 in
/-- Argument 1 is left as it was. -/
theorem after_all_arg1 (V : Valuation τ sig (Elt F)) : after allOps V (Proc.devRef .tc main_arg1) = V (Proc.devRef .tc main_arg1) := by
  simp only [allOps, part0, part1, part2, part3, part4, after_append]
  simp (disch := decide) only [segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]

set_option maxRecDepth 16384 in
/-- Argument 2 is left as it was. -/
theorem after_all_arg2 (V : Valuation τ sig (Elt F)) : after allOps V (Proc.devRef .tc main_arg2) = V (Proc.devRef .tc main_arg2) := by
  simp only [allOps, part0, part1, part2, part3, part4, after_append]
  simp (disch := decide) only [segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]

set_option maxRecDepth 16384 in
/-- Argument 3 is left as it was. -/
theorem after_all_arg3 (V : Valuation τ sig (Elt F)) : after allOps V (Proc.devRef .tc main_arg3) = V (Proc.devRef .tc main_arg3) := by
  simp only [allOps, part0, part1, part2, part3, part4, after_append]
  simp (disch := decide) only [segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]

set_option maxRecDepth 16384 in
/-- Argument 4 is left as it was. -/
theorem after_all_arg4 (V : Valuation τ sig (Elt F)) : after allOps V (Proc.devRef .tc main_arg4) = V (Proc.devRef .tc main_arg4) := by
  simp only [allOps, part0, part1, part2, part3, part4, after_append]
  simp (disch := decide) only [segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]

set_option maxRecDepth 16384 in
/-- Argument 5 is left as it was. -/
theorem after_all_arg5 (V : Valuation τ sig (Elt F)) : after allOps V (Proc.devRef .tc main_arg5) = V (Proc.devRef .tc main_arg5) := by
  simp only [allOps, part0, part1, part2, part3, part4, after_append]
  simp (disch := decide) only [segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]

set_option maxRecDepth 16384 in
/-- Argument 6 is left as it was. -/
theorem after_all_arg6 (V : Valuation τ sig (Elt F)) : after allOps V (Proc.devRef .tc main_arg6) = V (Proc.devRef .tc main_arg6) := by
  simp only [allOps, part0, part1, part2, part3, part4, after_append]
  simp (disch := decide) only [segTables_keep, segArgmax_keep, segLogSoftmax_keep, segTake_keep, segCe_keep, segCaiP_keep, segCaiT1_keep, segCaiT2_keep, segHinge_keep, segGrpP_keep, segCntP1_keep, segCntP2_keep, segTotP_keep, segBackP_keep, segRatioP_keep, segGrpT_keep, segCntT1_keep, segCntT2_keep, segTotT_keep, segBackT_keep, segRatioT_keep, segRow_keep, segKl_keep, segOut1_keep, segOut2_keep]

/-- From any memory with zero counters, every weakly fair execution of the reference ends with the result array at
`refOut` of the arguments' contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v185) = refOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v185).trans (after_all (launchContents m c)),
      (h c main_arg0).trans (after_all_arg0 (launchContents m c)),
      (h c main_arg1).trans (after_all_arg1 (launchContents m c)),
      (h c main_arg2).trans (after_all_arg2 (launchContents m c)),
      (h c main_arg3).trans (after_all_arg3 (launchContents m c)),
      (h c main_arg4).trans (after_all_arg4 (launchContents m c)),
      (h c main_arg5).trans (after_all_arg5 (launchContents m c)),
      (h c main_arg6).trans (after_all_arg6 (launchContents m c))⟩)
    (run_seq scopedRefs_eq scopedSems_eq defs main (fun _ => allOps) main_eq (fun _ => allOps_sub) m ρ fun _ => allOps_fresh)

end Cert.RefRun

end
-- ==== Proof.FirstMax.lean ====
module

public import Idealize.ShloMosaic.Lib.Tactic
public import Idealize.ShloMosaic.Lib.Pointwise
public import Idealize.ShloMosaic.PureOps

/-! The first index at which a row of 66 extended reals is largest, and two ways of computing it. -/

@[expose] public section

noncomputable section

namespace Cert.FirstMax

open Idealize.ShloMosaic

/-- `P` is the first index at which `f` is largest. -/
def IsFirst (f : Fin 66 → EReal) (P : Fin 66) : Prop := (∀ k, f k ≤ f P) ∧ ∀ k, f k = f P → P ≤ k

/-- Every row has one. -/
theorem exists_first (f : Fin 66 → EReal) : ∃ P, IsFirst f P := by
  obtain ⟨Q, -, hQ⟩ := Finset.exists_max_image Finset.univ f ⟨0, Finset.mem_univ _⟩
  have hne : (Finset.univ.filter fun k => f k = f Q).Nonempty := ⟨Q, by simp⟩
  refine ⟨(Finset.univ.filter fun k => f k = f Q).min' hne, ?_⟩
  have hm := Finset.min'_mem _ hne
  rw [Finset.mem_filter] at hm
  refine ⟨fun k => (hQ k (Finset.mem_univ k)).trans hm.2.symm.le, fun k hk => ?_⟩
  exact Finset.min'_le _ _ (by rw [Finset.mem_filter]; exact ⟨Finset.mem_univ k, hk.trans hm.2⟩)

/-- That index. -/
def firstMax (f : Fin 66 → EReal) : Fin 66 := Classical.choose (exists_first f)

/-- It is the first largest index. -/
theorem firstMax_spec (f : Fin 66 → EReal) : IsFirst f (firstMax f) := Classical.choose_spec (exists_first f)

/-- Only one index is first. -/
theorem IsFirst.eq {f : Fin 66 → EReal} {P : Fin 66} (h : IsFirst f P) : P = firstMax f := by
  have g := firstMax_spec f
  have e : f P = f (firstMax f) := le_antisymm (g.1 P) (h.1 _)
  exact le_antisymm (h.2 _ e.symm) (g.2 _ e)

/-- The running maximum from −∞ is the value at the first largest index. -/
theorem fold_max (f : Fin 66 → EReal) : Finset.univ.fold max ⊥ f = f (firstMax f) := by
  refine le_antisymm (Finset.fold_max_le _ |>.mpr ⟨bot_le, fun k _ => (firstMax_spec f).1 k⟩) ?_
  exact (Finset.le_fold_max _).mpr (Or.inr ⟨_, Finset.mem_univ _, le_rfl⟩)

/-- The signed minimum picks one of its arguments and is at most both. -/
theorem minsi_le (a b : BitVec 32) : (IntOp.minsi a b = a ∨ IntOp.minsi a b = b) ∧ (IntOp.minsi a b).toInt ≤ a.toInt
    ∧ (IntOp.minsi a b).toInt ≤ b.toInt := by
  unfold IntOp.minsi
  split <;> rename_i h <;> simp only [BitVec.slt, decide_eq_true_eq, BitVec.sle] at h
  all_goals first
    | exact ⟨Or.inl rfl, le_rfl, by omega⟩
    | exact ⟨Or.inr rfl, by omega, le_rfl⟩

/-- The signed minimum over a set is attained and is at most every element. -/
theorem fold_minsi (s : Finset (Fin 66)) (g : Fin 66 → BitVec 32) (i : BitVec 32) :
    (s.fold IntOp.minsi i g = i ∨ ∃ k ∈ s, s.fold IntOp.minsi i g = g k) ∧ (s.fold IntOp.minsi i g).toInt ≤ i.toInt
      ∧ ∀ k ∈ s, (s.fold IntOp.minsi i g).toInt ≤ (g k).toInt := by
  classical
  induction s using Finset.induction_on with
  | empty => simp
  | insert a s ha ih =>
    rw [Finset.fold_insert ha]
    obtain ⟨h1, h2, h3⟩ := minsi_le (g a) (s.fold IntOp.minsi i g)
    obtain ⟨i1, i2, i3⟩ := ih
    refine ⟨?_, h3.trans i2, fun k hk => ?_⟩
    · rcases h1 with h | h
      · exact Or.inr ⟨a, Finset.mem_insert_self _ _, h⟩
      · rcases i1 with e | ⟨k, hk, e⟩
        · exact Or.inl (h.trans e)
        · exact Or.inr ⟨k, Finset.mem_insert_of_mem hk, h.trans e⟩
    · rcases Finset.mem_insert.mp hk with rfl | hk
      · exact h2
      · exact h3.trans (i3 k hk)

/-- A small number as a signed word is itself. -/
theorem toInt_small (n : ℕ) (h : n < 100) : (BitVec.ofNat 32 n).toInt = n := by
  rw [BitVec.toInt_eq_toNat_of_lt (by rw [BitVec.toNat_ofNat]; omega), BitVec.toNat_ofNat]
  omega

/-- The least index whose value equals the maximum, 66 standing for the others, is the first largest index. -/
theorem fold_first (f : Fin 66 → EReal) :
    Finset.univ.fold IntOp.minsi (2147483647#32) (fun k : Fin 66 => if f k = f (firstMax f) then BitVec.ofNat 32 k.val else 66#32)
      = BitVec.ofNat 32 (firstMax f).val := by
  obtain ⟨h1, h2, h3⟩ := fold_minsi Finset.univ (fun k : Fin 66 => if f k = f (firstMax f) then BitVec.ofNat 32 k.val else 66#32) (2147483647#32)
  generalize Finset.univ.fold IntOp.minsi (2147483647#32) (fun k : Fin 66 => if f k = f (firstMax f) then BitVec.ofNat 32 k.val else 66#32) = r at *
  have hP := h3 (firstMax f) (Finset.mem_univ _)
  rw [if_pos rfl, toInt_small _ (by omega)] at hP
  have hp := (firstMax f).isLt
  rcases h1 with h | ⟨k, -, h⟩
  · rw [h] at hP
    have : (2147483647#32).toInt = 2147483647 := by decide
    omega
  · by_cases e : f k = f (firstMax f)
    · simp only [if_pos e] at h
      have hk := (firstMax_spec f).2 k e
      rw [h, toInt_small _ (by omega)] at hP
      have : k = firstMax f := Fin.ext (by have : (firstMax f).val ≤ k.val := hk; omega)
      rw [h, this]
    · simp only [if_neg e] at h
      rw [h] at hP
      have : (66#32).toInt = 66 := by decide
      omega

/-- A step of the comparison of (value, index) pairs: the greater value, on equal values the smaller index. -/
def Better (f : EReal × BitVec 32 → EReal × BitVec 32 → EReal × BitVec 32) : Prop :=
  ∀ a b, (f a b = a ∨ f a b = b) ∧ (a.1 ≤ (f a b).1 ∧ (a.1 = (f a b).1 → (f a b).2.toInt ≤ a.2.toInt))
    ∧ (b.1 ≤ (f a b).1 ∧ (b.1 = (f a b).1 → (f a b).2.toInt ≤ b.2.toInt))

/-- Such a comparison folded over a list picks one of its pairs, of the largest value and the smallest index among those. -/
theorem foldl_better {f : EReal × BitVec 32 → EReal × BitVec 32 → EReal × BitVec 32} (hf : Better f) (L : List (EReal × BitVec 32))
    (p : EReal × BitVec 32) : (L.foldl f p = p ∨ L.foldl f p ∈ L) ∧ ∀ q ∈ p :: L, q.1 ≤ (L.foldl f p).1
      ∧ (q.1 = (L.foldl f p).1 → (L.foldl f p).2.toInt ≤ q.2.toInt) := by
  induction L generalizing p with
  | nil => simp
  | cons a L ih =>
    rw [List.foldl_cons]
    obtain ⟨h1, h2⟩ := ih (f p a)
    obtain ⟨g1, gp, ga⟩ := hf p a
    have key := h2 (f p a) (List.mem_cons_self)
    have up : ∀ q : EReal × BitVec 32, (q.1 ≤ (f p a).1 ∧ (q.1 = (f p a).1 → (f p a).2.toInt ≤ q.2.toInt)) →
        q.1 ≤ (L.foldl f (f p a)).1 ∧ (q.1 = (L.foldl f (f p a)).1 → (L.foldl f (f p a)).2.toInt ≤ q.2.toInt) := by
      intro q ⟨hq, hq'⟩
      refine ⟨hq.trans key.1, fun e => ?_⟩
      have e1 : q.1 = (f p a).1 := le_antisymm hq (key.1.trans e.symm.le)
      exact (key.2 (e1.symm.trans e)).trans (hq' e1)
    constructor
    · rcases h1 with h | h
      · rcases g1 with g | g
        · exact Or.inl (h.trans g)
        · exact Or.inr (by rw [h, g]; exact List.mem_cons_self)
      · exact Or.inr (List.mem_cons_of_mem _ h)
    · intro q hq
      rcases List.mem_cons.mp hq with rfl | hq
      · exact up _ gp
      · rcases List.mem_cons.mp hq with rfl | hq
        · exact up _ ga
        · exact h2 q (List.mem_cons_of_mem _ hq)

/-- The pattern of −∞. -/
theorem ofBits_neg_inf : Ideal.ofBits .f32 0xFF800000#32 = ⊥ := by simp [Ideal.ofBits, Ideal.ieee]

/-- A reduction of (value, index) pairs by such a comparison: the pair it returns is the initial one or one of the reduced
    ones, and no reduced pair beats it. -/
theorem argReduce_spec {s t u : Shape} {axes : List (Fin s.rank)} {f : EReal × BitVec 32 → EReal × BitVec 32 → EReal × BitVec 32}
    (hf : Better f) (x : s.Idx → EReal) (y : s.Idx → BitVec 32) (ix : u.Idx → EReal) (iy : u.Idx → BitVec 32) (h : s.ReducesTo axes t)
    (hu : 0 < u.numel) (j : t.Idx) (r : EReal × BitVec 32) (hr : r = Host.argReduce (F := Ideal) (φ := .f32) f x y ix iy h hu j) :
    (r.1 = ix (Shape.Idx.first hu) ∨ ∃ i, h.drop i = j ∧ r = (x i, y i))
      ∧ ∀ i, h.drop i = j → x i ≤ r.1 ∧ (x i = r.1 → r.2.toInt ≤ (y i).toInt) := by
  rw [Ideal.argReduce_eq_reduce2, Host.reduce2_eq_foldl_fiber] at hr
  obtain ⟨h1, h2⟩ := foldl_better hf (Host.argReduceFiber x y h j) (ix (Shape.Idx.first hu), iy (Shape.Idx.first hu))
  rw [← hr] at h1 h2
  constructor
  · rcases h1 with e | e
    · exact Or.inl (by rw [e])
    · rw [Host.argReduceFiber, List.mem_map] at e
      obtain ⟨n, hn, e⟩ := e
      exact Or.inr ⟨_, by simpa using (List.mem_filter.mp hn).2, e.symm⟩
  · intro i hi
    refine h2 (x i, y i) (List.mem_cons_of_mem _ ?_)
    rw [Host.argReduceFiber, List.mem_map]
    exact ⟨s.rowMajor i, by rw [List.mem_filter]; exact ⟨List.mem_finRange _, by simpa using hi⟩, by simp⟩

end Cert.FirstMax

end
-- ==== Proof.Words.lean ====
module

public import Idealize.ShloMosaic.Lib.Tactic
public import Idealize.ShloMosaic.Lib.Pointwise

/-! Bits read as numbers, and small integers as words. -/

@[expose] public section

noncomputable section

namespace Cert.Words

open Idealize.ShloMosaic

/-- A bit widened to a word and read as a signed number. -/
theorem sitofp_bit (b : BitVec 1) : (FloatOps.sitofp (F := Ideal) .f32 (b.setWidth 32) : EReal) = if b = 1#1 then 1 else 0 := by
  revert b
  have h : ∀ b : BitVec 1, (b.setWidth 32 : BitVec 32).toInt = if b = 1#1 then 1 else 0 := by decide
  intro b
  show (((b.setWidth 32 : BitVec 32).toInt : ℝ) : EReal) = _
  rw [h]
  split_ifs <;> simp

/-- A bit read as an unsigned number. -/
theorem uitofp_bit (b : BitVec 1) : (FloatOps.uitofp (F := Ideal) .f32 b : EReal) = if b = 1#1 then 1 else 0 := by
  have h : ∀ b : BitVec 1, b.toNat = if b = 1#1 then 1 else 0 := by decide
  show ((b.toNat : ℝ) : EReal) = _
  rw [h]
  split_ifs <;> simp

/-- The bit of an equality test. -/
theorem cmpi_eq_iff {w : Nat} (a b : BitVec w) : IntOp.cmpi .eq a b = 1#1 ↔ a = b := by
  by_cases h : a = b
  · simp [IntOp.cmpi, h]
  · simp [IntOp.cmpi, h, beq_eq_false_iff_ne.mpr h, bne]

/-- The bit of an inequality test. -/
theorem cmpi_ne_iff {w : Nat} (a b : BitVec w) : IntOp.cmpi .ne a b = 1#1 ↔ a ≠ b := by
  by_cases h : a = b
  · simp [IntOp.cmpi, h]
  · simp [IntOp.cmpi, h, beq_eq_false_iff_ne.mpr h, bne]

/-- Words of small numbers are equal when the numbers are. -/
theorem ofNat_inj {a b : Nat} (ha : a < 100) (hb : b < 100) : BitVec.ofNat 32 a = BitVec.ofNat 32 b ↔ a = b := by
  constructor
  · intro h
    have := congrArg BitVec.toNat h
    simp only [BitVec.toNat_ofNat] at this
    omega
  · rintro rfl; rfl

/-- A one-hot entry times a number. -/
theorem onehot_mul (p : Prop) [Decidable p] (v : EReal) : (if p then (1 : EReal) else 0) * v = if p then v else 0 := by
  split_ifs <;> simp

end Cert.Words

end

end
-- ==== Proof.KernelStep.lean ====
module

public import proofs.«01_k».proof.Proof.Gen.KernelIdeal.Frame
public import Idealize.ShloMosaic.Lib.Pipeline.Value
public import Idealize.ShloMosaic.Lib.Tactic
public import Idealize.ShloMosaic.Lib.WritesUnit
public import Idealize.ShloMosaic.Lib.VecWindow
public import Idealize.ShloMosaic.Lib.CellWrites
public import Idealize.ShloMosaic.Lib.Pointwise

/-! What one grid point leaves in the three carried buffers, and what the last point stores in the result, as
functions of the point's blocks and of what the point before left. -/

@[expose] public section

noncomputable section

namespace Cert.KernelStep

open Cert.KernelIdeal Cert.KernelIdeal.Gen Idealize.ShloMosaic Idealize.ShloMosaic.TcCoe Idealize.SL.Sem

variable {F : FTy → Type} [FloatOps F]

/-- Row `r` of a table, as a table of one row. -/
def rowOf (r : Fin 64) (f : Vec F S64x66 .f32) : Vec F S1x66 .f32 := fun z => f (ix2 r (z 1))

/-- The table `f` with its row `r` replaced by `w`. -/
def patch (r : Fin 64) (f : Vec F S64x66 .f32) (w : Vec F S1x66 .f32) : Vec F S64x66 .f32 :=
  fun y => if (y 0).val = r.val then w (ix2 0 (y 1)) else f y

/-- One step of the table of predicted codons: row `r` plus the block's masked counts. -/
def stepH (r : Fin 64) (x6 : Vec F S1x512x66 .f32) (x8 : Vec F S1x1x512 .f32) (f : Vec F S64x66 .f32) : Vec F S64x66 .f32 :=
  patch r f (k0_pay19 (k0_pay10 x6) (k0_pay12 x8) (iota .tc S512x66 32 [1] iota_S512x66_d1_w32) (k0_pay13 x6) (rowOf r f))

/-- One step of the table of target codons. -/
def stepT (r : Fin 64) (x7 : Vec F S1x1x512 .i32) (x8 : Vec F S1x1x512 .f32) (f : Vec F S64x66 .f32) : Vec F S64x66 .f32 :=
  patch r f (k0_pay20 (k0_pay12 x8) (k0_pay14 x7) (rowOf r f))

/-- One step of the two running sums: the masked losses and the number of positions that count. -/
def stepM (x6 : Vec F S1x512x66 .f32) (x7 : Vec F S1x1x512 .i32) (f : Vec F S2 .f32) : Vec F S2 .f32 :=
  fun y => if (y 0).val = 1 then k0_pay18 (k0_pay15 x7) (f (ix1 1)) else k0_pay17 (f (ix1 0)) (k0_pay16 x6 x7)

/-- What the last point stores, from the finished tables `h`, `t` and sums `s`. -/
def lastOut (x0 : Vec F S64x5 .f32) (x1 x2 : Vec F S5x66 .f32) (x3 : Vec F S66x66 .f32) (x4 x5 : Vec F S1x66 .f32)
    (h t : Vec F S64x66 .f32) (s : Vec F S2 .f32) : Vec F S1x1 .f32 :=
  k0_pay1 (k0_pay3 h t x0 x1) (k0_pay7 t (k0_pay2 x0) x5 x4 x3 (k0_pay4 h x5) (k0_pay5 h x5 x3) k0_pay6 x2) (s (ix1 0)) (s (ix1 1))

/-- Equal tables and sums give the same stored loss. -/
theorem lastOut_congr {x0 : Vec F S64x5 .f32} {x1 x2 : Vec F S5x66 .f32} {x3 : Vec F S66x66 .f32} {x4 x5 : Vec F S1x66 .f32}
    {h t h' t' : Vec F S64x66 .f32} {s : Vec F S2 .f32} {a b : F .f32} (eh : h = h') (et : t = t') (ea : a = s (ix1 0)) (eb : b = s (ix1 1)) :
    k0_pay1 (k0_pay3 h t x0 x1) (k0_pay7 t (k0_pay2 x0) x5 x4 x3 (k0_pay4 h x5) (k0_pay5 h x5 x3) k0_pay6 x2) a b
      = lastOut x0 x1 x2 x3 x4 x5 h' t' s := by
  subst eh et ea eb
  rfl

section Views

variable {sig : RefSig} {κ : Kind} {sp : Space}

/-- A store of one row over earlier stores leaves their contents with the row replaced. -/
theorem read_row (v : View sig κ sp S64x66 .f32) (f : v.ty.Contents (Elt F)) (r : Fin 64) {off : Fin 2 → ℕ} (h : off = ![r.val, 0])
    (inb : ∀ a, off a + S1x66.size a ≤ S64x66.size a) (w : Vec F S1x66 .f32) (L : List (View.Piece (Elt F) S64x66 .f32)) :
    v.read (Elt F) (v.writes (Elt F) f (⟨Rect.unit off S1x66.size inb, w⟩ :: L)) = patch r (v.read (Elt F) (v.writes (Elt F) f L)) w := by
  funext y
  unfold patch
  by_cases hy : (y 0).val = r.val
  · rw [if_pos hy]
    exact View.read_writes_cons_unit_of_mem v f inb w L y (ix2 0 (y 1)) h (by
      intro a; fin_cases a
      · simpa using hy
      · simp)
  · rw [if_neg hy]
    exact View.read_writes_cons_unit_of_not_mem v f inb w L y h 0 (by
      show (y 0).val < r.val ∨ r.val + 1 ≤ (y 0).val
      omega)

/-- A load of one row reads that row. -/
theorem ld_row (X : Vec F S64x66 .f32) (r : Fin 64) {off : Fin 2 → ℕ} (h : off = ![r.val, 0])
    (inb : ∀ a, off a + S1x66.size a ≤ S64x66.size a) :
    View.ld X (Rect.unit off S1x66.size inb) = rowOf r X := by
  subst h
  funext z
  refine congrArg X (funext fun a => Fin.ext ?_)
  match a with
  | ⟨0, _⟩ => show r.val + 1 * (z 0).val = r.val
              have := (z 0).isLt
              have h1 : (z 0).val < 1 := this
              omega
  | ⟨1, _⟩ => show 0 + 1 * (z 1).val = (z 1).val
              omega

/-- Stores of the two cells leave their two payloads. -/
theorem read_cells (v : View sig κ sp S2 .f32) (f : v.ty.Contents (Elt F)) (a b : F .f32) (L : List (View.Piece (Elt F) S2 .f32))
    (i1 : ∀ k, (![1] : Fin 1 → ℕ) k + (![1] : Fin 1 → ℕ) k ≤ S2.size k) (i0 : ∀ k, (![0] : Fin 1 → ℕ) k + (![1] : Fin 1 → ℕ) k ≤ S2.size k) :
    v.read (Elt F) (v.writes (Elt F) f (⟨Rect.unit ![1] ![1] i1, fun _ => b⟩ :: ⟨Rect.unit ![0] ![1] i0, fun _ => a⟩ :: L))
      = fun y => if (y 0).val = 1 then b else a := by
  funext y
  have hy : (y 0).val < 2 := (y 0).isLt
  rw [View.read_writes_cons_cell (d := ![2]), View.read_writes_cons_cell (d := ![2])]
  by_cases h : (y 0).val = 1
  · simp [h]
  · have h0 : (y 0).val = 0 := by omega
    simp [h0]

/-- A load of cell `k` reads that cell. -/
theorem ld_cell (X : Vec F S2 .f32) (k : Fin 2) (inb : ∀ a, (![k.val] : Fin 1 → ℕ) a + S1.size a ≤ S2.size a) (z : S1.Idx) :
    View.ld X (Rect.unit ![k.val] S1.size inb) z = X (ix1 k) := by
  refine congrArg X (funext fun a => Fin.ext ?_)
  match a with
  | ⟨0, _⟩ => show k.val + 1 * (z 0).val = k.val
              have h1 : (z 0).val < 1 := (z 0).isLt
              omega

/-- Loads of the two cells, at their literal offsets. -/
theorem ld_cell0 (X : Vec F S2 .f32) (inb : ∀ a, (![0] : Fin 1 → ℕ) a + (![1] : Fin 1 → ℕ) a ≤ S2.size a) (z : S1.Idx) :
    View.ld X (Rect.unit ![0] ![1] inb) z = X (ix1 0) := ld_cell X 0 inb z
@[inherit_doc ld_cell0]
theorem ld_cell1 (X : Vec F S2 .f32) (inb : ∀ a, (![1] : Fin 1 → ℕ) a + (![1] : Fin 1 → ℕ) a ≤ S2.size a) (z : S1.Idx) :
    View.ld X (Rect.unit ![1] ![1] inb) z = X (ix1 1) := ld_cell X 1 inb z

end Views

/-- The row a grid point works on. -/
theorem off_eq (i : grid0.Coords) : k0_off1 i = ![(i 0).val, 0] := by
  have h : (i 0).val < 64 := (i 0).isLt
  unfold k0_off1
  simp only [Scalar.indexCast]
  funext a
  match a with
  | ⟨0, _⟩ => show (BitVec.ofNat 32 (i 0).val).toNat = (i 0).val
              rw [BitVec.toNat_ofNat]; omega
  | ⟨1, _⟩ => rfl

/-- Offsets that are all zero. -/
theorem hz2 : (![0, 0] : Fin 2 → ℕ) = fun _ => 0 := funext fun a => by fin_cases a <;> rfl
@[inherit_doc hz2]
theorem hz3 : (![0, 0, 0] : Fin 3 → ℕ) = fun _ => 0 := funext fun a => by fin_cases a <;> rfl

/-- The first point: its counts over a table of zeros. -/
theorem sout0_A_0_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : cond0_0 i) (hc1 : ¬cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = stepH (i 0) x6 x8 k0_pay8 := by
  unfold sout0_A_0 kernelRun0_A
  dsimp only
  sl_unfold_words
  refine (read_row _ _ (i 0) (off_eq i) _ _ _).trans ?_
  simp only [View.readAt_eq_ld, harg8.read_unread, harg9.read_unread, harg10.read_unread, harg12.read_unread, harg13.read_unread, harg14.read_unread, View.ld_unit_zero (S := S1x512x66) hz3, View.ld_unit_zero (S := S1x1x512) hz3]
  exact congrArg₂ (fun a w => patch (i 0) a (k0_pay19 _ _ _ _ w)) (View.read_writes_full _ _ _ _ _)
    ((ld_row _ (i 0) (off_eq i) _).trans (congrArg (rowOf (i 0)) (View.read_writes_full _ _ _ _ _)))

/-- The first point: its target counts over a table of zeros. -/
theorem sout0_A_1_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : cond0_0 i) (hc1 : ¬cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = stepT (i 0) x7 x8 k0_pay9 := by
  unfold sout0_A_1 kernelRun0_A
  dsimp only
  sl_unfold_words
  refine (read_row _ _ (i 0) (off_eq i) _ _ _).trans ?_
  simp only [View.readAt_eq_ld, harg8.read_unread, harg9.read_unread, harg10.read_unread, harg12.read_unread, harg13.read_unread, harg14.read_unread, View.ld_unit_zero (S := S1x512x66) hz3, View.ld_unit_zero (S := S1x1x512) hz3]
  exact congrArg₂ (fun a w => patch (i 0) a (k0_pay20 _ _ w)) (View.read_writes_full _ _ _ _ _)
    ((ld_row _ (i 0) (off_eq i) _).trans (congrArg (rowOf (i 0)) (View.read_writes_full _ _ _ _ _)))

/-- The first point: its sums over zeros. -/
theorem sout0_A_2_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : cond0_0 i) (hc1 : ¬cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = stepM x6 x7 (fun _ => Scalar.ofBits .f32 0x00000000#32) := by
  unfold sout0_A_2 kernelRun0_A
  dsimp only
  sl_unfold_words
  refine (read_cells _ _ _ _ _ _ _).trans ?_
  simp only [View.readAt_eq_ld, harg8.read_unread, harg9.read_unread, harg10.read_unread, harg12.read_unread, harg13.read_unread, harg14.read_unread, View.ld_unit_zero (S := S1x512x66) hz3, View.ld_unit_zero (S := S1x1x512) hz3]
  rfl

/-- A middle point: its counts over what the point before left. -/
theorem sout0_B_0_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : ¬cond0_0 i) (hc1 : ¬cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) (xs0 : Vec F S64x66 .f32) (xs1 : Vec F S64x66 .f32) (xs2 : Vec F S2 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = stepH (i 0) x6 x8 xs0 := by
  unfold sout0_B_0 kernelRun0_B
  dsimp only
  sl_unfold_words
  refine (read_row _ _ (i 0) (off_eq i) _ _ _).trans ?_
  simp only [View.writes_nil, View.readAt_eq_ld, harg8.read_unread, harg9.read_unread, harg10.read_unread, harg12.read_unread, harg13.read_unread, harg14.read_unread, View.ld_unit_zero (S := S1x512x66) hz3, View.ld_unit_zero (S := S1x1x512) hz3]
  exact congrArg (fun w => patch (i 0) xs0 (k0_pay19 _ _ _ _ w)) (ld_row xs0 (i 0) (off_eq i) _)

/-- A middle point: its target counts over what the point before left. -/
theorem sout0_B_1_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : ¬cond0_0 i) (hc1 : ¬cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) (xs0 : Vec F S64x66 .f32) (xs1 : Vec F S64x66 .f32) (xs2 : Vec F S2 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = stepT (i 0) x7 x8 xs1 := by
  unfold sout0_B_1 kernelRun0_B
  dsimp only
  sl_unfold_words
  refine (read_row _ _ (i 0) (off_eq i) _ _ _).trans ?_
  simp only [View.writes_nil, View.readAt_eq_ld, harg8.read_unread, harg9.read_unread, harg10.read_unread, harg12.read_unread, harg13.read_unread, harg14.read_unread, View.ld_unit_zero (S := S1x512x66) hz3, View.ld_unit_zero (S := S1x1x512) hz3]
  exact congrArg (fun w => patch (i 0) xs1 (k0_pay20 _ _ w)) (ld_row xs1 (i 0) (off_eq i) _)

/-- A middle point: its sums over what the point before left. -/
theorem sout0_B_2_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : ¬cond0_0 i) (hc1 : ¬cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) (xs0 : Vec F S64x66 .f32) (xs1 : Vec F S64x66 .f32) (xs2 : Vec F S2 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = stepM x6 x7 xs2 := by
  unfold sout0_B_2 kernelRun0_B
  dsimp only
  sl_unfold_words
  refine (read_cells _ _ _ _ _ _ _).trans ?_
  simp only [View.readAt_eq_ld, harg8.read_unread, harg9.read_unread, harg10.read_unread, harg12.read_unread, harg13.read_unread, harg14.read_unread, View.ld_unit_zero (S := S1x512x66) hz3, View.ld_unit_zero (S := S1x1x512) hz3]
  exact congrArg₂ (fun a b : F .f32 => fun y : S2.Idx => if (y 0).val = 1 then k0_pay18 (k0_pay15 x7) b else k0_pay17 a (k0_pay16 x6 x7))
    (ld_cell0 xs2 _ _) (ld_cell1 xs2 _ _)

/-- The last point: its counts over what the point before left. -/
theorem sout0_C_0_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : ¬cond0_0 i) (hc1 : cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) (xs0 : Vec F S64x66 .f32) (xs1 : Vec F S64x66 .f32) (xs2 : Vec F S2 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = stepH (i 0) x6 x8 xs0 := by
  unfold sout0_C_0 kernelRun0_C
  dsimp only
  sl_unfold_words
  refine (read_row _ _ (i 0) (off_eq i) _ _ _).trans ?_
  simp only [View.writes_nil, View.readAt_eq_ld, harg8.read_unread, harg9.read_unread, harg10.read_unread, harg12.read_unread, harg13.read_unread, harg14.read_unread, View.ld_unit_zero (S := S1x512x66) hz3, View.ld_unit_zero (S := S1x1x512) hz3]
  exact congrArg (fun w => patch (i 0) xs0 (k0_pay19 _ _ _ _ w)) (ld_row xs0 (i 0) (off_eq i) _)

/-- The last point: its target counts over what the point before left. -/
theorem sout0_C_1_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : ¬cond0_0 i) (hc1 : cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) (xs0 : Vec F S64x66 .f32) (xs1 : Vec F S64x66 .f32) (xs2 : Vec F S2 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = stepT (i 0) x7 x8 xs1 := by
  unfold sout0_C_1 kernelRun0_C
  dsimp only
  sl_unfold_words
  refine (read_row _ _ (i 0) (off_eq i) _ _ _).trans ?_
  simp only [View.writes_nil, View.readAt_eq_ld, harg8.read_unread, harg9.read_unread, harg10.read_unread, harg12.read_unread, harg13.read_unread, harg14.read_unread, View.ld_unit_zero (S := S1x512x66) hz3, View.ld_unit_zero (S := S1x1x512) hz3]
  exact congrArg (fun w => patch (i 0) xs1 (k0_pay20 _ _ w)) (ld_row xs1 (i 0) (off_eq i) _)

/-- The last point: its sums over what the point before left. -/
theorem sout0_C_2_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : ¬cond0_0 i) (hc1 : cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) (xs0 : Vec F S64x66 .f32) (xs1 : Vec F S64x66 .f32) (xs2 : Vec F S2 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = stepM x6 x7 xs2 := by
  unfold sout0_C_2 kernelRun0_C
  dsimp only
  sl_unfold_words
  refine (read_cells _ _ _ _ _ _ _).trans ?_
  simp only [View.readAt_eq_ld, harg8.read_unread, harg9.read_unread, harg10.read_unread, harg12.read_unread, harg13.read_unread, harg14.read_unread, View.ld_unit_zero (S := S1x512x66) hz3, View.ld_unit_zero (S := S1x1x512) hz3]
  exact congrArg₂ (fun a b : F .f32 => fun y : S2.Idx => if (y 0).val = 1 then k0_pay18 (k0_pay15 x7) b else k0_pay17 a (k0_pay16 x6 x7))
    (ld_cell0 xs2 _ _) (ld_cell1 xs2 _ _)

/-- The last point stores the loss of the finished tables and sums. -/
theorem out0_C_9_eq (c : Dev nD) (i : grid0.Coords) (arg2 : Memref sig .tc .vmem S64x5 .f32) (harg2 : arg2.IsWhole) (arg3 : Memref sig .tc .vmem S5x66 .f32) (harg3 : arg3.IsWhole) (arg4 : Memref sig .tc .vmem S5x66 .f32) (harg4 : arg4.IsWhole) (arg5 : Memref sig .tc .vmem S66x66 .f32) (harg5 : arg5.IsWhole) (arg6 : Memref sig .tc .vmem S1x66 .f32) (harg6 : arg6.IsWhole) (arg7 : Memref sig .tc .vmem S1x66 .f32) (harg7 : arg7.IsWhole) (arg8 : Memref sig .tc .vmem S1x512x66 .f32) (harg8 : arg8.IsWhole) (arg9 : Memref sig .tc .vmem S1x1x512 .i32) (harg9 : arg9.IsWhole) (arg10 : Memref sig .tc .vmem S1x1x512 .f32) (harg10 : arg10.IsWhole) (arg11 : Memref sig .tc .vmem S1x1 .f32) (harg11 : arg11.IsWhole) (arg12 : Memref sig .tc .vmem S64x66 .f32) (harg12 : arg12.IsWhole) (arg13 : Memref sig .tc .vmem S64x66 .f32) (harg13 : arg13.IsWhole) (arg14 : Memref sig .tc .smem S2 .f32) (harg14 : arg14.IsWhole) (hc0 : ¬cond0_0 i) (hc1 : cond0_1 i)
    (x0 : Vec F S64x5 .f32) (x1 : Vec F S5x66 .f32) (x2 : Vec F S5x66 .f32) (x3 : Vec F S66x66 .f32) (x4 : Vec F S1x66 .f32) (x5 : Vec F S1x66 .f32) (x6 : Vec F S1x512x66 .f32) (x7 : Vec F S1x1x512 .i32) (x8 : Vec F S1x1x512 .f32) (xs0 : Vec F S64x66 .f32) (xs1 : Vec F S64x66 .f32) (xs2 : Vec F S2 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = lastOut x0 x1 x2 x3 x4 x5 (stepH (i 0) x6 x8 xs0) (stepT (i 0) x7 x8 xs1) (stepM x6 x7 xs2) := by
  unfold out0_C_9 kernelRun0_C
  dsimp only
  sl_unfold_words
  refine (View.read_writes_full _ _ _ _ _).trans ?_
  simp only [View.readAt_eq_ld, harg8.read_unread, harg9.read_unread, harg10.read_unread, harg12.read_unread, harg13.read_unread, harg14.read_unread, View.ld_unit_zero (S := S1x512x66) hz3, View.ld_unit_zero (S := S1x1x512) hz3, harg2.read_unread, harg3.read_unread, harg4.read_unread, harg5.read_unread, harg6.read_unread, harg7.read_unread, View.ld_unit_zero (S := S64x66) hz2, View.ld_unit_zero (S := S64x5) hz2, View.ld_unit_zero (S := S5x66) hz2, View.ld_unit_zero (S := S1x66) hz2, View.ld_unit_zero (S := S66x66) hz2]
  refine lastOut_congr ?_ ?_ ?_ ?_
  · refine (read_row _ _ (i 0) (off_eq i) _ _ _).trans ?_
    simp only [View.writes_nil, harg12.read_unread]
    exact congrArg (fun w => patch (i 0) xs0 (k0_pay19 _ _ _ _ w)) (ld_row xs0 (i 0) (off_eq i) _)
  · refine (read_row _ _ (i 0) (off_eq i) _ _ _).trans ?_
    simp only [View.writes_nil, harg13.read_unread]
    exact congrArg (fun w => patch (i 0) xs1 (k0_pay20 _ _ w)) (ld_row xs1 (i 0) (off_eq i) _)
  · exact congrArg (fun a => k0_pay17 a (k0_pay16 x6 x7)) (ld_cell0 xs2 _ _)
  · exact congrArg (fun a => k0_pay18 (k0_pay15 x7) a) (ld_cell1 xs2 _ _)

end Cert.KernelStep

end
-- ==== Proof.KernelPay.lean ====
module

public import proofs.«01_k».proof.Proof.KernelStep
public import proofs.«01_k».proof.Proof.FirstMax
public import proofs.«01_k».proof.Proof.Words

/-! The kernel's per-point updates at an index. -/

@[expose] public section

noncomputable section

namespace Cert.KernelPay

open Cert.KernelIdeal Cert.KernelIdeal.Gen Cert.KernelStep Cert.FirstMax Cert.Words Idealize.ShloMosaic Idealize.ShloMosaic.TcCoe Idealize.SL.Sem

variable (x6 : Vec Ideal S1x512x66 .f32) (x7 : Vec Ideal S1x1x512 .i32) (x8 : Vec Ideal S1x1x512 .f32)

/-- A row of the table of predicted codons after a block. -/
theorem pay19 (row : Vec Ideal S1x66 .f32) (k : Fin 66) :
    k0_pay19 (k0_pay10 x6) (k0_pay12 x8) (iota .tc S512x66 32 [1] iota_S512x66_d1_w32) (k0_pay13 x6) row (ix2 0 k)
      = row (ix2 0 k) + ∑ l : Fin 512, if firstMax (fun k => x6 (ix3 0 l k)) = k then x8 (ix3 0 0 l) else (0 : EReal) := by
  pointwise [k0_pay19, k0_pay10, k0_pay12, k0_pay13]
  refine congrArg (row (ix2 0 k) + ·) (Finset.sum_congr rfl fun l _ => ?_)
  rw [ofBits_neg_inf, fold_max, fold_first, sitofp_bit]
  simp only [cmpi_eq_iff]
  rw [onehot_mul]
  refine if_congr ?_ rfl rfl
  rw [ofNat_inj (by omega) (by omega)]
  exact Fin.ext_iff.symm

/-- A row of the table of target codons after a block. -/
theorem pay20 (row : Vec Ideal S1x66 .f32) (k : Fin 66) :
    k0_pay20 (k0_pay12 x8) (k0_pay14 x7) row (ix2 0 k)
      = row (ix2 0 k) + ∑ l : Fin 512, if x7 (ix3 0 0 l) = BitVec.ofNat 32 k.val then x8 (ix3 0 0 l) else (0 : EReal) := by
  pointwise [k0_pay20, k0_pay12, k0_pay14, k0_pay11]
  refine congrArg (row (ix2 0 k) + ·) (Finset.sum_congr rfl fun l _ => ?_)
  rw [sitofp_bit]
  simp only [cmpi_eq_iff]
  rw [onehot_mul]

/-- One position's loss as the kernel computes it: the row's largest logit plus the logarithm of the sum of exponentials,
less the target's logit; nothing for a target that does not count. -/
def lossAt (x : Fin 66 → EReal) (t : BitVec 32) : EReal :=
  if t ≠ 0#32 then x (firstMax x) + Ideal.log (∑ k, Ideal.exp (x k - x (firstMax x)))
    - ∑ k : Fin 66, (if t = BitVec.ofNat 32 k.val then x k else 0) else 0

/-- The sum of losses after a block. -/
theorem pay17 (a : EReal) : (k0_pay17 (F := Ideal) a (k0_pay16 x6 x7) : EReal)
    = a + ∑ l : Fin 512, lossAt (fun k => x6 (ix3 0 l k)) (x7 (ix3 0 0 l)) := by
  pointwise [k0_pay17, k0_pay14, k0_pay16, k0_pay11, k0_pay15, k0_pay13, k0_pay10]
  refine congrArg (a + ·) (Finset.sum_congr rfl fun l _ => ?_)
  rw [ofBits_neg_inf, fold_max, sitofp_bit]
  unfold lossAt Scalar.select
  have e : ∀ u v : BitVec 32, (IntOp.cmpi .eq u v = 1) = (u = v) := fun u v => propext (cmpi_eq_iff u v)
  simp only [e, cmpi_ne_iff, mul_ite, mul_one, mul_zero]

/-- The number of counted positions after a block. -/
theorem pay18 (a : EReal) : (k0_pay18 (F := Ideal) (k0_pay15 x7) a : EReal)
    = a + ∑ l : Fin 512, (if x7 (ix3 0 0 l) ≠ 0#32 then (1 : EReal) else 0) := by
  pointwise [k0_pay18, k0_pay15, k0_pay11]
  refine congrArg (a + ·) (Finset.sum_congr rfl fun l _ => ?_)
  rw [sitofp_bit]
  simp only [cmpi_ne_iff]

/-- One step of the table of predicted codons at an entry. -/
theorem stepH_apply (r : Fin 64) (f : Vec Ideal S64x66 .f32) (b : Fin 64) (k : Fin 66) : (stepH r x6 x8 f (ix2 b k) : EReal)
    = if b.val = r.val then f (ix2 b k) + ∑ l : Fin 512, (if firstMax (fun k => x6 (ix3 0 l k)) = k then x8 (ix3 0 0 l) else (0 : EReal))
      else f (ix2 b k) := by
  by_cases h : b.val = r.val
  · obtain rfl := Fin.ext h
    rw [if_pos rfl]
    exact (if_pos rfl).trans (pay19 x6 x8 _ k)
  · rw [if_neg h]
    exact if_neg h

/-- One step of the table of target codons at an entry. -/
theorem stepT_apply (r : Fin 64) (f : Vec Ideal S64x66 .f32) (b : Fin 64) (k : Fin 66) : (stepT r x7 x8 f (ix2 b k) : EReal)
    = if b.val = r.val then f (ix2 b k) + ∑ l : Fin 512, (if x7 (ix3 0 0 l) = BitVec.ofNat 32 k.val then x8 (ix3 0 0 l) else (0 : EReal))
      else f (ix2 b k) := by
  by_cases h : b.val = r.val
  · obtain rfl := Fin.ext h
    rw [if_pos rfl]
    exact (if_pos rfl).trans (pay20 x7 x8 _ k)
  · rw [if_neg h]
    exact if_neg h

end Cert.KernelPay

end

end
-- ==== Proof.Loss.lean ====
module

public import proofs.«01_k».proof.Proof.FirstMax
public import proofs.«01_k».proof.Proof.Words
public import proofs.«01_k».proof.Proof.KernelPay

/-! The mathematics the two programs share: one position's loss, sums over a table of counts, and the terms of the loss. -/

@[expose] public section

noncomputable section

namespace Cert.Loss

open Cert.FirstMax Cert.Words Cert.KernelPay Idealize.ShloMosaic

/-- The row's largest entry as the reference computes it. -/
theorem top_row (x : Fin 66 → EReal) :
    max (Ideal.ofBits .f32 0xFF800000#32) (Finset.fold max (Ideal.ofBits .f32 0xFF800000#32) x Finset.univ) = x (firstMax x) := by
  rw [ofBits_neg_inf, fold_max]
  exact max_eq_right bot_le

/-- Finite numbers are real ones. -/
theorem real_row (x : Fin 66 → EReal) (hx : ∀ k, x k ≠ ⊥ ∧ x k ≠ ⊤) : ∃ y : Fin 66 → ℝ, x = fun k => (y k : EReal) :=
  ⟨fun k => (x k).toReal, funext fun k => (EReal.coe_toReal (hx k).2 (hx k).1).symm⟩

/-- A real sum read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- The sum over codons of the logit at the target codon. -/
theorem pick (x : Fin 66 → EReal) (τ : Fin 66) : (∑ k : Fin 66, (if BitVec.ofNat 32 τ.val = BitVec.ofNat 32 k.val then x k else 0)) = x τ := by
  rw [Finset.sum_eq_single τ]
  · exact if_pos rfl
  · intro k _ h
    refine if_neg fun e => h (Fin.ext ?_)
    exact ((ofNat_inj (by omega) (by omega)).mp e).symm
  · simp

/-- The kernel's loss of a position is the negated log-probability of its target. -/
theorem loss_eq (x : Fin 66 → EReal) (hx : ∀ k, x k ≠ ⊥ ∧ x k ≠ ⊤) (t : BitVec 32) (τ : Fin 66) (ht : t = BitVec.ofNat 32 τ.val) :
    lossAt x t = if t ≠ 0#32 then -(x τ - x (firstMax x) - Ideal.log (∑ k, Ideal.exp (x k - x (firstMax x)))) else 0 := by
  unfold lossAt
  refine if_congr Iff.rfl ?_ rfl
  rw [ht, pick]
  generalize firstMax x = q
  obtain ⟨y, rfl⟩ := real_row x hx
  have hS : (∑ k, Ideal.exp ((y k : EReal) - (y q : EReal))) = ((∑ k, Real.exp (y k - y q) : ℝ) : EReal) := by
    rw [coe_sum]
    exact Finset.sum_congr rfl fun k _ => by rw [← EReal.coe_sub, Ideal.exp_coe]
  have hpos : 0 < ∑ k, Real.exp (y k - y q) := Finset.sum_pos (fun k _ => Real.exp_pos _) ⟨q, Finset.mem_univ _⟩
  have hl : Ideal.log (∑ k, Ideal.exp ((y k : EReal) - (y q : EReal))) = ((Real.log (∑ k, Real.exp (y k - y q)) : ℝ) : EReal) := by
    rw [hS, Ideal.log_coe, if_neg (not_le.mpr hpos)]
  dsimp only
  rw [hl, ← EReal.coe_add, ← EReal.coe_sub, ← EReal.coe_sub, ← EReal.coe_sub, ← EReal.coe_neg]
  exact congrArg _ (by ring)

/-- A sum of nonnegative numbers times a number. -/
theorem sum_mul_nonneg {ι : Type} (s : Finset ι) (f : ι → EReal) (hf : ∀ i, 0 ≤ f i) (w : EReal) : (∑ i ∈ s, f i) * w = ∑ i ∈ s, f i * w := by
  classical
  induction s using Finset.induction_on with
  | empty => simp
  | insert a s h ih =>
    rw [Finset.sum_insert h, Finset.sum_insert h, ← ih]
    exact EReal.right_distrib_of_nonneg (hf a) (Finset.sum_nonneg fun i _ => hf i)

/-- The masked counts of a sequence whose codons are `d`. -/
def hist (d : Fin 4096 → Fin 66) (M : Fin 4096 → EReal) (k : Fin 66) : EReal := ∑ p, if d p = k then M p else 0

/-- Weighing the counts weighs the positions. -/
theorem hist_weight (d : Fin 4096 → Fin 66) (M : Fin 4096 → EReal) (hM : ∀ p, 0 ≤ M p) (w : Fin 66 → EReal) :
    (∑ k, hist d M k * w k) = ∑ p, w (d p) * M p := by
  unfold hist
  rw [Finset.sum_congr rfl fun k _ => sum_mul_nonneg Finset.univ (fun p => if d p = k then M p else 0) (fun p => by split_ifs <;> simp [hM p]) (w k)]
  rw [Finset.sum_comm]
  refine Finset.sum_congr rfl fun p _ => ?_
  rw [Finset.sum_eq_single (d p)]
  · rw [if_pos rfl, mul_comm]
  · intro k _ h
    rw [if_neg (Ne.symm h), zero_mul]
  · simp

/-- The counts add up to the number of positions masked in. -/
theorem hist_total (d : Fin 4096 → Fin 66) (M : Fin 4096 → EReal) : (∑ k, hist d M k) = ∑ p, M p := by
  unfold hist
  rw [Finset.sum_comm]
  refine Finset.sum_congr rfl fun p _ => ?_
  rw [Finset.sum_eq_single (d p)]
  · exact if_pos rfl
  · intro k _ h
    exact if_neg (Ne.symm h)
  · simp

/-- The row a one-hot species picks. -/
theorem species_pick (t : BitVec 32) (s : Fin 5) (h : t = BitVec.ofNat 32 s.val) (f : Fin 5 → EReal) :
    (∑ r : Fin 5, (FloatOps.uitofp (F := Ideal) .f32 (IntOp.cmpi .eq t (BitVec.ofNat 32 r.val)) : EReal) * f r) = f s := by
  rw [Finset.sum_eq_single s]
  · rw [uitofp_bit, if_pos ((cmpi_eq_iff _ _).mpr h), one_mul]
  · intro r _ hr
    rw [uitofp_bit, if_neg, zero_mul]
    rw [cmpi_eq_iff, h, ofNat_inj (by omega) (by omega)]
    exact fun e => hr (Fin.ext e.symm)
  · simp

/-- The small constant added to probabilities. -/
def eps : EReal := Ideal.ofBits .f32 0x322BCC77#32
/-- The constant 0.3. -/
def c03 : EReal := Ideal.ofBits .f32 0x3E99999A#32
/-- The constant 0.4. -/
def c04 : EReal := Ideal.ofBits .f32 0x3ECCCCCD#32
/-- The constant 0.7. -/
def c07 : EReal := Ideal.ofBits .f32 0x3F333333#32
/-- The constant 64. -/
def c64 : EReal := Ideal.ofBits .f32 0x42800000#32

/-- The usage of a codon: its count times its synonyms, over the count of its whole group. -/
def usage (n c T : Fin 66 → EReal) (k : Fin 66) : EReal := if 0 < T k then Ideal.div (c k * n k) (max (T k) eps) else 0

/-- The blend of the target's usage and the species' reference distribution. -/
def blend (t r : Fin 66 → EReal) (k : Fin 66) : EReal := c07 * t k + c03 * r k + eps

/-- The divergence of one sequence. -/
def klRow (p t r : Fin 66 → EReal) : EReal :=
  ∑ k, Ideal.div (blend t r k) (∑ j, blend t r j) * Ideal.log (Ideal.div (Ideal.div (blend t r k) (∑ j, blend t r j)) (Ideal.div (p k + eps) (∑ j, (p j + eps))))

/-- The three terms of the loss. -/
def lossOf (num den : EReal) (cp ct kl : Fin 64 → EReal) : EReal :=
  Ideal.div num (max den 1) + c04 * Ideal.div (∑ b, max (ct b - cp b) 0) c64 + c03 * Ideal.div (∑ b, kl b) c64

end Cert.Loss

end

end
-- ==== Proof.KernelFinal.lean ====
module

public import proofs.«01_k».proof.Proof.Loss
public import Idealize.ShloMosaic.Lib.Tactic
public import Idealize.ShloMosaic.Lib.Pointwise

/-! The loss the kernel stores, as mathematics of its finished tables. -/

@[expose] public section

noncomputable section

namespace Cert.KernelFinal

open Cert.KernelIdeal Cert.KernelIdeal.Gen Cert.KernelStep Cert.Loss Idealize.ShloMosaic Idealize.ShloMosaic.TcCoe Idealize.SL.Sem

variable (x0 : FVec Ideal S64x5 .f32) (x1 x2 : FVec Ideal S5x66 .f32) (x3 : FVec Ideal S66x66 .f32) (x4 x5 : FVec Ideal S1x66 .f32)
  (h t : FVec Ideal S64x66 .f32) (s : FVec Ideal S2 .f32)

/-- The adaptation index the kernel computes of a table `u`, its length taken from `t`. -/
def caiAt (u : FVec Ideal S64x66 .f32) (b : Fin 64) : EReal :=
  Ideal.exp (Ideal.div (∑ k : Fin 66, u (ix2 b k) * (∑ r : Fin 5, x0 (ix2 b r) * Ideal.log (max eps (x1 (ix2 r k))))) (max 1 (∑ k : Fin 66, t (ix2 b k))))

/-- The counts that take part, from a table. -/
def countAt (u : FVec Ideal S64x66 .f32) (b : Fin 64) (k : Fin 66) : EReal := u (ix2 b k) * x5 (ix2 0 k)

/-- The counts of a codon's group, from a table. -/
def totAt (u : FVec Ideal S64x66 .f32) (b : Fin 64) (k : Fin 66) : EReal := ∑ j : Fin 66, countAt x5 u b j * x3 (ix2 j k)

/-- The usages of a table. -/
def usageAt (u : FVec Ideal S64x66 .f32) (b : Fin 64) (k : Fin 66) : EReal :=
  usage (fun k => x4 (ix2 0 k)) (countAt x5 u b) (totAt x3 x5 u b) k

/-- The kernel's adaptation-index term. -/
theorem hinge_eq : (k0_pay3 (F := Ideal) h t x0 x1 : EReal)
    = Ideal.div (∑ b, max (caiAt x0 x1 t t b - caiAt x0 x1 t h b) 0) c64 := by
  pointwise [k0_pay3, k0_pay2]
  rfl

/-- The kernel's divergence of a sequence. -/
theorem kl_eq (b : Fin 64) : (k0_pay7 (F := Ideal) t (k0_pay2 x0) x5 x4 x3 (k0_pay4 h x5) (k0_pay5 h x5 x3) k0_pay6 x2 (ix2 0 b) : EReal)
    = klRow (usageAt x3 x4 x5 h b) (usageAt x3 x4 x5 t b) (fun k => ∑ r : Fin 5, x0 (ix2 b r) * x2 (ix2 r k)) := by
  pointwise [k0_pay7, k0_pay2, k0_pay4, k0_pay5, k0_pay6]
  rfl

/-- The three terms put together. -/
theorem loss_eq (u a b : EReal) (v : FVec Ideal S1x64 .f32) : (k0_pay1 (F := Ideal) u v a b (ix2 0 0) : EReal)
    = Ideal.div a (max b 1) + c04 * u + c03 * Ideal.div (∑ x : Fin 64, v (ix2 0 x)) c64 := by
  pointwise [k0_pay1]
  rfl

/-- The stored loss. -/
theorem last_eq : (lastOut (F := Ideal) x0 x1 x2 x3 x4 x5 h t s (ix2 0 0) : EReal)
    = lossOf (s (ix1 0)) (s (ix1 1)) (caiAt x0 x1 t h) (caiAt x0 x1 t t)
        (fun b => klRow (usageAt x3 x4 x5 h b) (usageAt x3 x4 x5 t b) (fun k => ∑ r : Fin 5, x0 (ix2 b r) * x2 (ix2 r k))) := by
  unfold lastOut lossOf
  rw [loss_eq, hinge_eq]
  simp only [kl_eq]

end Cert.KernelFinal

end

end
-- ==== Proof.RefIndex.lean ====
module

public import proofs.«01_k».proof.Proof.RefStages
public import Idealize.ShloMosaic.Lib.Tactic
public import Idealize.ShloMosaic.Lib.Pointwise
public import Idealize.ShloMosaic.Lib.Routing.OpsPair

/-! The reference's gathers and accumulating scatters at an index. -/

@[expose] public section

noncomputable section

namespace Cert.RefIndex

open Cert.ReferenceIdeal Cert.RefRun Idealize.ShloMosaic Idealize.ShloMosaic.TcCoe Idealize.SL.Sem

/-- A small number read back from its word. -/
theorem toInt_word (n : ℕ) (h : n < 100) : (BitVec.ofNat 32 n).toInt = n := by
  rw [BitVec.toInt_eq_toNat_of_lt] <;> simp only [BitVec.toNat_ofNat] <;> omega

/-- The log-probability gather reads the entry its index names. -/
theorem gather_logp {α : Type} (x : S64x4096x66.Idx → α) (idx : IVec S64x4096x1x1 32) (b : Fin 64) (p : Fin 4096) (k : Fin 66)
    (h : idx (ix4 b p 0 0) = BitVec.ofNat 32 k.val) :
    Host.gather gather_S64x4096x66_S64x4096x1x1_S64x4096x1_n_2_01_01_2_3_111 x idx (ix3 b p 0) = x (ix3 b p k) := by
  have e : gather_S64x4096x66_S64x4096x1x1_S64x4096x1_n_2_01_01_2_3_111.siIdx (ix3 b p 0) ⟨0, by decide⟩ = ix4 b p 0 0 := by
    funext a; fin_cases a <;> rfl
  refine congrArg x (funext fun a => Fin.ext ?_)
  fin_cases a
  · show 0 + b.val + 0 = _; simp
  · show 0 + p.val + 0 = _; simp
  · show min (idx (GatherDims.siIdx _ _ _)).toInt.toNat 65 + 0 + 0 = k.val
    refine Eq.trans (congrArg (fun z => min (idx z).toInt.toNat 65 + 0 + 0) e) ?_
    show min (idx (ix4 b p 0 0)).toInt.toNat 65 + 0 + 0 = k.val
    rw [h, toInt_word _ (by omega)]
    omega

/-- The weight gather reads the row and column its index pair names. -/
theorem gather_weight {α : Type} (x : S5x66.Idx → α) (idx : IVec S64x4096x2 32) (b : Fin 64) (p : Fin 4096) (s : Fin 5) (k : Fin 66)
    (h0 : idx (ix3 b p 0) = BitVec.ofNat 32 s.val) (h1 : idx (ix3 b p 1) = BitVec.ofNat 32 k.val) :
    Host.gather gather_S5x66_S64x4096x2_S64x4096_n_01_n_n_01_2_11 x idx (ix2 b p) = x (ix2 s k) := by
  have e0 : gather_S5x66_S64x4096x2_S64x4096_n_01_n_n_01_2_11.siIdx (ix2 b p) ⟨0, by decide⟩ = ix3 b p 0 := by
    funext a; fin_cases a <;> rfl
  have e1 : gather_S5x66_S64x4096x2_S64x4096_n_01_n_n_01_2_11.siIdx (ix2 b p) ⟨1, by decide⟩ = ix3 b p 1 := by
    funext a; fin_cases a <;> rfl
  refine congrArg x (funext fun a => Fin.ext ?_)
  fin_cases a
  · show min (idx (GatherDims.siIdx _ _ _)).toInt.toNat 4 + 0 + 0 = s.val
    refine Eq.trans (congrArg (fun z => min (idx z).toInt.toNat 4 + 0 + 0) e0) ?_
    show min (idx (ix3 b p 0)).toInt.toNat 4 + 0 + 0 = s.val
    rw [h0, toInt_word _ (by omega)]
    omega
  · show min (idx (GatherDims.siIdx _ _ _)).toInt.toNat 65 + 0 + 0 = k.val
    refine Eq.trans (congrArg (fun z => min (idx z).toInt.toNat 65 + 0 + 0) e1) ?_
    show min (idx (ix3 b p 1)).toInt.toNat 65 + 0 + 0 = k.val
    rw [h1, toInt_word _ (by omega)]
    omega

/-- The group gather reads the entry its index names. -/
theorem gather_group {α : Type} (x : S66.Idx → α) (idx : IVec S64x4096x1 32) (b : Fin 64) (p : Fin 4096) (k : Fin 66)
    (h : idx (ix3 b p 0) = BitVec.ofNat 32 k.val) :
    Host.gather gather_S66_S64x4096x1_S64x4096_n_0_n_n_0_2_1 x idx (ix2 b p) = x (ix1 k) := by
  have e : gather_S66_S64x4096x1_S64x4096_n_0_n_n_0_2_1.siIdx (ix2 b p) ⟨0, by decide⟩ = ix3 b p 0 := by
    funext a; fin_cases a <;> rfl
  refine congrArg x (funext fun a => Fin.ext ?_)
  fin_cases a
  show min (idx (GatherDims.siIdx _ _ _)).toInt.toNat 65 + 0 + 0 = k.val
  refine Eq.trans (congrArg (fun z => min (idx z).toInt.toNat 65 + 0 + 0) e) ?_
  show min (idx (ix3 b p 0)).toInt.toNat 65 + 0 + 0 = k.val
  rw [h, toInt_word _ (by omega)]
  omega

/-- The gather of a codon's group total reads the column its index names. -/
theorem gather_total {α : Type} (x : S64x22.Idx → α) (idx : IVec S66x1 32) (b : Fin 64) (k : Fin 66) (g : Fin 22)
    (h : idx (ix2 k 0) = BitVec.ofNat 32 g.val) :
    Host.gather gather_S64x22_S66x1_S64x66_0_1_n_n_1_1_641 x idx (ix2 b k) = x (ix2 b g) := by
  have e : gather_S64x22_S66x1_S64x66_0_1_n_n_1_1_641.siIdx (ix2 b k) ⟨0, by decide⟩ = ix2 k 0 := by
    funext a; fin_cases a <;> rfl
  refine congrArg x (funext fun a => Fin.ext ?_)
  fin_cases a
  · show 0 + 0 + b.val = b.val; simp
  · show min (idx (GatherDims.siIdx _ _ _)).toInt.toNat 21 + 0 + 0 = g.val
    refine Eq.trans (congrArg (fun z => min (idx z).toInt.toNat 21 + 0 + 0) e) ?_
    show min (idx (ix2 k 0)).toInt.toNat 21 + 0 + 0 = g.val
    rw [h, toInt_word _ (by omega)]
    omega

/-- The gather of a species' row reads the row its index names. -/
theorem gather_species {α : Type} (x : S5x66.Idx → α) (idx : IVec S64x1 32) (b : Fin 64) (k : Fin 66) (s : Fin 5)
    (h : idx (ix2 b 0) = BitVec.ofNat 32 s.val) :
    Host.gather gather_S5x66_S64x1_S64x66_1_0_n_n_0_1_166 x idx (ix2 b k) = x (ix2 s k) := by
  have e : gather_S5x66_S64x1_S64x66_1_0_n_n_0_1_166.siIdx (ix2 b k) ⟨0, by decide⟩ = ix2 b 0 := by
    funext a; fin_cases a <;> rfl
  refine congrArg x (funext fun a => Fin.ext ?_)
  fin_cases a
  · show min (idx (GatherDims.siIdx _ _ _)).toInt.toNat 4 + 0 + 0 = s.val
    refine Eq.trans (congrArg (fun z => min (idx z).toInt.toNat 4 + 0 + 0) e) ?_
    show min (idx (ix2 b 0)).toInt.toNat 4 + 0 + 0 = s.val
    rw [h, toInt_word _ (by omega)]
    omega
  · show 0 + 0 + k.val = k.val; simp

/-- Where a position's count lands: at its sequence and its codon. -/
theorem count_lands (idx : IVec S64x4096x2 32) (b b' : Fin 64) (p : Fin 4096) (d k : Fin 66)
    (h0 : idx (ix3 b p 0) = BitVec.ofNat 32 b.val) (h1 : idx (ix3 b p 1) = BitVec.ofNat 32 d.val) :
    scatter_S64x66_S64x4096x2_S64x4096_n_01_01_2.resultIdx? (ix2 b p) idx = some (ix2 b' k) ↔ b = b' ∧ d = k := by
  have e0 : scatter_S64x66_S64x4096x2_S64x4096_n_01_01_2.siIdx (ix2 b p) ⟨0, by decide⟩ = ix3 b p 0 := by
    funext a; fin_cases a <;> rfl
  have e1 : scatter_S64x66_S64x4096x2_S64x4096_n_01_01_2.siIdx (ix2 b p) ⟨1, by decide⟩ = ix3 b p 1 := by
    funext a; fin_cases a <;> rfl
  have s0 : scatter_S64x66_S64x4096x2_S64x4096_n_01_01_2.start (ix2 b p) idx 0 = b.val := by
    refine Eq.trans (congrArg (fun z => (idx z).toInt) e0) ?_
    show (idx (ix3 b p 0)).toInt = _
    rw [h0, toInt_word _ (by omega)]
  have s1 : scatter_S64x66_S64x4096x2_S64x4096_n_01_01_2.start (ix2 b p) idx 1 = d.val := by
    refine Eq.trans (congrArg (fun z => (idx z).toInt) e1) ?_
    show (idx (ix3 b p 1)).toInt = _
    rw [h1, toInt_word _ (by omega)]
  have w0 : scatter_S64x66_S64x4096x2_S64x4096_n_01_01_2.window (ix2 b p) 0 = 0 := rfl
  have w1 : scatter_S64x66_S64x4096x2_S64x4096_n_01_01_2.window (ix2 b p) 1 = 0 := rfl
  rw [Routing.resultIdx?_eq_some]
  constructor
  · intro h
    have q0 := h 0
    have q1 := h 1
    rw [s0, w0] at q0
    rw [s1, w1] at q1
    have r0 : (b.val : ℤ) + 0 = b'.val := q0
    have r1 : (d.val : ℤ) + 0 = k.val := q1
    exact ⟨Fin.ext (by omega), Fin.ext (by omega)⟩
  · rintro ⟨rfl, rfl⟩ a
    fin_cases a
    · exact (congrArg₂ (fun (u : ℤ) (v : ℕ) => u + (v : ℤ)) s0 w0).trans (add_zero _)
    · exact (congrArg₂ (fun (u : ℤ) (v : ℕ) => u + (v : ℤ)) s1 w1).trans (add_zero _)

/-- The accumulated counts at an entry. -/
theorem scatter_counts (x : FVec Ideal S64x66 .f32) (idx : IVec S64x4096x2 32) (upd : FVec Ideal S64x4096 .f32) (d : Fin 64 → Fin 4096 → Fin 66)
    (h0 : ∀ b p, idx (ix3 b p 0) = BitVec.ofNat 32 b.val) (h1 : ∀ b p, idx (ix3 b p 1) = BitVec.ofNat 32 (d b p).val) (b : Fin 64) (k : Fin 66) :
    (Host.scatterAdd scatter_S64x66_S64x4096x2_S64x4096_n_01_01_2 x idx upd (ix2 b k) : EReal)
      = x (ix2 b k) + ∑ p : Fin 4096, if d b p = k then upd (ix2 b p) else (0 : EReal) := by
  refine congrArg (x (ix2 b k) + ·) ?_
  rw [Finset.sum_filter]
  refine (sum_idx2 _).trans ?_
  refine (Finset.sum_congr rfl fun b' _ => Finset.sum_congr rfl fun p _ =>
    if_congr (count_lands idx b' b p (d b' p) k (h0 b' p) (h1 b' p)) rfl rfl).trans ?_
  rw [Finset.sum_eq_single b (fun b' _ h => Finset.sum_eq_zero fun p _ => if_neg fun q => h q.1) (by simp)]
  simp

/-- Where a codon's counts land: in its group's column. -/
theorem total_lands (idx : IVec S66x1 32) (b b' : Fin 64) (k : Fin 66) (g g' : Fin 22)
    (h : idx (ix2 k 0) = BitVec.ofNat 32 g.val) :
    scatter_S64x22_S66x1_S64x66_0_1_1_1.resultIdx? (ix2 b k) idx = some (ix2 b' g') ↔ b = b' ∧ g = g' := by
  have e : scatter_S64x22_S66x1_S64x66_0_1_1_1.siIdx (ix2 b k) ⟨0, by decide⟩ = ix2 k 0 := by
    funext a; fin_cases a <;> rfl
  have s0 : scatter_S64x22_S66x1_S64x66_0_1_1_1.start (ix2 b k) idx 0 = 0 := rfl
  have s1 : scatter_S64x22_S66x1_S64x66_0_1_1_1.start (ix2 b k) idx 1 = g.val := by
    refine Eq.trans (congrArg (fun z => (idx z).toInt) e) ?_
    show (idx (ix2 k 0)).toInt = _
    rw [h, toInt_word _ (by omega)]
  have w0 : scatter_S64x22_S66x1_S64x66_0_1_1_1.window (ix2 b k) 0 = b.val := rfl
  have w1 : scatter_S64x22_S66x1_S64x66_0_1_1_1.window (ix2 b k) 1 = 0 := rfl
  rw [Routing.resultIdx?_eq_some]
  constructor
  · intro h
    have q0 := h 0
    have q1 := h 1
    rw [s0, w0] at q0
    rw [s1, w1] at q1
    have r0 : (0 : ℤ) + b.val = b'.val := q0
    have r1 : (g.val : ℤ) + 0 = g'.val := q1
    exact ⟨Fin.ext (by omega), Fin.ext (by omega)⟩
  · rintro ⟨rfl, rfl⟩ a
    fin_cases a
    · exact (congrArg₂ (fun (u : ℤ) (v : ℕ) => u + (v : ℤ)) s0 w0).trans (zero_add _)
    · exact (congrArg₂ (fun (u : ℤ) (v : ℕ) => u + (v : ℤ)) s1 w1).trans (add_zero _)

/-- The accumulated group totals at an entry. -/
theorem scatter_totals (x : FVec Ideal S64x22 .f32) (idx : IVec S66x1 32) (upd : FVec Ideal S64x66 .f32) (g : Fin 66 → Fin 22)
    (h : ∀ k, idx (ix2 k 0) = BitVec.ofNat 32 (g k).val) (b : Fin 64) (q : Fin 22) :
    (Host.scatterAdd scatter_S64x22_S66x1_S64x66_0_1_1_1 x idx upd (ix2 b q) : EReal)
      = x (ix2 b q) + ∑ k : Fin 66, if g k = q then upd (ix2 b k) else (0 : EReal) := by
  refine congrArg (x (ix2 b q) + ·) ?_
  rw [Finset.sum_filter]
  refine (sum_idx2 _).trans ?_
  refine (Finset.sum_congr rfl fun b' _ => Finset.sum_congr rfl fun k _ =>
    if_congr (total_lands idx b' b k (g k) q (h k)) rfl rfl).trans ?_
  rw [Finset.sum_eq_single b (fun b' _ h => Finset.sum_eq_zero fun p _ => if_neg fun q => h q.1) (by simp)]
  simp

end Cert.RefIndex

end

end
-- ==== Proof.RefValue.lean ====
module

public import proofs.«01_k».proof.Proof.RefIndex
public import proofs.«01_k».proof.Proof.Words
public import Idealize.ShloMosaic.Lib.Tactic
public import Idealize.ShloMosaic.Lib.Pointwise

/-! The reference's stages at an index. -/

@[expose] public section

noncomputable section

namespace Cert.RefValue

open Cert.ReferenceIdeal Cert.ReferenceIdeal.Gen Cert.RefRun Cert.RefIndex Cert.Words Idealize.ShloMosaic Idealize.ShloMosaic.TcCoe Idealize.SL.Sem

/-- Adding the extent to a negative index leaves a small index alone. -/
theorem wrap (n : ℕ) (h : n < 100) (w : BitVec 32) :
    Scalar.select (IntOp.cmpi .slt (BitVec.ofNat 32 n) 0#32) (IntOp.addi (BitVec.ofNat 32 n) w) (BitVec.ofNat 32 n) = BitVec.ofNat 32 n := by
  have e : IntOp.cmpi .slt (BitVec.ofNat 32 n) 0#32 = 0#1 := by
    have h1 : (BitVec.ofNat 32 n).slt 0#32 = false := by
      rw [BitVec.slt, toInt_word n h]
      simp
    simp [IntOp.cmpi, h1]
  rw [e]
  rfl

/-- A small index passes the range check. -/
theorem inRange (n m : ℕ) (h : n ≤ m) (hm : m < 100) :
    IntOp.andi (IntOp.cmpi .sge (BitVec.ofNat 32 n) 0#32) (IntOp.cmpi .sle (BitVec.ofNat 32 n) (BitVec.ofNat 32 m)) = 1#1 := by
  have h0 : (0#32).sle (BitVec.ofNat 32 n) = true := by
    rw [BitVec.sle, toInt_word n (by omega)]
    simp
  have h1 : (BitVec.ofNat 32 n).sle (BitVec.ofNat 32 m) = true := by
    rw [BitVec.sle, toInt_word n (by omega), toInt_word m hm]
    simpa using h
  simp [IntOp.cmpi, IntOp.andi, h0, h1]

/-- The range check over an axis of one entry. -/
theorem fold_one (c : BitVec 1) (hc : c = 1#1) : Finset.fold IntOp.andi 1#1 (fun _ : Fin 1 => c) Finset.univ = 1#1 := by
  subst hc
  rfl

/-- The first column of a pair of index columns. -/
theorem pair_fst (a b : IVec S64x4096x1 32) (s : Fin 64) (p : Fin 4096) : pairUp a b (ix3 s p 0) = a (ix3 s p 0) := by
  pointwise [pairUp]

/-- The second column of a pair of index columns. -/
theorem pair_snd (a b : IVec S64x4096x1 32) (s : Fin 64) (p : Fin 4096) : pairUp a b (ix3 s p 1) = b (ix3 s p 0) := by
  pointwise [pairUp]

/-- The species' row of the reference distributions. -/
theorem species_apply (rd : FVec Ideal S5x66 .f32) (sp : IVec S64 32) (b : Fin 64) (k : Fin 66) (s : Fin 5)
    (h : sp (ix1 b) = BitVec.ofNat 32 s.val) : speciesRow rd sp (ix2 b k) = rd (ix2 s k) := by
  pointwise [speciesRow]
  rw [h, wrap _ (by omega), fold_one _ (inRange s.val 4 (by omega) (by omega))]
  refine gather_species rd _ b k s ?_
  pointwise
  rw [h, wrap _ (by omega)]

/-- The accumulated counts: every position of the codon that is kept. -/
theorem counts_apply (g ids : IVec S64x4096 32) (mask : IVec S64x4096 1) (d : Fin 64 → Fin 4096 → Fin 66)
    (h : ∀ b p, ids (ix2 b p) = BitVec.ofNat 32 (d b p).val) (b : Fin 64) (k : Fin 66) : (countsOf (F := Ideal) g ids mask (ix2 b k) : EReal)
      = ∑ p : Fin 4096, if d b p = k then (FloatOps.uitofp (F := Ideal) .f32 (IntOp.andi (IntOp.andi (mask (ix2 b p))
        (IntOp.cmpi .sgt (ids (ix2 b p)) 0#32)) (IntOp.cmpi .slt (g (ix2 b p)) 21#32)) : EReal) else 0 := by
  refine (scatter_counts _ _ _ d ?_ ?_ b k).trans ?_
  · intro b p
    refine (pair_fst _ _ b p).trans ?_
    pointwise
    exact wrap _ (by omega) _
  · intro b p
    refine (pair_snd _ _ b p).trans ?_
    pointwise
    rw [h]
    exact wrap _ (by omega) _
  · pointwise

/-- The group totals. -/
theorem totals_apply (grp : IVec S66 32) (cnt : FVec Ideal S64x66 .f32) (g : Fin 66 → Fin 22) (h : ∀ k, grp (ix1 k) = BitVec.ofNat 32 (g k).val)
    (b : Fin 64) (q : Fin 22) : (totalsOf grp cnt (ix2 b q) : EReal) = ∑ k : Fin 66, if g k = q then cnt (ix2 b k) else (0 : EReal) := by
  refine (scatter_totals _ _ _ g ?_ b q).trans ?_
  · intro k
    pointwise
    rw [h]
    exact wrap _ (by omega) _
  · pointwise

/-- A codon's group total. -/
theorem back_apply (grp : IVec S66 32) (tot : FVec Ideal S64x22 .f32) (g : Fin 66 → Fin 22) (h : ∀ k, grp (ix1 k) = BitVec.ofNat 32 (g k).val)
    (b : Fin 64) (k : Fin 66) : backOf grp tot (ix2 b k) = tot (ix2 b (g k)) := by
  pointwise [backOf]
  rw [h, wrap _ (by omega), fold_one _ (inRange (g k).val 21 (by omega) (by omega))]
  refine gather_total tot _ b k (g k) ?_
  pointwise
  rw [h, wrap _ (by omega)]

/-- The group of a position's codon. -/
theorem group_apply (grp : IVec S66 32) (ids : IVec S64x4096 32) (b : Fin 64) (p : Fin 4096) (k : Fin 66)
    (h : ids (ix2 b p) = BitVec.ofNat 32 k.val) : groupOf grp ids (ix2 b p) = grp (ix1 k) := by
  pointwise [groupOf]
  rw [h, wrap _ (by omega), fold_one _ (inRange k.val 65 (by omega) (by omega))]
  refine gather_group grp _ b p k ?_
  pointwise
  rw [h, wrap _ (by omega)]

/-- A position's entry after the trailing axis is split. -/
theorem cast4 (X : IVec S64x4096x1 32) (b : Fin 64) (p : Fin 4096) :
    shapeCast S64x4096x1x1 X shapeCasts_S64x4096x1_S64x4096x1x1 (ix4 b p 0 0) = X (ix3 b p 0) := by
  pointwise

/-- A position's entry after the trailing axis is dropped. -/
theorem cast2 (X : FVec Ideal S64x4096x1 .f32) (b : Fin 64) (p : Fin 4096) :
    shapeCast S64x4096 X shapeCasts_S64x4096x1_S64x4096 (ix2 b p) = X (ix3 b p 0) := by
  pointwise

/-- The codon adaptation index of a sequence. -/
theorem cai_apply (wm : FVec Ideal S5x66 .f32) (sp : IVec S64 32) (ids : IVec S64x4096 32) (mask : IVec S64x4096 1)
    (d : Fin 64 → Fin 4096 → Fin 66) (h : ∀ b p, ids (ix2 b p) = BitVec.ofNat 32 (d b p).val)
    (b : Fin 64) (s : Fin 5) (hs : sp (ix1 b) = BitVec.ofNat 32 s.val) :
    (caiOf (F := Ideal) wm sp ids mask (ix1 b) : EReal) = Ideal.exp (Ideal.div
      (∑ p : Fin 4096, Ideal.log (max (Ideal.ofBits .f32 0x322BCC77#32) (wm (ix2 s (d b p)))) * FloatOps.uitofp (F := Ideal) .f32 (mask (ix2 b p)))
      (max 1 (∑ p : Fin 4096, FloatOps.uitofp (F := Ideal) .f32 (mask (ix2 b p))))) := by
  pointwise [caiOf]
  refine congrArg₂ (fun u v => Ideal.exp (Ideal.div u v)) (Finset.sum_congr rfl fun p _ => ?_) rfl
  refine congrArg₂ (fun u v : EReal => u * v) (congrArg (fun z => Ideal.log (max (Ideal.ofBits .f32 0x322BCC77#32) z)) (gather_weight wm _ b p s (d b p) ?_ ?_)) rfl
  · refine (pair_fst _ _ b p).trans ?_
    pointwise
    rw [hs]
    exact wrap _ (by omega) _
  · refine (pair_snd _ _ b p).trans ?_
    pointwise
    rw [h]
    exact wrap _ (by omega) _

end Cert.RefValue

end

end
-- ==== Proof.RefLoss.lean ====
module

public import proofs.«01_k».proof.Proof.RefValue

/-! The reference's cross-entropy at an index. -/

@[expose] public section

noncomputable section

namespace Cert.RefLoss

open Cert.ReferenceIdeal Cert.ReferenceIdeal.Gen Cert.RefRun Cert.RefIndex Cert.Words Cert.RefValue Idealize.ShloMosaic Idealize.ShloMosaic.TcCoe Idealize.SL.Sem

/-- The largest entry of a row. -/
theorem row_max {A B C : ℕ} (x : FVec Ideal ⟨3, ![A, B, C]⟩ .f32) (h : Shape.ReducesTo ⟨3, ![A, B, C]⟩ [2] ⟨2, ![A, B]⟩) (hu : 0 < S_.numel)
    (a : Fin A) (b : Fin B) : Host.reduce FloatOps.maximumf x (constant (F := Ideal) S_ .f32 0xFF800000#32) h hu (ix2 a b)
      = Finset.fold max (Ideal.ofBits .f32 0xFF800000#32) (fun k => x (ix3 a b k)) Finset.univ := by
  pointwise

/-- The sum of a row. -/
theorem row_sum {A B C : ℕ} (x : FVec Ideal ⟨3, ![A, B, C]⟩ .f32) (h : Shape.ReducesTo ⟨3, ![A, B, C]⟩ [2] ⟨2, ![A, B]⟩) (hu : 0 < S_.numel)
    (a : Fin A) (b : Fin B) : (Host.reduceAdd x (constant (F := Ideal) S_ .f32 0x00000000#32) h hu (ix2 a b) : EReal) = ∑ k, x (ix3 a b k) := by
  pointwise

/-- The sum of a matrix. -/
theorem mat_sum {A B : ℕ} (x : FVec Ideal ⟨2, ![A, B]⟩ .f32) (h : Shape.ReducesTo ⟨2, ![A, B]⟩ [0, 1] S_) (hu : 0 < S_.numel) :
    (Host.reduceAdd x (constant (F := Ideal) S_ .f32 0x00000000#32) h hu ix0 : EReal) = ∑ a, ∑ b, x (ix2 a b) := by
  pointwise

/-- A conjunction over an axis of one entry. -/
theorem all_one {A B : ℕ} (x : IVec ⟨4, ![A, B, 1, 1]⟩ 1) (h : Shape.ReducesTo ⟨4, ![A, B, 1, 1]⟩ [3] ⟨3, ![A, B, 1]⟩) (hu : 0 < S_.numel)
    (a : Fin A) (b : Fin B) (hx : x (ix4 a b 0 0) = 1#1) : Host.reduce IntOp.andi x (constantI S_ 1 1#1) h hu (ix3 a b 0) = 1#1 := by
  have e : Host.reduce IntOp.andi x (constantI S_ 1 1#1) h hu (ix3 a b 0) = Finset.fold IntOp.andi 1#1 (fun k : Fin 1 => x (ix4 a b 0 k)) Finset.univ := by
    pointwise
  rw [e]
  exact (Finset.fold_congr fun k _ => by rw [Subsingleton.elim k 0]).trans (fold_one _ hx)

/-- A selection by a bit that is set. -/
theorem select_one {s : Shape} {α : Type} (c : IVec s 1) (u v : s.Idx → α) (j : s.Idx) (h : c j = 1#1) : select c u v j = u j :=
  if_pos h

/-- The log-probability of the target codon. -/
theorem target_apply (ls : FVec Ideal S64x4096x66 .f32) (tgt : IVec S64x4096 32) (b : Fin 64) (p : Fin 4096) (k : Fin 66)
    (h : tgt (ix2 b p) = BitVec.ofNat 32 k.val) : takeTarget ls tgt (ix3 b p 0) = ls (ix3 b p k) := by
  unfold takeTarget
  dsimp only
  have hi : shapeCast S64x4096x1x1 (select (cmpi .slt (broadcastInDim S64x4096x1 ![0, 1] bcast_S64x4096_S64x4096x1_0_1 tgt)
      (broadcastInDim S64x4096x1 ![] bcast_S_S64x4096x1 (constantI S_ 32 0#32)))
      (addi (broadcastInDim S64x4096x1 ![0, 1] bcast_S64x4096_S64x4096x1_0_1 tgt)
      (broadcastInDim S64x4096x1 ![] bcast_S_S64x4096x1 (constantI S_ 32 66#32)))
      (broadcastInDim S64x4096x1 ![0, 1] bcast_S64x4096_S64x4096x1_0_1 tgt)) shapeCasts_S64x4096x1_S64x4096x1x1 (ix4 b p 0 0) = BitVec.ofNat 32 k.val := by
    refine (cast4 _ b p).trans ?_
    pointwise
    rw [h]
    exact wrap _ (by omega) _
  generalize shapeCast S64x4096x1x1 _ shapeCasts_S64x4096x1_S64x4096x1x1 = I at hi ⊢
  refine (select_one _ _ _ _ ?_).trans (gather_logp ls I b p k hi)
  refine all_one _ _ _ b p ?_
  pointwise
  rw [hi]
  exact inRange k.val 65 (by omega) (by omega)

/-- The last steps of the log-softmax, the rows' maxima and sums given. -/
theorem soft_core (x : FVec Ideal S64x4096x66 .f32) (R S : FVec Ideal S64x4096 .f32) (b : Fin 64) (p : Fin 4096) (k : Fin 66) :
    (subf (subf x (broadcastInDim S64x4096x66 ![0, 1, 2] bcast_S64x4096x1_S64x4096x66_0_1_2 (broadcastInDim S64x4096x1 ![0, 1] bcast_S64x4096_S64x4096x1_0_1 R)))
      (broadcastInDim S64x4096x66 ![0, 1, 2] bcast_S64x4096x1_S64x4096x66_0_1_2 (Host.log (broadcastInDim S64x4096x1 ![0, 1] bcast_S64x4096_S64x4096x1_0_1 S)))
      (ix3 b p k) : EReal) = x (ix3 b p k) - R (ix2 b p) - Ideal.log (S (ix2 b p)) := by
  pointwise

/-- The exponentials the log-softmax sums, the rows' maxima given. -/
theorem exp_core (x : FVec Ideal S64x4096x66 .f32) (R : FVec Ideal S64x4096 .f32) (b : Fin 64) (p : Fin 4096) (k : Fin 66) :
    (Host.exp (subf x (broadcastInDim S64x4096x66 ![0, 1, 2] bcast_S64x4096x1_S64x4096x66_0_1_2
      (broadcastInDim S64x4096x1 ![0, 1] bcast_S64x4096_S64x4096x1_0_1 R))) (ix3 b p k) : EReal) = Ideal.exp (x (ix3 b p k) - R (ix2 b p)) := by
  pointwise

/-- A row's maximum, floored at the constant below everything. -/
theorem floor_core (R : FVec Ideal S64x4096 .f32) (b : Fin 64) (p : Fin 4096) :
    (maximumf (broadcastInDim S64x4096 ![] bcast_S_S64x4096 (constant (F := Ideal) S_ .f32 0xFF800000#32)) R (ix2 b p) : EReal)
      = max (Ideal.ofBits .f32 0xFF800000#32) (R (ix2 b p)) := by
  pointwise

/-- The log-softmax at an entry. -/
theorem softmax_apply (x : FVec Ideal S64x4096x66 .f32) (b : Fin 64) (p : Fin 4096) (k : Fin 66) (m : EReal)
    (hm : max (Ideal.ofBits .f32 0xFF800000#32) (Finset.fold max (Ideal.ofBits .f32 0xFF800000#32) (fun k => x (ix3 b p k)) Finset.univ) = m) :
    (logSoftmax x (ix3 b p k) : EReal) = x (ix3 b p k) - m - Ideal.log (∑ k, Ideal.exp (x (ix3 b p k) - m)) := by
  refine (soft_core x _ _ b p k).trans ?_
  have hR := (floor_core (Host.reduce FloatOps.maximumf x (constant (F := Ideal) S_ .f32 0xFF800000#32) reducesTo_S64x4096x66_S64x4096_d2 h_S_) b p).trans
    ((congrArg (max _) (row_max x reducesTo_S64x4096x66_S64x4096_d2 h_S_ b p)).trans hm)
  refine congrArg₂ (fun u v : EReal => x (ix3 b p k) - u - Ideal.log v) hR ?_
  refine (row_sum _ _ _ b p).trans (Finset.sum_congr rfl fun k _ => ?_)
  exact (exp_core x _ b p k).trans (congrArg (fun u => Ideal.exp (x (ix3 b p k) - u)) hR)

/-- The quotient the averaged loss is, the two sums given. -/
theorem quot_core (u v : FVec Ideal S_ .f32) : (Host.divf u (maximumf (constant (F := Ideal) S_ .f32 0x3F800000#32) v) ix0 : EReal)
    = Ideal.div (u ix0) (max 1 (v ix0)) := by
  pointwise

/-- A position's term of the summed loss. -/
theorem term_core (l : FVec Ideal S64x4096 .f32) (tgt : IVec S64x4096 32) (b : Fin 64) (p : Fin 4096) :
    (mulf (Host.negf l) (uitofp (F := Ideal) .f32 (cmpi .ne tgt (broadcastInDim S64x4096 ![] bcast_S_S64x4096 (constantI S_ 32 0#32)))) (ix2 b p) : EReal)
      = if tgt (ix2 b p) ≠ 0#32 then - l (ix2 b p) else 0 := by
  pointwise
  rw [uitofp_bit]
  simp only [cmpi_ne_iff, mul_ite, mul_one, mul_zero]

/-- Whether a position counts. -/
theorem count_core (tgt : IVec S64x4096 32) (b : Fin 64) (p : Fin 4096) :
    (uitofp (F := Ideal) .f32 (cmpi .ne tgt (broadcastInDim S64x4096 ![] bcast_S_S64x4096 (constantI S_ 32 0#32))) (ix2 b p) : EReal)
      = if tgt (ix2 b p) ≠ 0#32 then 1 else 0 := by
  pointwise
  rw [uitofp_bit]
  simp only [cmpi_ne_iff]

/-- The averaged cross-entropy. -/
theorem ce_apply (lp : FVec Ideal S64x4096x1 .f32) (tgt : IVec S64x4096 32) : (ceOf (F := Ideal) lp tgt ix0 : EReal)
    = Ideal.div (∑ b : Fin 64, ∑ p : Fin 4096, if tgt (ix2 b p) ≠ 0#32 then - lp (ix3 b p 0) else (0 : EReal))
      (max 1 (∑ b : Fin 64, ∑ p : Fin 4096, if tgt (ix2 b p) ≠ 0#32 then (1 : EReal) else 0)) := by
  refine (quot_core _ _).trans ?_
  refine congrArg₂ (fun u v => Ideal.div u (max 1 v)) ?_ ?_
  · refine (mat_sum _ _ _).trans (Finset.sum_congr rfl fun b _ => Finset.sum_congr rfl fun p _ => ?_)
    refine (term_core _ tgt b p).trans ?_
    rw [cast2]
  · exact (mat_sum _ _ _).trans (Finset.sum_congr rfl fun b _ => Finset.sum_congr rfl fun p _ => count_core tgt b p)

end Cert.RefLoss

end

end
-- ==== Proof.RefPred.lean ====
module

public import proofs.«01_k».proof.Proof.FirstMax
public import proofs.«01_k».proof.Proof.RefStages
public import Idealize.ShloMosaic.Lib.Tactic
public import Idealize.ShloMosaic.Lib.Pointwise

/-! The reference's predicted codon is the first index of the largest logit. -/

@[expose] public section

noncomputable section

namespace Cert.RefPred

open Cert.ReferenceIdeal Cert.RefRun Cert.FirstMax Idealize.ShloMosaic Idealize.ShloMosaic.TcCoe Idealize.SL.Sem

/-- The reference's comparison keeps the greater value, on equal values the smaller index. -/
theorem better : Better (reducer_argmax_f32_i32 (F := Ideal)) := by
  intro a b
  have ho : ∀ p q : Bool, IntOp.ori (BitVec.ofBool p) (BitVec.ofBool q) = BitVec.ofBool (p || q) := by decide
  have ha : ∀ p q : Bool, IntOp.andi (BitVec.ofBool p) (BitVec.ofBool q) = BitVec.ofBool (p && q) := by decide
  have hs : ∀ {α : Type} (p : Bool) (x y : α), Scalar.select (BitVec.ofBool p) x y = if p = true then x else y := by
    intro α p x y; cases p <;> rfl
  have hc : IntOp.cmpi .slt a.2 b.2 = BitVec.ofBool (decide (a.2.toInt < b.2.toInt)) := by
    simp [IntOp.cmpi, BitVec.slt]
  unfold reducer_argmax_f32_i32
  pointwise
  obtain ⟨a1, a2⟩ := a
  obtain ⟨b1, b2⟩ := b
  simp only [hc, ho, ha, hs, ne_eq, not_true_eq_false, decide_false, Bool.or_false] at *
  rcases lt_trichotomy b1 a1 with h | h | h
  · simp [h, h.le, h.ne]
  · subst h
    by_cases g : a2.toInt < b2.toInt
    · simp [g, g.le]
    · simp [g]; omega
  · simp [h.not_gt, h.le, h.ne, h.ne']

/-- The index a reduced index comes from. -/
theorem drop_iff (h : S64x4096x66.ReducesTo [2] S64x4096) (a : Fin 64) (q : Fin 4096) (k : Fin 66) (b : Fin 64) (p : Fin 4096) :
    h.drop (ix3 a q k) = ix2 b p ↔ a = b ∧ q = p := by
  have e0 : (h.drop (ix3 a q k) 0 : ℕ) = a := Shape.ReducesTo.drop_apply_val_of_eq h _ 0 0
  have e1 : (h.drop (ix3 a q k) 1 : ℕ) = q := Shape.ReducesTo.drop_apply_val_of_eq h _ 1 1
  constructor
  · intro e
    rw [e] at e0 e1
    exact ⟨Fin.ext e0.symm, Fin.ext e1.symm⟩
  · rintro ⟨rfl, rfl⟩
    funext c
    match c with
    | ⟨0, _⟩ => exact Fin.ext e0
    | ⟨1, _⟩ => exact Fin.ext e1

/-- The second components of a family of pairs. -/
def seconds {ι α β : Type} (p : ι → α × β) : ι → β := fun j => (p j).2

/-- One of them. -/
theorem seconds_apply {ι α β : Type} (p : ι → α × β) (j : ι) (r : α × β) (h : p j = r) : seconds p j = r.2 := by rw [← h]; rfl

/-- The predicted codons are the indices of the pairs the reduction returns. -/
theorem predIds_eq (x : FVec Ideal S64x4096x66 .f32) : predIds x = seconds (Host.argReduce reducer_argmax_f32_i32 x (iotaInDim S64x4096x66 32 2)
    (constant S_ .f32 0xFF800000#32) (constantI S_ 32 0#32) Gen.reducesTo_S64x4096x66_S64x4096_d2 Gen.h_S_) := by with_unfolding_all rfl

/-- The predicted codon at a position whose logits are above −∞. -/
theorem pred_apply (x : FVec Ideal S64x4096x66 .f32) (b : Fin 64) (p : Fin 4096) (hx : ∀ k, x (ix3 b p k) ≠ ⊥) :
    predIds x (ix2 b p) = BitVec.ofNat 32 (firstMax fun k => x (ix3 b p k)).val := by
  rw [predIds_eq]
  obtain ⟨h1, h2⟩ := argReduce_spec better x (iotaInDim S64x4096x66 32 2) (constant (F := Ideal) S_ .f32 0xFF800000#32) (constantI S_ 32 0#32)
    Gen.reducesTo_S64x4096x66_S64x4096_d2 Gen.h_S_ (ix2 b p) _ rfl
  generalize hr : Host.argReduce (F := Ideal) (φ := .f32) _ _ _ _ _ _ _ _ = r at h1 h2
  rw [seconds_apply _ _ _ hr]
  clear hr
  have hy : ∀ k : Fin 66, iotaInDim S64x4096x66 32 2 (ix3 b p k) = BitVec.ofNat 32 k.val := fun k => rfl
  have h2' : ∀ k : Fin 66, x (ix3 b p k) ≤ r.1 ∧ (x (ix3 b p k) = r.1 → r.2.toInt ≤ k.val) := by
    intro k
    have := h2 (ix3 b p k) ((drop_iff _ _ _ _ _ _).mpr ⟨rfl, rfl⟩)
    rwa [hy, toInt_small _ (by omega)] at this
  rcases h1 with h | ⟨i, hi, h⟩
  · exfalso
    have hb : r.1 = ⊥ := h.trans ofBits_neg_inf
    exact hx 0 (le_bot_iff.mp (hb ▸ (h2' 0).1))
  · obtain ⟨a, q, k, rfl⟩ : ∃ (a : Fin 64) (q : Fin 4096) (k : Fin 66), i = ix3 a q k := ⟨i 0, i 1, i 2, eq_ix3 i⟩
    obtain ⟨rfl, rfl⟩ := (drop_iff _ _ _ _ _ _).mp hi
    rw [hy] at h
    subst h
    have : k = firstMax fun k => x (ix3 a q k) := IsFirst.eq ⟨fun k' => (h2' k').1, fun k' e => by
      have := (h2' k').2 e
      rw [toInt_small _ (by omega)] at this
      exact Fin.le_def.mpr (by omega)⟩
    exact congrArg (fun k : Fin 66 => BitVec.ofNat 32 k.val) this

end Cert.RefPred

end
-- ==== Proof.Tables.lean ====
module

public import proofs.«01_k».proof.Proof.RefStages
public import proofs.«01_k».proof.Proof.KernelStep
public import Idealize.ShloMosaic.Lib.Tactic
public import Idealize.ShloMosaic.Lib.Pointwise

/-! The tables of the two programs agree: which codons share a group, which are kept, and how many synonyms each has. -/

@[expose] public section

noncomputable section

namespace Cert.Tables

open Idealize.ShloMosaic

/-- The reference's group of a codon. -/
def grp (k : Fin 66) : Fin 22 := ⟨(ReferenceIdeal.lit0 (ReferenceIdeal.S66.rowMajor (ix1 k))).toNat % 22, Nat.mod_lt _ (by decide)⟩

/-- The reference's table lists that group. -/
theorem grp_word : ∀ k : Fin 66, ReferenceIdeal.lit0 (ReferenceIdeal.S66.rowMajor (ix1 k)) = BitVec.ofNat 32 (grp k).val := by
  decide +kernel

/-- The kernel's same-group table. -/
theorem same_word : ∀ i j : Fin 66, KernelIdeal.lit0 (KernelIdeal.S66x66.rowMajor (ix2 i j)) = if grp i = grp j then 0x3F800000#32 else 0#32 := by
  decide +kernel

/-- The two tables of synonym counts. -/
theorem nsyn_word : ∀ k : Fin 66, KernelIdeal.lit1 (KernelIdeal.S1x66.rowMajor (ix2 0 k)) = ReferenceIdeal.lit1 (ReferenceIdeal.S66.rowMajor (ix1 k)) := by
  decide +kernel

/-- Whether a codon's counts are kept: it is not codon 0 and its group is a real one. -/
def keep (k : Fin 66) : Prop := 0 < k.val ∧ (grp k).val < 21

instance (k : Fin 66) : Decidable (keep k) := by unfold keep; infer_instance

/-- The kernel's table of kept codons. -/
theorem keep_word : ∀ k : Fin 66, KernelIdeal.lit2 (KernelIdeal.S1x66.rowMajor (ix2 0 k)) = if keep k then 0x3F800000#32 else 0#32 := by
  decide +kernel

/-- The reference keeps the same codons. -/
theorem keep_bits : ∀ k : Fin 66, ∀ c : BitVec 1, IntOp.andi (IntOp.andi c (IntOp.cmpi .sgt (BitVec.ofNat 32 k.val) 0#32))
    (IntOp.cmpi .slt (BitVec.ofNat 32 (grp k).val) 21#32) = if keep k then c else 0#1 := by
  decide +kernel

end Cert.Tables

end

end
-- ==== Proof.RefFinal.lean ====
module

public import proofs.«01_k».proof.Proof.RefLoss
public import proofs.«01_k».proof.Proof.RefPred
public import proofs.«01_k».proof.Proof.Tables
public import proofs.«01_k».proof.Proof.Loss

/-! The reference's loss, as mathematics of its arguments. -/

@[expose] public section

noncomputable section

namespace Cert.RefFinal

open Cert.ReferenceIdeal Cert.ReferenceIdeal.Gen Cert.RefRun Cert.RefValue Cert.RefLoss Cert.RefPred Cert.FirstMax Cert.Tables Cert.Words Cert.Loss
open Idealize.ShloMosaic Idealize.ShloMosaic.TcCoe Idealize.SL.Sem

/-- The divergence term at its one entry. -/
theorem kl_eq (pr tr row : FVec Ideal S64x66 .f32) : (klOf (F := Ideal) pr tr row ix0 : EReal)
    = Ideal.div (∑ b : Fin 64, klRow (fun k => pr (ix2 b k)) (fun k => tr (ix2 b k)) (fun k => row (ix2 b k))) c64 := by
  pointwise [klOf]
  rfl

/-- The adaptation-index term at its one entry. -/
theorem hinge_eq (cp ct : FVec Ideal S64 .f32) : (hingeOf (F := Ideal) cp ct ix0 : EReal)
    = Ideal.div (∑ b : Fin 64, max (ct (ix1 b) - cp (ix1 b)) 0) c64 := by
  pointwise [hingeOf]
  rfl

/-- The usage of a codon. -/
theorem ratio_eq (n : FVec Ideal S66 .f32) (u v : FVec Ideal S64x66 .f32) (b : Fin 64) (k : Fin 66) : (ratioOf (F := Ideal) n u v (ix2 b k) : EReal)
    = usage (fun k => n (ix1 k)) (fun k => u (ix2 b k)) (fun k => v (ix2 b k)) k := by
  pointwise [ratioOf]
  rfl

/-- The three terms put together. -/
theorem total_eq (ce cai kl : FVec Ideal S_ .f32) : (totalOf (F := Ideal) ce cai kl (ix2 0 0) : EReal)
    = ce ix0 + c04 * cai ix0 + c03 * kl ix0 := by
  pointwise [totalOf]
  rfl

/-- The group table lists the groups. -/
theorem tab_grp (k : Fin 66) : grpTab (ix1 k) = BitVec.ofNat 32 (grp k).val := grp_word k

variable (mask : IVec S64x4096 1) (ids : IVec S64x4096 32) (d : Fin 64 → Fin 4096 → Fin 66)

/-- The mask as numbers. -/
def maskAt (b : Fin 64) (p : Fin 4096) : EReal := FloatOps.uitofp (F := Ideal) .f32 (mask (ix2 b p))

/-- The counts that take part. -/
def kept (b : Fin 64) (k : Fin 66) : EReal := if keep k then hist (d b) (maskAt mask b) k else 0

/-- The counts of a codon's group. -/
def inGroup (b : Fin 64) (k : Fin 66) : EReal := ∑ j : Fin 66, if grp j = grp k then kept mask d b j else 0

/-- The counts are the masked counts of the codons that take part. -/
theorem counts_eq (h : ∀ b p, ids (ix2 b p) = BitVec.ofNat 32 (d b p).val) (b : Fin 64) (k : Fin 66) :
    (countsOf (F := Ideal) (groupOf grpTab ids) ids mask (ix2 b k) : EReal) = kept mask d b k := by
  refine (counts_apply (groupOf grpTab ids) ids mask d h b k).trans ?_
  have e : ∀ p, (if d b p = k then FloatOps.uitofp (F := Ideal) .f32 (IntOp.andi (IntOp.andi (mask (ix2 b p)) (IntOp.cmpi .sgt (ids (ix2 b p)) 0#32))
      (IntOp.cmpi .slt (groupOf grpTab ids (ix2 b p)) 21#32)) else 0 : EReal) = if keep k then (if d b p = k then maskAt mask b p else 0) else 0 := by
    intro p
    by_cases hd : d b p = k
    · rw [if_pos hd, if_pos hd, group_apply grpTab ids b p k (by rw [h, hd]), tab_grp, h, hd, keep_bits, maskAt]
      split_ifs with hk
      · rfl
      · rw [uitofp_bit, if_neg (by decide)]
    · rw [if_neg hd, if_neg hd, ite_self]
  rw [Finset.sum_congr rfl fun p _ => e p]
  unfold kept hist
  split_ifs with hk
  · rfl
  · exact Finset.sum_const_zero

/-- The usages. -/
theorem usage_eq (h : ∀ b p, ids (ix2 b p) = BitVec.ofNat 32 (d b p).val) (b : Fin 64) (k : Fin 66) :
    (usageOf (F := Ideal) mask ids (ix2 b k) : EReal) = usage (fun k => nsynTab (F := Ideal) (ix1 k)) (kept mask d b) (inGroup mask d b) k := by
  refine (ratio_eq _ _ _ b k).trans ?_
  have hc : (fun k => countsOf (F := Ideal) (groupOf grpTab ids) ids mask (ix2 b k) : Fin 66 → EReal) = kept mask d b :=
    funext fun k => counts_eq mask ids d h b k
  have ht : (fun k => backOf (F := Ideal) grpTab (totalsOf grpTab (countsOf (groupOf grpTab ids) ids mask)) (ix2 b k) : Fin 66 → EReal) = inGroup mask d b := by
    funext k
    refine (back_apply grpTab _ grp tab_grp b k).trans ((totals_apply grpTab _ grp tab_grp b (grp k)).trans ?_)
    exact Finset.sum_congr rfl fun j _ => by rw [counts_eq mask ids d h b j]
  rw [hc, ht]

/-- The adaptation index of a sequence. -/
def caiAt (wm : FVec Ideal S5x66 .f32) (s : Fin 64 → Fin 5) (b : Fin 64) : EReal :=
  Ideal.exp (Ideal.div (∑ p, Ideal.log (max eps (wm (ix2 (s b) (d b p)))) * maskAt mask b p) (max 1 (∑ p, maskAt mask b p)))

/-- The loss of a position from its logits `x` and target `τ`. -/
def nllAt (x : Fin 66 → EReal) (τ : Fin 66) : EReal := -(x τ - x (firstMax x) - Ideal.log (∑ k, Ideal.exp (x k - x (firstMax x))))

/-- The reference's loss. -/
theorem ref_eq (x : FVec Ideal S64x4096x66 .f32) (tgt : IVec S64x4096 32) (sp : IVec S64 32) (wm rd : FVec Ideal S5x66 .f32)
    (τ : Fin 64 → Fin 4096 → Fin 66) (s : Fin 64 → Fin 5) (hx : ∀ b p k, x (ix3 b p k) ≠ ⊥)
    (hτ : ∀ b p, tgt (ix2 b p) = BitVec.ofNat 32 (τ b p).val) (hs : ∀ b, sp (ix1 b) = BitVec.ofNat 32 (s b).val) :
    (refOut (F := Ideal) x tgt sp mask wm rd (ix2 0 0) : EReal)
      = lossOf (∑ b, ∑ p, if tgt (ix2 b p) ≠ 0#32 then nllAt (fun k => x (ix3 b p k)) (τ b p) else 0)
          (∑ b, ∑ p, if tgt (ix2 b p) ≠ 0#32 then 1 else 0)
          (caiAt mask (fun b p => firstMax fun k => x (ix3 b p k)) wm s) (caiAt mask τ wm s)
          (fun b => klRow (usage (fun k => nsynTab (F := Ideal) (ix1 k)) (kept mask (fun b p => firstMax fun k => x (ix3 b p k)) b)
              (inGroup mask (fun b p => firstMax fun k => x (ix3 b p k)) b))
            (usage (fun k => nsynTab (F := Ideal) (ix1 k)) (kept mask τ b) (inGroup mask τ b)) (fun k => rd (ix2 (s b) k))) := by
  have hp : ∀ b p, predIds (F := Ideal) x (ix2 b p) = BitVec.ofNat 32 (firstMax fun k => x (ix3 b p k)).val := fun b p => pred_apply x b p (hx b p)
  have e1 : (ceOf (F := Ideal) (takeTarget (logSoftmax x) tgt) tgt ix0 : EReal)
      = Ideal.div (∑ b, ∑ p, if tgt (ix2 b p) ≠ 0#32 then nllAt (fun k => x (ix3 b p k)) (τ b p) else 0)
          (max (∑ b : Fin 64, ∑ p : Fin 4096, if tgt (ix2 b p) ≠ 0#32 then 1 else 0) 1) := by
    refine (ce_apply (takeTarget (logSoftmax x) tgt) tgt).trans (congrArg₂ Ideal.div ?_ (max_comm _ _))
    refine Finset.sum_congr rfl fun b _ => Finset.sum_congr rfl fun p _ => if_congr Iff.rfl ?_ rfl
    have e := (target_apply (logSoftmax x) tgt b p (τ b p) (hτ b p)).trans
      (softmax_apply x b p (τ b p) (x (ix3 b p (firstMax fun k => x (ix3 b p k)))) (top_row fun k => x (ix3 b p k)))
    exact congrArg (fun z : EReal => -z) e
  have e2 : (hingeOf (F := Ideal) (caiOf wm sp (predIds x) mask) (caiOf wm sp tgt mask) ix0 : EReal)
      = Ideal.div (∑ b, max (caiAt mask τ wm s b - caiAt mask (fun b p => firstMax fun k => x (ix3 b p k)) wm s b) 0) c64 := by
    refine (hinge_eq _ _).trans (congrArg (fun z : EReal => Ideal.div z c64) (Finset.sum_congr rfl fun b _ => ?_))
    exact congrArg₂ (fun u v : EReal => max (u - v) 0) (cai_apply wm sp tgt mask τ hτ b (s b) (hs b))
      (cai_apply wm sp (predIds x) mask _ hp b (s b) (hs b))
  have e3 : (klOf (F := Ideal) (usageOf mask (predIds x)) (usageOf mask tgt) (speciesRow rd sp) ix0 : EReal)
      = Ideal.div (∑ b, klRow (usage (fun k => nsynTab (F := Ideal) (ix1 k)) (kept mask (fun b p => firstMax fun k => x (ix3 b p k)) b)
              (inGroup mask (fun b p => firstMax fun k => x (ix3 b p k)) b))
            (usage (fun k => nsynTab (F := Ideal) (ix1 k)) (kept mask τ b) (inGroup mask τ b)) (fun k => rd (ix2 (s b) k))) c64 := by
    refine (kl_eq _ _ _).trans (congrArg (fun z : EReal => Ideal.div z c64) (Finset.sum_congr rfl fun b _ => ?_))
    have a1 := funext fun k => usage_eq mask (predIds x) (fun b p => firstMax fun k => x (ix3 b p k)) hp b k
    have a2 := funext fun k => usage_eq mask tgt τ hτ b k
    have a3 := funext fun k => species_apply rd sp b k (s b) (hs b)
    rw [a1, a2, a3]
  unfold refOut
  rw [total_eq, e1, e2, e3]
  rfl

end Cert.RefFinal

end

end
-- ==== Proof.KernelBlocks.lean ====
module

public import proofs.«01_k».proof.Proof.Gen.KernelIdeal.Value
public import Idealize.ShloMosaic.Lib.Claim
public import Idealize.ShloMosaic.Lib.Pipeline.ValueKit
public import Idealize.ShloMosaic.Lib.Pipeline.ValueKit.Point
public import Idealize.ShloMosaic.Lib.Pointwise

/-! The blocks a grid point reads, in terms of the arguments. Point `t` of the 512 works on sequence `t / 8` and on its
`t % 8`-th run of 512 positions. -/

@[expose] public section

noncomputable section

namespace Cert.KernelBlocks

open Cert.KernelIdeal Cert.KernelIdeal.Gen Idealize.ShloMosaic Idealize.ShloMosaic.TcCoe Idealize.SL.Sem

variable (m : (ℓ : Loc nD τ sig) → Buf (Elt Ideal) ℓ)

/-- The block indices of the nine input windows at every point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![t.val / 8, t.val % 8, 0] ∧ win0_7.index t = ![t.val / 8, 0, t.val % 8]
    ∧ win0_8.index t = ![t.val / 8, 0, t.val % 8] :=
  (by decide +kernel : ∀ t : Fin grid0.N, _)

/-- The grid coordinates of point `t`. -/
theorem coords : ∀ t : Fin cfg0.N, (grid0.coords t 0).val = t.val / 8 ∧ (grid0.coords t 1).val = t.val % 8 :=
  (by decide +kernel : ∀ t : Fin grid0.N, _)

/-- The sequence point `t` works on. -/
def seqOf (t : Fin cfg0.N) : Fin 64 := ⟨t.val / 8, by have h : t.val < 512 := lt_of_lt_of_eq t.isLt N_0; omega⟩
/-- The position of the sequence that lane `l` of point `t` holds. -/
def posOf (t : Fin cfg0.N) (l : Fin 512) : Fin 4096 := ⟨512 * (t.val % 8) + l.val, by omega⟩

/-- Entry contents of the operand the host computes from argument 1. -/
theorem V_main_v1 (c : Dev nD) : V m c main_v1 = shapeCast S64x1x4096 (m ((c : Thread nD τ).loc main_arg1)) shapeCasts_S64x4096_S64x1x4096 := by
  simp only [V, hostOps0, hostOps0_1, hostOps0_2, List.flatten_cons, List.flatten_nil, List.append_nil, List.cons_append, List.nil_append,
    StableHlo.TRef.unary, StableHlo.TRef.binary, StableHlo.TRef.nullary, StableHlo.TRef.toBuf, StableHlo.TRef.ofBuf, cast_eq]
  after_results_simp
  rfl

/-- Entry contents of the operand the host computes from argument 4. -/
theorem V_main_v3 (c : Dev nD) :
    V m c main_v3 = shapeCast S64x1x4096 (uitofp (F := Ideal) .f32 (m ((c : Thread nD τ).loc main_arg4))) shapeCasts_S64x4096_S64x1x4096 := by
  simp only [V, hostOps0, hostOps0_1, hostOps0_2, List.flatten_cons, List.flatten_nil, List.append_nil, List.cons_append, List.nil_append,
    StableHlo.TRef.unary, StableHlo.TRef.binary, StableHlo.TRef.nullary, StableHlo.TRef.toBuf, StableHlo.TRef.ofBuf, cast_eq]
  after_results_simp
  rfl

/-- Entry contents of the operand the host computes from argument 3. -/
theorem V_main_v0 (c : Dev nD) : V m c main_v0 = uitofp (F := Ideal) .f32 (cmpi .eq
    (broadcastInDim S64x5 ![0, 1] bcast_S64x1_S64x5_0_1 (broadcastInDim S64x1 ![0] bcast_S64_S64x1_0 (m ((c : Thread nD τ).loc main_arg3))))
    (broadcastInDim S64x5 ![0, 1] bcast_S1x5_S64x5_0_1 (iotaInDim S1x5 32 1))) := by
  simp only [V, hostOps0, hostOps0_1, hostOps0_2, List.flatten_cons, List.flatten_nil, List.append_nil, List.cons_append, List.nil_append,
    StableHlo.TRef.unary, StableHlo.TRef.binary, StableHlo.TRef.nullary, StableHlo.TRef.toBuf, StableHlo.TRef.ofBuf, cast_eq]
  after_results_simp

/-- A middle axis of one position added. -/
theorem cast3 {e : EltTy} (X : Vec Ideal S64x4096 e) (b : Fin 64) (p : Fin 4096) :
    shapeCast S64x1x4096 X shapeCasts_S64x4096_S64x1x4096 (ix3 b 0 p) = X (ix2 b p) := by
  pointwise

/-- The species of every sequence, one-hot. -/
theorem blk0 (c : Dev nD) (t : Fin cfg0.N) (b : Fin 64) (s : Fin 5) :
    iblk m c 0 t (ix2 b s) = FloatOps.uitofp (F := Ideal) .f32 (IntOp.cmpi .eq (m ((c : Thread nD τ).loc main_arg3) (ix1 b)) (BitVec.ofNat 32 s.val)) := by
  have e : ((win0_0.blk t).view.emb (ix2 b s) : S64x5.Idx) = ix2 b s := by
    blk_ext [idx t]
  refine (congrFun (V_main_v0 m c) _).trans ?_
  rw [e]
  pointwise

/-- The codon weights, whole at every point. -/
theorem blk1 (c : Dev nD) (t : Fin cfg0.N) : iblk m c 1 t = m ((c : Thread nD τ).loc main_arg5) := by
  blk_ext! [iblk, V, idx t]

/-- The reference distributions, whole at every point. -/
theorem blk2 (c : Dev nD) (t : Fin cfg0.N) : iblk m c 2 t = m ((c : Thread nD τ).loc main_arg6) := by
  blk_ext! [iblk, V, idx t]

/-- The table of which codons share a group, whole at every point. -/
theorem blk3 (c : Dev nD) (t : Fin cfg0.N) : iblk m c 3 t = fun i => FloatOps.ofBits (F := Ideal) .f32 (lit0 (S66x66.rowMajor i)) := by
  blk_ext! [iblk, V, idx t]

/-- The numbers of synonymous codons, whole at every point. -/
theorem blk4 (c : Dev nD) (t : Fin cfg0.N) : iblk m c 4 t = fun i => FloatOps.ofBits (F := Ideal) .f32 (lit1 (S1x66.rowMajor i)) := by
  blk_ext! [iblk, V, idx t]

/-- The flags of the codons that count, whole at every point. -/
theorem blk5 (c : Dev nD) (t : Fin cfg0.N) : iblk m c 5 t = fun i => FloatOps.ofBits (F := Ideal) .f32 (lit2 (S1x66.rowMajor i)) := by
  blk_ext! [iblk, V, idx t]

/-- A block of logits. -/
theorem blk6 (c : Dev nD) (t : Fin cfg0.N) (l : Fin 512) (k : Fin 66) :
    iblk m c 6 t (ix3 0 l k) = m ((c : Thread nD τ).loc main_arg0) (ix3 (seqOf t) (posOf t l) k) := by
  blk_ext! [iblk, V, idx t, seqOf, posOf]

/-- A block of target codons. -/
theorem blk7 (c : Dev nD) (t : Fin cfg0.N) (l : Fin 512) :
    iblk m c 7 t (ix3 0 0 l) = m ((c : Thread nD τ).loc main_arg1) (ix2 (seqOf t) (posOf t l)) := by
  have e : ((win0_7.blk t).view.emb (ix3 0 0 l) : S64x1x4096.Idx) = ix3 (seqOf t) 0 (posOf t l) := by
    blk_ext [idx t, seqOf, posOf]
  refine (congrFun (V_main_v1 m c) _).trans ?_
  rw [e]
  exact cast3 _ _ _

/-- A block of the mask, as numbers. -/
theorem blk8 (c : Dev nD) (t : Fin cfg0.N) (l : Fin 512) :
    iblk m c 8 t (ix3 0 0 l) = uitofp (F := Ideal) .f32 (m ((c : Thread nD τ).loc main_arg4)) (ix2 (seqOf t) (posOf t l)) := by
  have e : ((win0_8.blk t).view.emb (ix3 0 0 l) : S64x1x4096.Idx) = ix3 (seqOf t) 0 (posOf t l) := by
    blk_ext [idx t, seqOf, posOf]
  refine (congrFun (V_main_v3 m c) _).trans ?_
  rw [e]
  exact cast3 (e := .f32) (uitofp (F := Ideal) .f32 (m ((c : Thread nD τ).loc main_arg4))) _ _

end Cert.KernelBlocks

end
-- ==== Proof.Sweep.lean ====
module

public import Idealize.ShloMosaic.Lib.Tactic
public import Idealize.ShloMosaic.Lib.Pointwise

/-! Sums over the positions of a sequence, taken block by block. -/

@[expose] public section

noncomputable section

namespace Cert.Sweep

/-- The sum over the positions of sequence `b` that the first `n` grid points have seen. -/
def part (g : Fin 64 → Fin 4096 → EReal) (n : ℕ) (b : Fin 64) : EReal :=
  ∑ p : Fin 4096, if 8 * b.val + p.val / 512 < n then g b p else 0

/-- Nothing is seen at first. -/
theorem part_zero (g : Fin 64 → Fin 4096 → EReal) (b : Fin 64) : part g 0 b = 0 := by simp [part]

/-- All is seen in the end. -/
theorem part_all (g : Fin 64 → Fin 4096 → EReal) (b : Fin 64) : part g 512 b = ∑ p, g b p :=
  Finset.sum_congr rfl fun p _ => if_pos (by omega)

/-- The positions of one block. -/
theorem sum_block (f : Fin 4096 → EReal) (q : Fin 8) :
    (∑ p : Fin 4096, if p.val / 512 = q.val then f p else 0) = ∑ l : Fin 512, f ⟨512 * q.val + l.val, by omega⟩ := by
  have e := (Fintype.sum_equiv (finProdFinEquiv (m := 8) (n := 512))
    (fun z : Fin 8 × Fin 512 => if z.1 = q then f ⟨512 * z.1.val + z.2.val, by omega⟩ else 0)
    (fun p : Fin 4096 => if p.val / 512 = q.val then f p else 0) (by
      rintro ⟨a, l⟩
      have hv : (finProdFinEquiv (a, l) : Fin (8 * 512)).val = l.val + 512 * a.val := rfl
      refine if_congr ?_ (congrArg f (Fin.ext ?_)) rfl
      · rw [hv, Fin.ext_iff]
        show a.val = q.val ↔ (l.val + 512 * a.val) / 512 = q.val
        omega
      · show 512 * a.val + l.val = _
        rw [hv]; omega))
  refine e.symm.trans ?_
  rw [Fintype.sum_prod_type]
  rw [Finset.sum_eq_single q (fun a _ h => by simp [h]) (by simp)]
  simp

/-- One more grid point adds its block's sum to its sequence. -/
theorem part_succ (g : Fin 64 → Fin 4096 → EReal) (n : ℕ) (b : Fin 64) :
    part g (n + 1) b = if b.val = n / 8 then part g n b + ∑ l : Fin 512, g b ⟨512 * (n % 8) + l.val, by omega⟩ else part g n b := by
  unfold part
  have e : ∀ p : Fin 4096, (if 8 * b.val + p.val / 512 < n + 1 then g b p else 0)
      = (if 8 * b.val + p.val / 512 < n then g b p else 0) + (if 8 * b.val + p.val / 512 = n then g b p else 0) := by
    intro p
    split_ifs <;> first | omega | simp
  rw [Finset.sum_congr rfl fun p _ => e p, Finset.sum_add_distrib]
  split_ifs with h
  · congr 1
    rw [← sum_block (g b) ⟨n % 8, by omega⟩]
    exact Finset.sum_congr rfl fun p _ => if_congr (by show _ ↔ _ = n % 8; omega) rfl rfl
  · rw [Finset.sum_eq_zero (s := Finset.univ) (f := fun p : Fin 4096 => if 8 * b.val + p.val / 512 = n then g b p else 0)
      (fun p _ => if_neg (by omega)), add_zero]

/-- The sum over all sequences of what is seen. -/
def total (g : Fin 64 → Fin 4096 → EReal) (n : ℕ) : EReal := ∑ b, part g n b

/-- Nothing at first. -/
theorem total_zero (g : Fin 64 → Fin 4096 → EReal) : total g 0 = 0 := Finset.sum_eq_zero fun b _ => part_zero g b

/-- All in the end. -/
theorem total_all (g : Fin 64 → Fin 4096 → EReal) : total g 512 = ∑ b, ∑ p, g b p := Finset.sum_congr rfl fun b _ => part_all g b

/-- One more grid point adds its block's sum. -/
theorem total_succ (g : Fin 64 → Fin 4096 → EReal) (n : ℕ) (r : Fin 64) (hr : r.val = n / 8) :
    total g (n + 1) = total g n + ∑ l : Fin 512, g r ⟨512 * (n % 8) + l.val, by omega⟩ := by
  unfold total
  have e : ∀ b : Fin 64, part g (n + 1) b = part g n b + (if b = r then ∑ l : Fin 512, g b ⟨512 * (n % 8) + l.val, by omega⟩ else 0) := by
    intro b
    rw [part_succ]
    by_cases h : b = r
    · rw [if_pos (h ▸ hr), if_pos h]
    · rw [if_neg (fun h' => h (Fin.ext (h'.trans hr.symm))), if_neg h, add_zero]
  rw [Finset.sum_congr rfl fun b _ => e b, Finset.sum_add_distrib]
  simp

end Cert.Sweep

end

end
-- ==== Proof.Accum.lean ====
module

public import proofs.«01_k».proof.Proof.KernelPay
public import proofs.«01_k».proof.Proof.KernelBlocks
public import proofs.«01_k».proof.Proof.Sweep
public import proofs.«01_k».proof.Proof.Gen.KernelIdeal.Value

/-! What the kernel has accumulated after each grid point, and the loss it stores at the last. -/

@[expose] public section

noncomputable section

namespace Cert.Accum

open Cert.KernelIdeal Cert.KernelIdeal.Gen Cert.KernelStep Cert.KernelBlocks Cert.KernelPay Cert.FirstMax Cert.Words Cert.Sweep
open Idealize.ShloMosaic Idealize.ShloMosaic.TcCoe Idealize.SL.Sem

section Steps

variable {F : FTy → Type} [FloatOps F] (m : (ℓ : Loc nD τ sig) → Buf (Elt F) ℓ)

/-- What the first point leaves in the carried buffers. -/
theorem outs_zero (c : Dev nD) (h : 0 < cfg0.N) : (outsAt0 m c 0 h).2
    = (stepH (grid0.coords ⟨0, h⟩ 0) (iblk m c 6 ⟨0, h⟩) (iblk m c 8 ⟨0, h⟩) k0_pay8,
       stepT (grid0.coords ⟨0, h⟩ 0) (iblk m c 7 ⟨0, h⟩) (iblk m c 8 ⟨0, h⟩) k0_pay9,
       stepM (iblk m c 6 ⟨0, h⟩) (iblk m c 7 ⟨0, h⟩) (fun _ => Scalar.ofBits .f32 0x00000000#32)) := by
  rw [outsAt0_A m c ⟨0, h⟩ rfl (show ¬ 0 % 512 = 511 by decide), sout0_A_0_eq, sout0_A_1_eq, sout0_A_2_eq]

/-- What a later point leaves, over what the point before left. -/
theorem outs_succ (c : Dev nD) (n : ℕ) (h : n + 1 < cfg0.N) (h' : n < cfg0.N) : (outsAt0 m c (n + 1) h).2
    = (stepH (grid0.coords ⟨n + 1, h⟩ 0) (iblk m c 6 ⟨n + 1, h⟩) (iblk m c 8 ⟨n + 1, h⟩) (outsAt0 m c n h').2.1,
       stepT (grid0.coords ⟨n + 1, h⟩ 0) (iblk m c 7 ⟨n + 1, h⟩) (iblk m c 8 ⟨n + 1, h⟩) (outsAt0 m c n h').2.2.1,
       stepM (iblk m c 6 ⟨n + 1, h⟩) (iblk m c 7 ⟨n + 1, h⟩) (outsAt0 m c n h').2.2.2) := by
  have hN : n + 1 < 512 := lt_of_lt_of_eq h N_0
  have h0 : ¬ (n + 1) % 512 = 0 := by omega
  by_cases h1 : (n + 1) % 512 = 511
  · rw [outsAt0_C m c ⟨n + 1, h⟩ h0 h1, sout0_C_0_eq, sout0_C_1_eq, sout0_C_2_eq]
    rfl
  · rw [outsAt0_B m c ⟨n + 1, h⟩ h0 h1, sout0_B_0_eq, sout0_B_1_eq, sout0_B_2_eq]
    rfl

/-- What the last point stores, over what it leaves in the carried buffers. -/
theorem outs_last (c : Dev nD) (n : ℕ) (h : n + 1 < cfg0.N) (h' : n < cfg0.N) (hn : n + 1 = 511) : (outsAt0 m c (n + 1) h).1
    = lastOut (iblk m c 0 ⟨n + 1, h⟩) (iblk m c 1 ⟨n + 1, h⟩) (iblk m c 2 ⟨n + 1, h⟩) (iblk m c 3 ⟨n + 1, h⟩) (iblk m c 4 ⟨n + 1, h⟩)
        (iblk m c 5 ⟨n + 1, h⟩) (outsAt0 m c (n + 1) h).2.1 (outsAt0 m c (n + 1) h).2.2.1 (outsAt0 m c (n + 1) h).2.2.2 := by
  rw [outs_succ m c n h h', outsAt0_C m c ⟨n + 1, h⟩ (show ¬ (n + 1) % 512 = 0 by omega) (show (n + 1) % 512 = 511 by omega), out0_C_9_eq]
  rfl

end Steps

variable (m : (ℓ : Loc nD τ sig) → Buf (Elt Ideal) ℓ) (c : Dev nD)

/-- The logits of a position. -/
def X (b : Fin 64) (p : Fin 4096) (k : Fin 66) : EReal := m ((c : Thread nD τ).loc main_arg0) (ix3 b p k)
/-- The target codon of a position. -/
def T (b : Fin 64) (p : Fin 4096) : BitVec 32 := m ((c : Thread nD τ).loc main_arg1) (ix2 b p)
/-- The mask of a position as a number. -/
def M (b : Fin 64) (p : Fin 4096) : EReal := FloatOps.uitofp (F := Ideal) .f32 ((m ((c : Thread nD τ).loc main_arg4) (ix2 b p) : BitVec 1))

/-- A position's share of the table of predicted codons. -/
def gH (k : Fin 66) (b : Fin 64) (p : Fin 4096) : EReal := if firstMax (X m c b p) = k then M m c b p else 0
/-- A position's share of the table of target codons. -/
def gT (k : Fin 66) (b : Fin 64) (p : Fin 4096) : EReal := if T m c b p = BitVec.ofNat 32 k.val then M m c b p else 0
/-- A position's loss. -/
def gL (b : Fin 64) (p : Fin 4096) : EReal := lossAt (X m c b p) (T m c b p)
/-- Whether a position counts. -/
def gN (b : Fin 64) (p : Fin 4096) : EReal := if T m c b p ≠ 0#32 then 1 else 0

/-- The table of predicted codons after `n` points. -/
def tabH (n : ℕ) : Vec Ideal S64x66 .f32 := fun y => part (gH m c (y 1)) n (y 0)
/-- The table of target codons after `n` points. -/
def tabT (n : ℕ) : Vec Ideal S64x66 .f32 := fun y => part (gT m c (y 1)) n (y 0)
/-- The two running sums after `n` points. -/
def sums (n : ℕ) : Vec Ideal S2 .f32 := fun y => if (y 0).val = 1 then total (gN m c) n else total (gL m c) n

/-- The row a point updates. -/
theorem row_eq (t : Fin cfg0.N) : (grid0.coords t 0).val = t.val / 8 := (coords t).1

/-- A point's step of the table of predicted codons. -/
theorem stepH_tab (t : Fin cfg0.N) : stepH (grid0.coords t 0) (iblk m c 6 t) (iblk m c 8 t) (tabH m c t.val) = tabH m c (t.val + 1) := by
  funext y
  obtain ⟨b, k, rfl⟩ : ∃ (b : Fin 64) (k : Fin 66), y = ix2 b k := ⟨y 0, y 1, eq_ix2 y⟩
  refine (stepH_apply (iblk m c 6 t) (iblk m c 8 t) (grid0.coords t 0) (tabH m c t.val) b k).trans ?_
  refine Eq.trans ?_ (part_succ (gH m c k) t.val b).symm
  refine ite_congr (congrArg (b.val = ·) (row_eq t)) (fun hb => ?_) fun _ => rfl
  obtain rfl : b = seqOf t := Fin.ext hb
  refine congrArg (part (gH m c k) t.val (seqOf t) + ·) (Finset.sum_congr rfl fun l _ => ?_)
  have e6 : (fun k => iblk m c 6 t (ix3 0 l k)) = X m c (seqOf t) (posOf t l) := funext fun k => blk6 m c t l k
  rw [e6, blk8 m c t l]
  rfl

/-- A point's step of the table of target codons. -/
theorem stepT_tab (t : Fin cfg0.N) : stepT (grid0.coords t 0) (iblk m c 7 t) (iblk m c 8 t) (tabT m c t.val) = tabT m c (t.val + 1) := by
  funext y
  obtain ⟨b, k, rfl⟩ : ∃ (b : Fin 64) (k : Fin 66), y = ix2 b k := ⟨y 0, y 1, eq_ix2 y⟩
  refine (stepT_apply (iblk m c 7 t) (iblk m c 8 t) (grid0.coords t 0) (tabT m c t.val) b k).trans ?_
  refine Eq.trans ?_ (part_succ (gT m c k) t.val b).symm
  refine ite_congr (congrArg (b.val = ·) (row_eq t)) (fun hb => ?_) fun _ => rfl
  obtain rfl : b = seqOf t := Fin.ext hb
  refine congrArg (part (gT m c k) t.val (seqOf t) + ·) (Finset.sum_congr rfl fun l _ => ?_)
  rw [blk7 m c t l, blk8 m c t l]
  rfl

/-- A point's step of the two sums. -/
theorem stepM_sums (t : Fin cfg0.N) : stepM (iblk m c 6 t) (iblk m c 7 t) (sums m c t.val) = sums m c (t.val + 1) := by
  funext y
  have h6 : ∀ l, (fun k => iblk m c 6 t (ix3 0 l k)) = X m c (seqOf t) (posOf t l) := fun l => funext fun k => blk6 m c t l k
  by_cases hy : (y 0).val = 1
  · refine (if_pos hy).trans ((pay18 (iblk m c 7 t) _).trans (Eq.trans ?_ (if_pos hy).symm))
    refine Eq.trans ?_ (total_succ (gN m c) t.val (seqOf t) rfl).symm
    refine congrArg (total (gN m c) t.val + ·) (Finset.sum_congr rfl fun l _ => ?_)
    rw [blk7 m c t l]
    rfl
  · refine (if_neg hy).trans ((pay17 (iblk m c 6 t) (iblk m c 7 t) _).trans (Eq.trans ?_ (if_neg hy).symm))
    refine Eq.trans ?_ (total_succ (gL m c) t.val (seqOf t) rfl).symm
    refine congrArg (total (gL m c) t.val + ·) (Finset.sum_congr rfl fun l _ => ?_)
    rw [h6, blk7 m c t l]
    rfl

/-- The word of all zeros reads as zero. -/
theorem zero_f32 : (FloatOps.ofBits (F := Ideal) .f32 0x00000000#32 : EReal) = 0 := by simp [FloatOps.ofBits, Ideal.ofBits, Ideal.ieee]

/-- The tables before the first point hold nothing. -/
theorem tab_zero : (k0_pay8 (F := Ideal) : Vec Ideal S64x66 .f32) = tabH m c 0 ∧ (k0_pay9 (F := Ideal) : Vec Ideal S64x66 .f32) = tabT m c 0
    ∧ ((fun _ => Scalar.ofBits (F := Ideal) .f32 0x00000000#32) : Vec Ideal S2 .f32) = sums m c 0 := by
  refine ⟨?_, ?_, ?_⟩
  · funext y
    exact zero_f32.trans (part_zero _ _).symm
  · funext y
    exact zero_f32.trans (part_zero _ _).symm
  · funext y
    refine zero_f32.trans ?_
    unfold sums
    rw [total_zero, total_zero, ite_self]

/-- What the carried buffers hold after each point. -/
theorem outs_eq : ∀ (n : ℕ) (h : n < cfg0.N), (outsAt0 m c n h).2 = (tabH m c (n + 1), tabT m c (n + 1), sums m c (n + 1))
  | 0, h => by
    rw [outs_zero m c h, (tab_zero m c).1, (tab_zero m c).2.1, (tab_zero m c).2.2]
    exact congrArg₂ Prod.mk (stepH_tab m c ⟨0, h⟩) (congrArg₂ Prod.mk (stepT_tab m c ⟨0, h⟩) (stepM_sums m c ⟨0, h⟩))
  | n + 1, h => by
    have h' : n < cfg0.N := Nat.lt_of_succ_lt h
    rw [outs_succ m c n h h', outs_eq n h']
    exact congrArg₂ Prod.mk (stepH_tab m c ⟨n + 1, h⟩) (congrArg₂ Prod.mk (stepT_tab m c ⟨n + 1, h⟩) (stepM_sums m c ⟨n + 1, h⟩))

/-- The kernel's result: the loss stored from the complete tables and sums. -/
theorem kernel_out (h : 511 < cfg0.N) : Value.G9 m c = lastOut (iblk m c 0 ⟨511, h⟩) (iblk m c 1 ⟨511, h⟩) (iblk m c 2 ⟨511, h⟩)
    (iblk m c 3 ⟨511, h⟩) (iblk m c 4 ⟨511, h⟩) (iblk m c 5 ⟨511, h⟩) (tabH m c 512) (tabT m c 512) (sums m c 512) := by
  have e : ∀ n, n + 1 = 511 → ∀ h : n + 1 < cfg0.N, (outsAt0 m c (n + 1) h).1 = lastOut (iblk m c 0 ⟨n + 1, h⟩) (iblk m c 1 ⟨n + 1, h⟩)
      (iblk m c 2 ⟨n + 1, h⟩) (iblk m c 3 ⟨n + 1, h⟩) (iblk m c 4 ⟨n + 1, h⟩) (iblk m c 5 ⟨n + 1, h⟩)
      (tabH m c (n + 2)) (tabT m c (n + 2)) (sums m c (n + 2)) := by
    intro n hn h
    rw [outs_last m c n h (Nat.lt_of_succ_lt h) hn, outs_eq]
  exact (Value.G9_last m c).trans ((congrArg Prod.fst (Value.outsAt0_sweep m c 511 h)).symm.trans (e 510 rfl h))

end Cert.Accum

end

end
-- ==== Proof.Meet.lean ====
module

public import proofs.«01_k».proof.Proof.KernelFinal
public import proofs.«01_k».proof.Proof.RefFinal
public import proofs.«01_k».proof.Proof.Accum

/-! The kernel's stored loss is the reference's. -/

@[expose] public section

noncomputable section

namespace Cert.Meet

open Cert.FirstMax Cert.Tables Cert.Words Cert.Loss Cert.Accum
open Idealize.ShloMosaic Idealize.ShloMosaic.TcCoe Idealize.SL.Sem

/-- A mask entry read as a number is not negative. -/
theorem bit_nonneg (b : BitVec 1) : (0 : EReal) ≤ FloatOps.uitofp (F := Ideal) .f32 b := by
  rw [uitofp_bit]
  split_ifs
  · exact zero_le_one
  · exact le_refl _

/-- The word 1.0. -/
theorem one_bits : (FloatOps.ofBits (F := Ideal) .f32 (0x3F800000#32) : EReal) = 1 := Ideal.ofBits_one_f32

/-- The word 0.0. -/
theorem zero_bits : (FloatOps.ofBits (F := Ideal) .f32 (0#32) : EReal) = 0 := zero_f32

section Tables

variable (mask : IVec ReferenceIdeal.S64x4096 1) (d : Fin 64 → Fin 4096 → Fin 66) (u : FVec Ideal KernelIdeal.S64x66 .f32)
  (hu : ∀ b k, (u (ix2 b k) : EReal) = hist (d b) (RefFinal.maskAt mask b) k)

include hu

/-- The kernel's counts are the reference's. -/
theorem count_eq (x5 : FVec Ideal KernelIdeal.S1x66 .f32)
    (h5 : ∀ k, (x5 (ix2 0 k) : EReal) = if keep k then 1 else 0) (b : Fin 64) (k : Fin 66) :
    KernelFinal.countAt x5 u b k = RefFinal.kept mask d b k := by
  unfold KernelFinal.countAt RefFinal.kept
  rw [hu, h5]
  split_ifs
  · rw [mul_one]
  · rw [mul_zero]

/-- The kernel's group counts are the reference's. -/
theorem tot_eq (x3 : FVec Ideal KernelIdeal.S66x66 .f32) (x5 : FVec Ideal KernelIdeal.S1x66 .f32)
    (h3 : ∀ i j, (x3 (ix2 i j) : EReal) = if grp i = grp j then 1 else 0)
    (h5 : ∀ k, (x5 (ix2 0 k) : EReal) = if keep k then 1 else 0) (b : Fin 64) (k : Fin 66) :
    KernelFinal.totAt x3 x5 u b k = RefFinal.inGroup mask d b k := by
  unfold KernelFinal.totAt RefFinal.inGroup
  refine Finset.sum_congr rfl fun j _ => ?_
  rw [count_eq mask d u hu x5 h5, h3]
  split_ifs
  · rw [mul_one]
  · rw [mul_zero]

/-- The kernel's usages are the reference's. -/
theorem usage_eq (x3 : FVec Ideal KernelIdeal.S66x66 .f32) (x4 x5 : FVec Ideal KernelIdeal.S1x66 .f32) (n : Fin 66 → EReal)
    (h3 : ∀ i j, (x3 (ix2 i j) : EReal) = if grp i = grp j then 1 else 0) (h4 : ∀ k, (x4 (ix2 0 k) : EReal) = n k)
    (h5 : ∀ k, (x5 (ix2 0 k) : EReal) = if keep k then 1 else 0) (b : Fin 64) :
    KernelFinal.usageAt x3 x4 x5 u b = usage n (RefFinal.kept mask d b) (RefFinal.inGroup mask d b) := by
  have e1 : KernelFinal.countAt x5 u b = RefFinal.kept mask d b := funext fun k => count_eq mask d u hu x5 h5 b k
  have e2 : KernelFinal.totAt x3 x5 u b = RefFinal.inGroup mask d b := funext fun k => tot_eq mask d u hu x3 x5 h3 h5 b k
  have e3 : (fun k => x4 (ix2 0 k) : Fin 66 → EReal) = n := funext h4
  funext k
  unfold KernelFinal.usageAt
  rw [e1, e2, e3]

/-- The kernel's adaptation index is the reference's. -/
theorem cai_eq (x0 : FVec Ideal KernelIdeal.S64x5 .f32) (wm : FVec Ideal KernelIdeal.S5x66 .f32) (t : FVec Ideal KernelIdeal.S64x66 .f32)
    (τ : Fin 64 → Fin 4096 → Fin 66) (ht : ∀ b k, (t (ix2 b k) : EReal) = hist (τ b) (RefFinal.maskAt mask b) k)
    (sp : IVec ReferenceIdeal.S64 32) (s : Fin 64 → Fin 5) (hs : ∀ b, sp (ix1 b) = BitVec.ofNat 32 (s b).val)
    (h0 : ∀ b r, (x0 (ix2 b r) : EReal) = FloatOps.uitofp (F := Ideal) .f32 (IntOp.cmpi .eq (sp (ix1 b)) (BitVec.ofNat 32 r.val))) (b : Fin 64) :
    KernelFinal.caiAt x0 wm t u b = RefFinal.caiAt mask d wm s b := by
  unfold KernelFinal.caiAt RefFinal.caiAt
  have e1 : (∑ k : Fin 66, (t (ix2 b k) : EReal)) = ∑ p, RefFinal.maskAt mask b p := by
    rw [Finset.sum_congr rfl fun k _ => ht b k, hist_total]
  have e2 : (∑ k : Fin 66, (u (ix2 b k) : EReal) * (∑ r : Fin 5, x0 (ix2 b r) * Ideal.log (max eps (wm (ix2 r k)))))
      = ∑ p, Ideal.log (max eps (wm (ix2 (s b) (d b p)))) * RefFinal.maskAt mask b p := by
    refine Eq.trans (Finset.sum_congr rfl fun k _ => ?_)
      (hist_weight (d b) (RefFinal.maskAt mask b) (fun p => bit_nonneg _) (fun k => Ideal.log (max eps (wm (ix2 (s b) k)))))
    refine congrArg₂ (fun y z : EReal => y * z) (hu b k) (Eq.trans (Finset.sum_congr rfl fun r _ => ?_)
      (species_pick (sp (ix1 b)) (s b) (hs b) (fun r => Ideal.log (max eps (wm (ix2 r k))))))
    exact congrArg (fun z : EReal => z * Ideal.log (max eps (wm (ix2 r k)))) (h0 b r)
  rw [e1]
  exact congrArg (fun z : EReal => Ideal.exp (Ideal.div z (max 1 (∑ p, RefFinal.maskAt mask b p)))) e2

end Tables

/-- From finished tables and sums, the kernel's stored loss is the reference's. -/
theorem meet (x : FVec Ideal ReferenceIdeal.S64x4096x66 .f32) (tgt : IVec ReferenceIdeal.S64x4096 32) (sp : IVec ReferenceIdeal.S64 32)
    (mask : IVec ReferenceIdeal.S64x4096 1) (wm rd : FVec Ideal ReferenceIdeal.S5x66 .f32) (x0 : FVec Ideal KernelIdeal.S64x5 .f32)
    (x3 : FVec Ideal KernelIdeal.S66x66 .f32) (x4 x5 : FVec Ideal KernelIdeal.S1x66 .f32) (h t : FVec Ideal KernelIdeal.S64x66 .f32)
    (z : FVec Ideal KernelIdeal.S2 .f32) (τ : Fin 64 → Fin 4096 → Fin 66) (s : Fin 64 → Fin 5)
    (hx : ∀ b p k, x (ix3 b p k) ≠ ⊥ ∧ x (ix3 b p k) ≠ ⊤)
    (hτ : ∀ b p, tgt (ix2 b p) = BitVec.ofNat 32 (τ b p).val) (hs : ∀ b, sp (ix1 b) = BitVec.ofNat 32 (s b).val)
    (h0 : ∀ b r, (x0 (ix2 b r) : EReal) = FloatOps.uitofp (F := Ideal) .f32 (IntOp.cmpi .eq (sp (ix1 b)) (BitVec.ofNat 32 r.val)))
    (h3 : ∀ i j, (x3 (ix2 i j) : EReal) = if grp i = grp j then 1 else 0)
    (h4 : ∀ k, (x4 (ix2 0 k) : EReal) = RefRun.nsynTab (F := Ideal) (ix1 k))
    (h5 : ∀ k, (x5 (ix2 0 k) : EReal) = if keep k then 1 else 0)
    (hh : ∀ b k, (h (ix2 b k) : EReal) = hist (fun p => firstMax fun k => x (ix3 b p k)) (RefFinal.maskAt mask b) k)
    (ht : ∀ b k, (t (ix2 b k) : EReal) = hist (τ b) (RefFinal.maskAt mask b) k)
    (z0 : (z (ix1 0) : EReal) = ∑ b, ∑ p, KernelPay.lossAt (fun k => x (ix3 b p k)) (tgt (ix2 b p)))
    (z1 : (z (ix1 1) : EReal) = ∑ b : Fin 64, ∑ p : Fin 4096, if tgt (ix2 b p) ≠ 0#32 then 1 else 0) :
    (KernelStep.lastOut (F := Ideal) x0 wm rd x3 x4 x5 h t z (ix2 0 0) : EReal) = RefRun.refOut (F := Ideal) x tgt sp mask wm rd (ix2 0 0) := by
  refine (KernelFinal.last_eq x0 wm rd x3 x4 x5 h t z).trans
    (Eq.trans ?_ (RefFinal.ref_eq mask x tgt sp wm rd τ s (fun b p k => (hx b p k).1) hτ hs).symm)
  have a0 : (z (ix1 0) : EReal) = ∑ b, ∑ p, if tgt (ix2 b p) ≠ 0#32 then RefFinal.nllAt (fun k => x (ix3 b p k)) (τ b p) else 0 :=
    z0.trans (Finset.sum_congr rfl fun b _ => Finset.sum_congr rfl fun p _ =>
      loss_eq (fun k => x (ix3 b p k)) (hx b p) (tgt (ix2 b p)) (τ b p) (hτ b p))
  have a1 : KernelFinal.caiAt x0 wm t h = RefFinal.caiAt mask (fun b p => firstMax fun k => x (ix3 b p k)) wm s :=
    funext fun b => cai_eq mask _ h hh x0 wm t τ ht sp s hs h0 b
  have a2 : KernelFinal.caiAt x0 wm t t = RefFinal.caiAt mask τ wm s :=
    funext fun b => cai_eq mask τ t ht x0 wm t τ ht sp s hs h0 b
  have a3 : ∀ b : Fin 64, klRow (KernelFinal.usageAt x3 x4 x5 h b) (KernelFinal.usageAt x3 x4 x5 t b) (fun k => ∑ r : Fin 5, x0 (ix2 b r) * rd (ix2 r k))
      = klRow (usage (fun k => RefRun.nsynTab (F := Ideal) (ix1 k)) (RefFinal.kept mask (fun b p => firstMax fun k => x (ix3 b p k)) b)
              (RefFinal.inGroup mask (fun b p => firstMax fun k => x (ix3 b p k)) b))
            (usage (fun k => RefRun.nsynTab (F := Ideal) (ix1 k)) (RefFinal.kept mask τ b) (RefFinal.inGroup mask τ b)) (fun k => rd (ix2 (s b) k)) := by
    intro b
    rw [usage_eq mask _ h hh x3 x4 x5 _ h3 h4 h5 b, usage_eq mask τ t ht x3 x4 x5 _ h3 h4 h5 b]
    refine congrArg (klRow (usage (fun k => RefRun.nsynTab (F := Ideal) (ix1 k)) (RefFinal.kept mask (fun b p => firstMax fun k => x (ix3 b p k)) b)
              (RefFinal.inGroup mask (fun b p => firstMax fun k => x (ix3 b p k)) b))
            (usage (fun k => RefRun.nsynTab (F := Ideal) (ix1 k)) (RefFinal.kept mask τ b) (RefFinal.inGroup mask τ b))) (funext fun k => ?_)
    refine Eq.trans (Finset.sum_congr rfl fun r _ => ?_) (species_pick (sp (ix1 b)) (s b) (hs b) (fun r => rd (ix2 r k)))
    exact congrArg (fun y : EReal => y * rd (ix2 r k)) (h0 b r)
  rw [a0, z1, a1, a2]
  exact congrArg (lossOf (∑ b, ∑ p, if tgt (ix2 b p) ≠ 0#32 then RefFinal.nllAt (fun k => x (ix3 b p k)) (τ b p) else 0)
    (∑ b : Fin 64, ∑ p : Fin 4096, if tgt (ix2 b p) ≠ 0#32 then 1 else 0)
    (RefFinal.caiAt mask (fun b p => firstMax fun k => x (ix3 b p k)) wm s) (RefFinal.caiAt mask τ wm s)) (funext a3)

end Cert.Meet

end

end
-- ==== Proof.Drawn.lean ====
module

public import proofs.«01_k».proof.Defs
public import Idealize.ShloMosaic.Lib.Tactic
public import Idealize.ShloMosaic.Lib.Pointwise

/-! What the precondition says of the arguments: finite logits, target codons below 66, species below 5. -/

@[expose] public section

noncomputable section

namespace Cert.Drawn

open Cert.Pre_drawn Idealize.ShloMosaic Idealize.SL.Sem

/-- The side conditions of the precondition's operations. -/
theorem facts : Cert.Pre_drawn.Facts where
  bcast_S_S64x4096x66 := by decide
  bcast_S_S64x4096 := by decide
  bcast_S_S64 := by decide

/-- A word compared at least zero and below a small bound is a small number. -/
theorem small_word (n : ℕ) (hn : n < 100) (w : BitVec 32)
    (h : IntOp.andi (IntOp.cmpi .sge w 0#32) (IntOp.cmpi .slt w (BitVec.ofNat 32 n)) = 1#1) : ∃ k : Fin n, w = BitVec.ofNat 32 k.val := by
  have hb : ∀ p q : Bool, BitVec.ofBool p &&& BitVec.ofBool q = 1#1 → p = true ∧ q = true := by decide
  have e := hb ((0#32).sle w) (w.slt (BitVec.ofNat 32 n)) h
  have h1 : (0 : ℤ) ≤ w.toInt := by simpa [BitVec.sle] using e.1
  have h2 : w.toInt < (BitVec.ofNat 32 n).toInt := by simpa [BitVec.slt] using e.2
  have h3 : (BitVec.ofNat 32 n).toInt = (n : ℤ) := by
    rw [BitVec.toInt_eq_toNat_of_lt] <;> simp only [BitVec.toNat_ofNat] <;> omega
  have h4 : w.toInt = (w.toNat : ℤ) := by
    have := w.isLt
    rw [BitVec.toInt_eq_toNat_cond] at h1 ⊢
    split_ifs at h1 ⊢ <;> omega
  refine ⟨⟨w.toNat, by omega⟩, ?_⟩
  exact (BitVec.ofNat_toNat 32 w).symm ▸ by simp

/-- The word of infinity. -/
theorem inf_bits : Ideal.ofBits .f32 0x7F800000#32 = ⊤ := by simp [Ideal.ofBits, Ideal.ieee]

/-- A number whose magnitude is below infinity is finite. -/
theorem finite_of_lt (v : EReal) (h : max v (-v) < ⊤) : v ≠ ⊥ ∧ v ≠ ⊤ := by
  constructor
  · rintro rfl
    simp at h
  · rintro rfl
    simp at h

variable [Cert.Pre_drawn.Facts] (x : FVec Ideal S64x4096x66 .f32) (tgt bg : IVec S64x4096 32) (sp : IVec S64 32) (mask : IVec S64x4096 1)
  (wm rd : FVec Ideal S5x66 .f32)

/-- Finite logits. -/
theorem logits (h : (fn (F := Ideal) x tgt bg sp mask wm rd).1 = fun _ => 1#1) (b : Fin 64) (p : Fin 4096) (k : Fin 66) :
    x (ix3 b p k) ≠ ⊥ ∧ x (ix3 b p k) ≠ ⊤ := by
  have e := congrFun h (ix3 b p k)
  revert e
  pointwise [fn]
  intro e
  rw [inf_bits] at e
  by_cases hl : (max (x (ix3 b p k) : EReal) (-(x (ix3 b p k) : EReal))) < ⊤
  · exact finite_of_lt _ hl
  · exact absurd e (by
      rw [show decide ((FloatOps.absf (F := Ideal) (φ := .f32) (x (ix3 b p k)) : EReal) < ⊤) = false from decide_eq_false hl]
      decide)

/-- Target codons. -/
theorem targets (h : (fn (F := Ideal) x tgt bg sp mask wm rd).2.1 = fun _ => 1#1) (b : Fin 64) (p : Fin 4096) :
    ∃ k : Fin 66, tgt (ix2 b p) = BitVec.ofNat 32 k.val := small_word 66 (by decide) _ (congrFun h (ix2 b p))

/-- Species. -/
theorem species (h : (fn (F := Ideal) x tgt bg sp mask wm rd).2.2 = fun _ => 1#1) (b : Fin 64) :
    ∃ k : Fin 5, sp (ix1 b) = BitVec.ofNat 32 k.val := small_word 5 (by decide) _ (congrFun h (ix1 b))

end Cert.Drawn

end

end
-- ==== Proof.Final.lean ====
module

public import proofs.«01_k».proof.Proof.Meet
public import proofs.«01_k».proof.Proof.Drawn

/-! Under the precondition, the array the kernel returns is the one the reference returns. -/

@[expose] public section

noncomputable section

namespace Cert.Final

open Cert.KernelIdeal Cert.KernelIdeal.Gen Cert.KernelBlocks Cert.Accum Cert.Meet Cert.Sweep Cert.FirstMax Cert.Tables Cert.Words Cert.Loss
open Idealize.ShloMosaic Idealize.ShloMosaic.TcCoe Idealize.SL.Sem

variable (m : (ℓ : Loc nD τ sig) → Buf (Elt Ideal) ℓ) (c : Dev nD)

/-- A table word that is 1.0 or 0.0 by a condition. -/
theorem flag_bits (p : Prop) [Decidable p] : (FloatOps.ofBits (F := Ideal) .f32 (if p then 0x3F800000#32 else 0#32) : EReal) = if p then 1 else 0 := by
  split_ifs
  · exact one_bits
  · exact zero_bits

/-- The table of predicted codons, complete. -/
theorem tabH_eq (b : Fin 64) (k : Fin 66) : (tabH m c 512 (ix2 b k) : EReal)
    = hist (fun p => firstMax (X m c b p)) (M m c b) k := part_all (gH m c k) b

/-- The table of target codons, complete. -/
theorem tabT_eq (τ : Fin 64 → Fin 4096 → Fin 66) (hτ : ∀ b p, T m c b p = BitVec.ofNat 32 (τ b p).val) (b : Fin 64) (k : Fin 66) :
    (tabT m c 512 (ix2 b k) : EReal) = hist (τ b) (M m c b) k := by
  refine (part_all (gT m c k) b).trans (Finset.sum_congr rfl fun p _ => ?_)
  unfold gT
  rw [hτ]
  refine if_congr ?_ rfl rfl
  rw [ofNat_inj (by omega) (by omega)]
  exact ⟨fun e => Fin.ext e, fun e => congrArg Fin.val e⟩

/-- The sum of losses, complete. -/
theorem sums_zero : (sums m c 512 (ix1 0) : EReal) = ∑ b, ∑ p, KernelPay.lossAt (X m c b p) (T m c b p) := total_all (gL m c)

/-- The number of positions that count, complete. -/
theorem sums_one : (sums m c 512 (ix1 1) : EReal) = ∑ b : Fin 64, ∑ p : Fin 4096, if T m c b p ≠ 0#32 then 1 else 0 := total_all (gN m c)

/-- The kernel's result is the reference's function of the same arguments. -/
theorem value (τ' : Fin 64 → Fin 4096 → Fin 66) (s : Fin 64 → Fin 5)
    (hx : ∀ b p k, X m c b p k ≠ ⊥ ∧ X m c b p k ≠ ⊤) (hτ : ∀ b p, T m c b p = BitVec.ofNat 32 (τ' b p).val)
    (hs : ∀ b, m ((c : Thread nD τ).loc main_arg3) (ix1 b) = BitVec.ofNat 32 (s b).val) :
    Value.G9 m c = RefRun.refOut (F := Ideal) (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) := by
  have h : 511 < cfg0.N := lt_of_lt_of_eq (by decide) N_0.symm
  refine (kernel_out m c h).trans ?_
  rw [blk1, blk2]
  funext i
  have hi : i = ix2 0 0 := by
    rw [eq_ix2 i]
    exact congrArg₂ ix2 (Subsingleton.elim _ _) (Subsingleton.elim _ _)
  rw [hi]
  refine meet (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (iblk m c 0 ⟨511, h⟩) (iblk m c 3 ⟨511, h⟩) (iblk m c 4 ⟨511, h⟩) (iblk m c 5 ⟨511, h⟩)
      (tabH m c 512) (tabT m c 512) (sums m c 512) τ' s hx hτ hs (blk0 m c ⟨511, h⟩) ?_ ?_ ?_ (tabH_eq m c) (tabT_eq m c τ' hτ) (sums_zero m c) (sums_one m c)
  · intro i j
    rw [blk3]
    exact (congrArg (FloatOps.ofBits (F := Ideal) .f32) (same_word i j)).trans (flag_bits _)
  · intro k
    rw [blk4]
    exact congrArg (FloatOps.ofBits (F := Ideal) .f32) (nsyn_word k)
  · intro k
    rw [blk5]
    exact (congrArg (FloatOps.ofBits (F := Ideal) .f32) (keep_word k)).trans (flag_bits _)

/-- The same from the precondition. -/
theorem value_drawn [Cert.Pre_drawn.Facts] (h : Pre_KernelIdeal_drawn m) :
    Value.G9 m c = RefRun.refOut (F := Ideal) (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) := by
  obtain ⟨h1, h2, h3⟩ := h c
  choose τ' hτ using Drawn.targets _ _ _ _ _ _ _ h2
  choose s hs using Drawn.species _ _ _ _ _ _ _ h3
  exact value m c τ' s (Drawn.logits _ _ _ _ _ _ _ h1) hτ hs

end Cert.Final

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.Final

@[expose] public section

noncomputable section

namespace Cert.Proof

open Idealize.ShloMosaic Idealize.SL.Sem

/-- The reference runs, leaves its arguments unchanged, and ends with every counter at zero: it declares none. -/
theorem frame_ref (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6))
      ∧ r.2.sem = fun _ => 0) :=
  (θ_run ReferenceIdeal.defs _ _).mono (fun r h => ⟨fun c => (h c).2, sem_eq_zero_of_no_sems (by decide) r.2⟩) (RefRun.run (F := Ideal) m g)

/-- From agreeing arguments that satisfy the precondition, the kernel and the reference return the same array. -/
theorem algebraic : Cert.algebraic_KernelIdeal_ReferenceIdeal_pre_drawn (hKernelIdeal := Cert.KernelIdeal.Gen.facts)
    (hReferenceIdeal := Cert.ReferenceIdeal.Gen.facts) (hPre_drawn := Cert.Drawn.facts) := by
  intro m g m' g' hpre hagree
  refine ⟨fun c => KernelIdeal.Value.G9 m c, KernelIdeal.Value.run m g, ?_⟩
  refine (θ_run ReferenceIdeal.defs _ _).mono (fun r h c => ⟨(h c).1.trans ?_, (h c).2⟩) (RefRun.run (F := Ideal) m' g')
  obtain ⟨e0, e1, _, e3, e4, e5, e6⟩ := hagree c
  rw [e0, e1, e3, e4, e5, e6]
  exact (@Final.value_drawn m c Cert.Drawn.facts hpre).symm

/-- Everything claimed. -/
theorem claim : Cert.Claim := ⟨Cert.Kernel.Gen.facts, Cert.KernelIdeal.Gen.facts, Cert.ReferenceIdeal.Gen.facts, Cert.Drawn.facts,
  fun m g _ => Cert.Kernel.Gen.frame m g,
  fun m g _ => Cert.KernelIdeal.Gen.frame m g,
  fun m g _ => Cert.KernelIdeal.Gen.frame m g,
  fun m g _ => frame_ref m g,
  fun m g _ => frame_ref m g,
  trivial,
  algebraic⟩

end Cert.Proof

end
